-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_queries_keys.lean ====
abbrev S16x2176x8x192 : Shape := ⟨4, ![16, 2176, 8, 192]⟩
abbrev S16x2176x8x128 : Shape := ⟨4, ![16, 2176, 8, 128]⟩
abbrev S_ : Shape := ⟨0, ![]⟩

class Facts : Prop where
  bcast_S_S16x2176x8x192 : S_.BroadcastsInDim S16x2176x8x192 (![] : Fin 0 → Fin S16x2176x8x192.rank)
  reducesTo_S16x2176x8x192_S_d0_1_2_3 : S16x2176x8x192.ReducesTo [0, 1, 2, 3] S_
  h_S_ : 0 < S_.numel

variable [Facts]

def fn {F : FTy → Type} [FloatOps F] (main_arg0 : FVec F S16x2176x8x192 .f32) (main_arg1 : FVec F S16x2176x8x192 .f32) (main_arg2 : FVec F S16x2176x8x128 .f32) : IVec S_ 1 :=
  let main_v0 : FVec F S16x2176x8x192 .f32 := Host.absf main_arg0
  let main_cst : FVec F S_ .f32 := constant S_ .f32 0x7F800000#32
  let main_v1 : FVec F S16x2176x8x192 .f32 := broadcastInDim S16x2176x8x192 ![] bcast_S_S16x2176x8x192 main_cst
  let main_v2 : IVec S16x2176x8x192 1 := cmpf .olt main_v0 main_v1
  let main_c : IVec S_ 1 := constantI S_ 1 1#1
  let main_v3 : IVec S_ 1 := (fun x v => Host.reduce IntOp.andi x v reducesTo_S16x2176x8x192_S_d0_1_2_3 h_S_) main_v2 main_c
  let main_v4 : FVec F S16x2176x8x192 .f32 := Host.absf main_arg1
  let main_cst_0 : FVec F S_ .f32 := constant S_ .f32 0x7F800000#32
  let main_v5 : FVec F S16x2176x8x192 .f32 := broadcastInDim S16x2176x8x192 ![] bcast_S_S16x2176x8x192 main_cst_0
  let main_v6 : IVec S16x2176x8x192 1 := cmpf .olt main_v4 main_v5
  let main_c_1 : IVec S_ 1 := constantI S_ 1 1#1
  let main_v7 : IVec S_ 1 := (fun x v => Host.reduce IntOp.andi x v reducesTo_S16x2176x8x192_S_d0_1_2_3 h_S_) main_v6 main_c_1
  let main_v8 : IVec S_ 1 := andi main_v3 main_v7
  main_v8
-- ==== Kernel.lean ====
abbrev S16x2176x8x192 : Shape := ⟨4, ![16, 2176, 8, 192]⟩
abbrev S16x2176x8x128 : Shape := ⟨4, ![16, 2176, 8, 128]⟩
abbrev S_ : Shape := ⟨0, ![]⟩
abbrev S16x2176x8x256 : Shape := ⟨4, ![16, 2176, 8, 256]⟩
abbrev S16x2176x2048 : Shape := ⟨3, ![16, 2176, 2048]⟩
abbrev S16x2048x2048 : Shape := ⟨3, ![16, 2048, 2048]⟩
abbrev S16x16x2048 : Shape := ⟨3, ![16, 16, 2048]⟩
abbrev S16x240x2048 : Shape := ⟨3, ![16, 240, 2048]⟩
abbrev S16x2304x2048 : Shape := ⟨3, ![16, 2304, 2048]⟩
abbrev S36864x2048 : Shape := ⟨2, ![36864, 2048]⟩
abbrev S16x2176x1024 : Shape := ⟨3, ![16, 2176, 1024]⟩
abbrev S16x2048x1024 : Shape := ⟨3, ![16, 2048, 1024]⟩
abbrev S16x16x1024 : Shape := ⟨3, ![16, 16, 1024]⟩
abbrev S16x240x1024 : Shape := ⟨3, ![16, 240, 1024]⟩
abbrev S16x2304x1024 : Shape := ⟨3, ![16, 2304, 1024]⟩
abbrev S36864x1024 : Shape := ⟨2, ![36864, 1024]⟩
abbrev S144x256x1024 : Shape := ⟨3, ![144, 256, 1024]⟩
abbrev S144x1024x256 : Shape := ⟨3, ![144, 1024, 256]⟩
abbrev S256x256 : Shape := ⟨2, ![256, 256]⟩
abbrev S1x256x256 : Shape := ⟨3, ![1, 256, 256]⟩
abbrev S4x256x256 : Shape := ⟨3, ![4, 256, 256]⟩
abbrev S32768x1024 : Shape := ⟨2, ![32768, 1024]⟩
abbrev S256x2048 : Shape := ⟨2, ![256, 2048]⟩
abbrev S2304x2048 : Shape := ⟨2, ![2304, 2048]⟩
abbrev S9x1024x256 : Shape := ⟨3, ![9, 1024, 256]⟩
abbrev S256x1024 : Shape := ⟨2, ![256, 1024]⟩
abbrev S8x128x256 : Shape := ⟨3, ![8, 128, 256]⟩
abbrev S2x8x256x256 : Shape := ⟨4, ![2, 8, 256, 256]⟩
abbrev S1x1x256x256 : Shape := ⟨4, ![1, 1, 256, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 69
  | .vmem => 11
  | .smem => 0
  | _ => 0

abbrev bufTy : (tb : Table) → Fin (tcTables nBuf tb) → BufTy
  | .hbm, ⟨0, _⟩ => ⟨S16x2176x8x192, .f32⟩
  | .hbm, ⟨1, _⟩ => ⟨S16x2176x8x192, .f32⟩
  | .hbm, ⟨2, _⟩ => ⟨S16x2176x8x128, .f32⟩
  | .hbm, ⟨3, _⟩ => ⟨S_, .f32⟩
  | .hbm, ⟨4, _⟩ => ⟨S_, .f32⟩
  | .hbm, ⟨5, _⟩ => ⟨S16x2176x8x192, .f32⟩
  | .hbm, ⟨6, _⟩ => ⟨S16x2176x8x192, .f32⟩
  | .hbm, ⟨7, _⟩ => ⟨S_, .f32⟩
  | .hbm, ⟨8, _⟩ => ⟨S_, .f32⟩
  | .hbm, ⟨9, _⟩ => ⟨S16x2176x8x192, .f32⟩
  | .hbm, ⟨10, _⟩ => ⟨S16x2176x8x192, .f32⟩
  | .hbm, ⟨11, _⟩ => ⟨S_, .i32⟩
  | .hbm, ⟨12, _⟩ => ⟨S_, .f32⟩
  | .hbm, ⟨13, _⟩ => ⟨S16x2176x8x256, .f32⟩
  | .hbm, ⟨14, _⟩ => ⟨S16x2176x2048, .f32⟩
  | .hbm, ⟨15, _⟩ => ⟨S16x2048x2048, .f32⟩
  | .hbm, ⟨16, _⟩ => ⟨S16x16x2048, .f32⟩
  | .hbm, ⟨17, _⟩ => ⟨S_, .f32⟩
  | .hbm, ⟨18, _⟩ => ⟨S16x240x2048, .f32⟩
  | .hbm, ⟨19, _⟩ => ⟨S16x2304x2048, .f32⟩
  | .hbm, ⟨20, _⟩ => ⟨S36864x2048, .f32⟩
  | .hbm, ⟨21, _⟩ => ⟨S36864x2048, .bf16⟩
  | .hbm, ⟨22, _⟩ => ⟨S_, .i32⟩
  | .hbm, ⟨23, _⟩ => ⟨S_, .f32⟩
  | .hbm, ⟨24, _⟩ => ⟨S16x2176x8x256, .f32⟩
  | .hbm, ⟨25, _⟩ => ⟨S16x2176x2048, .f32⟩
  | .hbm, ⟨26, _⟩ => ⟨S16x2048x2048, .f32⟩
  | .hbm, ⟨27, _⟩ => ⟨S16x16x2048, .f32⟩
  | .hbm, ⟨28, _⟩ => ⟨S_, .f32⟩
  | .hbm, ⟨29, _⟩ => ⟨S16x240x2048, .f32⟩
  | .hbm, ⟨30, _⟩ => ⟨S16x2304x2048, .f32⟩
  | .hbm, ⟨31, _⟩ => ⟨S36864x2048, .f32⟩
  | .hbm, ⟨32, _⟩ => ⟨S36864x2048, .bf16⟩
  | .hbm, ⟨33, _⟩ => ⟨S16x2176x1024, .f32⟩
  | .hbm, ⟨34, _⟩ => ⟨S16x2048x1024, .f32⟩
  | .hbm, ⟨35, _⟩ => ⟨S16x16x1024, .f32⟩
  | .hbm, ⟨36, _⟩ => ⟨S_, .f32⟩
  | .hbm, ⟨37, _⟩ => ⟨S16x240x1024, .f32⟩
  | .hbm, ⟨38, _⟩ => ⟨S16x2304x1024, .f32⟩
  | .hbm, ⟨39, _⟩ => ⟨S36864x1024, .f32⟩
  | .hbm, ⟨40, _⟩ => ⟨S144x256x1024, .f32⟩
  | .hbm, ⟨41, _⟩ => ⟨S144x1024x256, .f32⟩
  | .hbm, ⟨42, _⟩ => ⟨S144x1024x256, .bf16⟩
  | .hbm, ⟨43, _⟩ => ⟨S256x256, .i32⟩
  | .hbm, ⟨44, _⟩ => ⟨S256x256, .i32⟩
  | .hbm, ⟨45, _⟩ => ⟨S_, .i32⟩
  | .hbm, ⟨46, _⟩ => ⟨S256x256, .i32⟩
  | .hbm, ⟨47, _⟩ => ⟨S256x256, .i1⟩
  | .hbm, ⟨48, _⟩ => ⟨S_, .i1⟩
  | .hbm, ⟨49, _⟩ => ⟨S256x256, .i1⟩
  | .hbm, ⟨50, _⟩ => ⟨S256x256, .i1⟩
  | .hbm, ⟨51, _⟩ => ⟨S256x256, .i1⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S256x256, .i1⟩
  | .hbm, ⟨57, _⟩ => ⟨S1x256x256, .i1⟩
  | .hbm, ⟨58, _⟩ => ⟨S1x256x256, .i1⟩
  | .hbm, ⟨59, _⟩ => ⟨S1x256x256, .i1⟩
  | .hbm, ⟨60, _⟩ => ⟨S1x256x256, .i1⟩
  | .hbm, ⟨61, _⟩ => ⟨S4x256x256, .i1⟩
  | .hbm, ⟨62, _⟩ => ⟨S_, .f32⟩
  | .hbm, ⟨63, _⟩ => ⟨S_, .f32⟩
  | .hbm, ⟨64, _⟩ => ⟨S4x256x256, .f32⟩
  | .hbm, ⟨65, _⟩ => ⟨S4x256x256, .f32⟩
  | .hbm, ⟨66, _⟩ => ⟨S4x256x256, .f32⟩
  | .hbm, ⟨67, _⟩ => ⟨S4x256x256, .f32⟩
  | .hbm, ⟨68, _⟩ => ⟨S32768x1024, .bf16⟩
  | .local _ .vmem, ⟨0, _⟩ => ⟨S256x2048, .bf16⟩
  | .local _ .vmem, ⟨1, _⟩ => ⟨S256x2048, .bf16⟩
  | .local _ .vmem, ⟨2, _⟩ => ⟨S2304x2048, .bf16⟩
  | .local _ .vmem, ⟨3, _⟩ => ⟨S2304x2048, .bf16⟩
  | .local _ .vmem, ⟨4, _⟩ => ⟨S9x1024x256, .bf16⟩
  | .local _ .vmem, ⟨5, _⟩ => ⟨S9x1024x256, .bf16⟩
  | .local _ .vmem, ⟨6, _⟩ => ⟨S4x256x256, .f32⟩
  | .local _ .vmem, ⟨7, _⟩ => ⟨S256x1024, .bf16⟩
  | .local _ .vmem, ⟨8, _⟩ => ⟨S256x1024, .bf16⟩
  | .local _ .vmem, ⟨9, _⟩ => ⟨S8x128x256, .f32⟩
  | .local _ .vmem, ⟨10, _⟩ => ⟨S2x8x256x256, .f32⟩
  | _, _ => ⟨S16x2176x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_mult1 : BitVec 32 :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  v13
def k0_off1 (i : grid0.Coords) : Fin 3 → Nat :=
  let arg1 : BitVec 32 := BitVec.ofNat 32 (i 1).val
  let c8_i32 : BitVec 32 := 8#32
  let v0 : BitVec 1 := Scalar.cmpi .eq arg1 c8_i32
  let c3_i32 : BitVec 32 := 3#32
  let true_7 : BitVec 1 := 1#1
  let c0_i32 : BitVec 32 := 0#32
  let c_m1_i32_4 : BitVec 32 := 4294967295#32
  let v9 : BitVec 1 := Scalar.cmpi .eq arg1 c_m1_i32_4
  let c2_i32_5 : BitVec 32 := 2#32
  let c1_i32_6 : BitVec 32 := 1#32
  let v10 : BitVec 32 := Scalar.select v9 c2_i32_5 c1_i32_6
  let v11 : BitVec 32 := Scalar.select true_7 c0_i32 v10
  let v12 : BitVec 32 := Scalar.select v0 c3_i32 v11
  let v15 : Index := Scalar.indexCast v12
  let c0_8 : Index := 0#32
  let c0_9 : Index := 0#32
  ![v15.toNat, 0, 0]
def k0_off2 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v18 : Index := Scalar.indexCast v14
  let c0_10 : Index := 0#32
  ![v18.toNat, 0]
def k0_off3 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v28 : Index := Scalar.indexCast v14
  let c256 : Index := 256#32
  ![v28.toNat, 256]
def k0_off4 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v38 : Index := Scalar.indexCast v14
  let c512 : Index := 512#32
  ![v38.toNat, 512]
def k0_off5 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v48 : Index := Scalar.indexCast v14
  let c768 : Index := 768#32
  ![v48.toNat, 768]
def k0_off6 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v58 : Index := Scalar.indexCast v14
  let c1024 : Index := 1024#32
  ![v58.toNat, 1024]
def k0_off7 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v68 : Index := Scalar.indexCast v14
  let c1280 : Index := 1280#32
  ![v68.toNat, 1280]
def k0_off8 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v78 : Index := Scalar.indexCast v14
  let c1536 : Index := 1536#32
  ![v78.toNat, 1536]
def k0_off9 : Fin 2 → Nat :=
  let v_true : BitVec 1 := 1#1
  let c8_i32_3 : BitVec 32 := 8#32
  let c_m1_i32 : BitVec 32 := 4294967295#32
  let v8 : BitVec 32 := Scalar.select v_true c8_i32_3 c_m1_i32
  let c256_i32 : BitVec 32 := 256#32
  let v13 : BitVec 32 := Scalar.muli v8 c256_i32
  let v14 : BitVec 32 := v13
  let v88 : Index := Scalar.indexCast v14
  let c1792 : Index := 1792#32
  ![v88.toNat, 1792]
@[reducible] def k0_t1_loop (i : grid0.Coords) : Scf.Loop 32 :=
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_79 : BitVec 32 := 1#32
  ⟨c0_i32_77, v119, c1_i32_79⟩
def k0_mult2 (i : grid0.Coords) (k0_t1 : Fin (k0_t1_loop i).trips) : BitVec 32 :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  v194
def k0_off10 (i : grid0.Coords) (k0_t1 : Fin (k0_t1_loop i).trips) : Fin 3 → Nat :=
  let arg1 : BitVec 32 := BitVec.ofNat 32 (i 1).val
  let c8_i32 : BitVec 32 := 8#32
  let v0 : BitVec 1 := Scalar.cmpi .eq arg1 c8_i32
  let c3_i32_130 : BitVec 32 := 3#32
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_125 : BitVec 32 := 0#32
  let v188 : BitVec 1 := Scalar.cmpi .eq v184 c0_i32_125
  let c0_i32_129 : BitVec 32 := 0#32
  let c1_i32_126 : BitVec 32 := 1#32
  let v189 : BitVec 32 := Scalar.subi v184 c1_i32_126
  let v190 : BitVec 1 := Scalar.cmpi .eq v189 arg1
  let c2_i32_127 : BitVec 32 := 2#32
  let c1_i32_128 : BitVec 32 := 1#32
  let v191 : BitVec 32 := Scalar.select v190 c2_i32_127 c1_i32_128
  let v192 : BitVec 32 := Scalar.select v188 c0_i32_129 v191
  let v193 : BitVec 32 := Scalar.select v0 c3_i32_130 v192
  let v196 : Index := Scalar.indexCast v193
  let c0_132 : Index := 0#32
  let c0_133 : Index := 0#32
  ![v196.toNat, 0, 0]
def k0_off11 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v199 : Index := Scalar.indexCast v195
  let c0_134 : Index := 0#32
  ![v199.toNat, 0]
def k0_off12 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v209 : Index := Scalar.indexCast v195
  let c256_142 : Index := 256#32
  ![v209.toNat, 256]
def k0_off13 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v219 : Index := Scalar.indexCast v195
  let c512_150 : Index := 512#32
  ![v219.toNat, 512]
def k0_off14 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v229 : Index := Scalar.indexCast v195
  let c768_158 : Index := 768#32
  ![v229.toNat, 768]
def k0_off15 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v239 : Index := Scalar.indexCast v195
  let c1024_166 : Index := 1024#32
  ![v239.toNat, 1024]
def k0_off16 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v249 : Index := Scalar.indexCast v195
  let c1280_174 : Index := 1280#32
  ![v249.toNat, 1280]
def k0_off17 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v259 : Index := Scalar.indexCast v195
  let c1536_182 : Index := 1536#32
  ![v259.toNat, 1536]
def k0_off18 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v269 : Index := Scalar.indexCast v195
  let c1792_190 : Index := 1792#32
  ![v269.toNat, 1792]
def k0_off19 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v302 : Index := Scalar.indexCast v281
  let c0_213 : Index := 0#32
  let c0_214 : Index := 0#32
  ![v302.toNat, 0, 0]
def k0_off20 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v329 : Index := Scalar.indexCast v281
  let c128_228 : Index := 128#32
  let c0_229 : Index := 0#32
  ![v329.toNat, 128, 0]
def k0_off21 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v356 : Index := Scalar.indexCast v281
  let c256_243 : Index := 256#32
  let c0_244 : Index := 0#32
  ![v356.toNat, 256, 0]
def k0_off22 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v383 : Index := Scalar.indexCast v281
  let c384_258 : Index := 384#32
  let c0_259 : Index := 0#32
  ![v383.toNat, 384, 0]
def k0_off23 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v410 : Index := Scalar.indexCast v281
  let c512_273 : Index := 512#32
  let c0_274 : Index := 0#32
  ![v410.toNat, 512, 0]
def k0_off24 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v437 : Index := Scalar.indexCast v281
  let c640_288 : Index := 640#32
  let c0_289 : Index := 0#32
  ![v437.toNat, 640, 0]
def k0_off25 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v464 : Index := Scalar.indexCast v281
  let c768_303 : Index := 768#32
  let c0_304 : Index := 0#32
  ![v464.toNat, 768, 0]
def k0_off26 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v491 : Index := Scalar.indexCast v281
  let c896_318 : Index := 896#32
  let c0_319 : Index := 0#32
  ![v491.toNat, 896, 0]
def k0_mult3 (i : grid0.Coords) (k0_t1 : Fin (k0_t1_loop i).trips) : BitVec 32 :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  v515
def k0_off27 (i : grid0.Coords) (k0_t1 : Fin (k0_t1_loop i).trips) : Fin 3 → Nat :=
  let arg1 : BitVec 32 := BitVec.ofNat 32 (i 1).val
  let c8_i32 : BitVec 32 := 8#32
  let v0 : BitVec 1 := Scalar.cmpi .eq arg1 c8_i32
  let c3_i32_336 : BitVec 32 := 3#32
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_331 : BitVec 32 := 0#32
  let v509 : BitVec 1 := Scalar.cmpi .eq v505 c0_i32_331
  let c0_i32_335 : BitVec 32 := 0#32
  let c1_i32_332 : BitVec 32 := 1#32
  let v510 : BitVec 32 := Scalar.subi v505 c1_i32_332
  let v511 : BitVec 1 := Scalar.cmpi .eq v510 arg1
  let c2_i32_333 : BitVec 32 := 2#32
  let c1_i32_334 : BitVec 32 := 1#32
  let v512 : BitVec 32 := Scalar.select v511 c2_i32_333 c1_i32_334
  let v513 : BitVec 32 := Scalar.select v509 c0_i32_335 v512
  let v514 : BitVec 32 := Scalar.select v0 c3_i32_336 v513
  let v517 : Index := Scalar.indexCast v514
  let c0_338 : Index := 0#32
  let c0_339 : Index := 0#32
  ![v517.toNat, 0, 0]
def k0_off28 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v520 : Index := Scalar.indexCast v516
  let c0_340 : Index := 0#32
  ![v520.toNat, 0]
def k0_off29 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v530 : Index := Scalar.indexCast v516
  let c256_348 : Index := 256#32
  ![v530.toNat, 256]
def k0_off30 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v540 : Index := Scalar.indexCast v516
  let c512_356 : Index := 512#32
  ![v540.toNat, 512]
def k0_off31 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v550 : Index := Scalar.indexCast v516
  let c768_364 : Index := 768#32
  ![v550.toNat, 768]
def k0_off32 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v560 : Index := Scalar.indexCast v516
  let c1024_372 : Index := 1024#32
  ![v560.toNat, 1024]
def k0_off33 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v570 : Index := Scalar.indexCast v516
  let c1280_380 : Index := 1280#32
  ![v570.toNat, 1280]
def k0_off34 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v580 : Index := Scalar.indexCast v516
  let c1536_388 : Index := 1536#32
  ![v580.toNat, 1536]
def k0_off35 (i : grid0.Coords) (k0_t1 : Fin (k0_t1_loop i).trips) : Fin 2 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c2_i32_327 : BitVec 32 := 2#32
  let v504 : BitVec 32 := Scalar.addi v183 c2_i32_327
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v590 : Index := Scalar.indexCast v516
  let c1792_396 : Index := 1792#32
  ![v590.toNat, 1792]
def k0_off36 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v624 : Index := Scalar.indexCast v603
  let c0_420 : Index := 0#32
  let c0_421 : Index := 0#32
  ![v624.toNat, 0, 0]
def k0_off37 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v651 : Index := Scalar.indexCast v603
  let c128_435 : Index := 128#32
  let c0_436 : Index := 0#32
  ![v651.toNat, 128, 0]
def k0_off38 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v678 : Index := Scalar.indexCast v603
  let c256_450 : Index := 256#32
  let c0_451 : Index := 0#32
  ![v678.toNat, 256, 0]
def k0_off39 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v705 : Index := Scalar.indexCast v603
  let c384_465 : Index := 384#32
  let c0_466 : Index := 0#32
  ![v705.toNat, 384, 0]
def k0_off40 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v732 : Index := Scalar.indexCast v603
  let c512_480 : Index := 512#32
  let c0_481 : Index := 0#32
  ![v732.toNat, 512, 0]
def k0_off41 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v759 : Index := Scalar.indexCast v603
  let c640_495 : Index := 640#32
  let c0_496 : Index := 0#32
  ![v759.toNat, 640, 0]
def k0_off42 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v786 : Index := Scalar.indexCast v603
  let c768_510 : Index := 768#32
  let c0_511 : Index := 0#32
  ![v786.toNat, 768, 0]
def k0_off43 (i : grid0.Coords) (k0_t1 : Fin (k0_t1_loop i).trips) : Fin 3 → Nat :=
  let c2_i32_120 : BitVec 32 := 2#32
  let c0_i32_77 : BitVec 32 := 0#32
  let c1_i32_79 : BitVec 32 := 1#32
  let arg9 : BitVec 32 := Scf.iv c0_i32_77 c1_i32_79 k0_t1
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v813 : Index := Scalar.indexCast v603
  let c896_525 : Index := 896#32
  let c0_526 : Index := 0#32
  ![v813.toNat, 896, 0]
@[reducible] def k0_t2_loop (i : grid0.Coords) : Scf.Loop 32 :=
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let v116 : BitVec 32 := Scalar.addi c0_i32_77 v115
  let c1_i32_80 : BitVec 32 := 1#32
  ⟨v119, v116, c1_i32_80⟩
def k0_mult4 (i : grid0.Coords) (k0_t2 : Fin (k0_t2_loop i).trips) : BitVec 32 :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  v194
def k0_off44 (i : grid0.Coords) (k0_t2 : Fin (k0_t2_loop i).trips) : Fin 3 → Nat :=
  let arg1 : BitVec 32 := BitVec.ofNat 32 (i 1).val
  let c8_i32 : BitVec 32 := 8#32
  let v0 : BitVec 1 := Scalar.cmpi .eq arg1 c8_i32
  let c3_i32_130 : BitVec 32 := 3#32
  let c2_i32_120 : BitVec 32 := 2#32
  let c0_i32_77 : BitVec 32 := 0#32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_125 : BitVec 32 := 0#32
  let v188 : BitVec 1 := Scalar.cmpi .eq v184 c0_i32_125
  let c0_i32_129 : BitVec 32 := 0#32
  let c1_i32_126 : BitVec 32 := 1#32
  let v189 : BitVec 32 := Scalar.subi v184 c1_i32_126
  let v190 : BitVec 1 := Scalar.cmpi .eq v189 arg1
  let c2_i32_127 : BitVec 32 := 2#32
  let c1_i32_128 : BitVec 32 := 1#32
  let v191 : BitVec 32 := Scalar.select v190 c2_i32_127 c1_i32_128
  let v192 : BitVec 32 := Scalar.select v188 c0_i32_129 v191
  let v193 : BitVec 32 := Scalar.select v0 c3_i32_130 v192
  let v196 : Index := Scalar.indexCast v193
  let c0_132 : Index := 0#32
  let c0_133 : Index := 0#32
  ![v196.toNat, 0, 0]
def k0_off45 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v199 : Index := Scalar.indexCast v195
  let c0_134 : Index := 0#32
  ![v199.toNat, 0]
def k0_off46 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v209 : Index := Scalar.indexCast v195
  let c256_142 : Index := 256#32
  ![v209.toNat, 256]
def k0_off47 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v219 : Index := Scalar.indexCast v195
  let c512_150 : Index := 512#32
  ![v219.toNat, 512]
def k0_off48 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v229 : Index := Scalar.indexCast v195
  let c768_158 : Index := 768#32
  ![v229.toNat, 768]
def k0_off49 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v239 : Index := Scalar.indexCast v195
  let c1024_166 : Index := 1024#32
  ![v239.toNat, 1024]
def k0_off50 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v249 : Index := Scalar.indexCast v195
  let c1280_174 : Index := 1280#32
  ![v249.toNat, 1280]
def k0_off51 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v259 : Index := Scalar.indexCast v195
  let c1536_182 : Index := 1536#32
  ![v259.toNat, 1536]
def k0_off52 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_121 : BitVec 32 := 1#32
  let v184 : BitVec 32 := Scalar.addi v183 c1_i32_121
  let c0_i32_122 : BitVec 32 := 0#32
  let v185 : BitVec 1 := Scalar.cmpi .eq v184 c0_i32_122
  let c8_i32_124 : BitVec 32 := 8#32
  let c1_i32_123 : BitVec 32 := 1#32
  let v186 : BitVec 32 := Scalar.subi v184 c1_i32_123
  let v187 : BitVec 32 := Scalar.select v185 c8_i32_124 v186
  let c256_i32_131 : BitVec 32 := 256#32
  let v194 : BitVec 32 := Scalar.muli v187 c256_i32_131
  let v195 : BitVec 32 := v194
  let v269 : Index := Scalar.indexCast v195
  let c1792_190 : Index := 1792#32
  ![v269.toNat, 1792]
def k0_off53 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v302 : Index := Scalar.indexCast v281
  let c0_213 : Index := 0#32
  let c0_214 : Index := 0#32
  ![v302.toNat, 0, 0]
def k0_off54 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v329 : Index := Scalar.indexCast v281
  let c128_228 : Index := 128#32
  let c0_229 : Index := 0#32
  ![v329.toNat, 128, 0]
def k0_off55 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v356 : Index := Scalar.indexCast v281
  let c256_243 : Index := 256#32
  let c0_244 : Index := 0#32
  ![v356.toNat, 256, 0]
def k0_off56 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v383 : Index := Scalar.indexCast v281
  let c384_258 : Index := 384#32
  let c0_259 : Index := 0#32
  ![v383.toNat, 384, 0]
def k0_off57 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v410 : Index := Scalar.indexCast v281
  let c512_273 : Index := 512#32
  let c0_274 : Index := 0#32
  ![v410.toNat, 512, 0]
def k0_off58 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v437 : Index := Scalar.indexCast v281
  let c640_288 : Index := 640#32
  let c0_289 : Index := 0#32
  ![v437.toNat, 640, 0]
def k0_off59 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v464 : Index := Scalar.indexCast v281
  let c768_303 : Index := 768#32
  let c0_304 : Index := 0#32
  ![v464.toNat, 768, 0]
def k0_off60 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c0_i32_198 : BitVec 32 := 0#32
  let v279 : BitVec 1 := Scalar.cmpi .eq v183 c0_i32_198
  let c8_i32_200 : BitVec 32 := 8#32
  let c1_i32_199 : BitVec 32 := 1#32
  let v280 : BitVec 32 := Scalar.subi v183 c1_i32_199
  let v281 : BitVec 32 := Scalar.select v279 c8_i32_200 v280
  let v491 : Index := Scalar.indexCast v281
  let c896_318 : Index := 896#32
  let c0_319 : Index := 0#32
  ![v491.toNat, 896, 0]
def k0_mult5 (i : grid0.Coords) (k0_t2 : Fin (k0_t2_loop i).trips) : BitVec 32 :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  v515
def k0_off61 (i : grid0.Coords) (k0_t2 : Fin (k0_t2_loop i).trips) : Fin 3 → Nat :=
  let arg1 : BitVec 32 := BitVec.ofNat 32 (i 1).val
  let c8_i32 : BitVec 32 := 8#32
  let v0 : BitVec 1 := Scalar.cmpi .eq arg1 c8_i32
  let c3_i32_336 : BitVec 32 := 3#32
  let c2_i32_120 : BitVec 32 := 2#32
  let c0_i32_77 : BitVec 32 := 0#32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_331 : BitVec 32 := 0#32
  let v509 : BitVec 1 := Scalar.cmpi .eq v505 c0_i32_331
  let c0_i32_335 : BitVec 32 := 0#32
  let c1_i32_332 : BitVec 32 := 1#32
  let v510 : BitVec 32 := Scalar.subi v505 c1_i32_332
  let v511 : BitVec 1 := Scalar.cmpi .eq v510 arg1
  let c2_i32_333 : BitVec 32 := 2#32
  let c1_i32_334 : BitVec 32 := 1#32
  let v512 : BitVec 32 := Scalar.select v511 c2_i32_333 c1_i32_334
  let v513 : BitVec 32 := Scalar.select v509 c0_i32_335 v512
  let v514 : BitVec 32 := Scalar.select v0 c3_i32_336 v513
  let v517 : Index := Scalar.indexCast v514
  let c0_338 : Index := 0#32
  let c0_339 : Index := 0#32
  ![v517.toNat, 0, 0]
def k0_off62 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v520 : Index := Scalar.indexCast v516
  let c0_340 : Index := 0#32
  ![v520.toNat, 0]
def k0_off63 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v530 : Index := Scalar.indexCast v516
  let c256_348 : Index := 256#32
  ![v530.toNat, 256]
def k0_off64 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v540 : Index := Scalar.indexCast v516
  let c512_356 : Index := 512#32
  ![v540.toNat, 512]
def k0_off65 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v550 : Index := Scalar.indexCast v516
  let c768_364 : Index := 768#32
  ![v550.toNat, 768]
def k0_off66 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v560 : Index := Scalar.indexCast v516
  let c1024_372 : Index := 1024#32
  ![v560.toNat, 1024]
def k0_off67 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v570 : Index := Scalar.indexCast v516
  let c1280_380 : Index := 1280#32
  ![v570.toNat, 1280]
def k0_off68 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v580 : Index := Scalar.indexCast v516
  let c1536_388 : Index := 1536#32
  ![v580.toNat, 1536]
def k0_off69 (i : grid0.Coords) (k0_t2 : Fin (k0_t2_loop i).trips) : Fin 2 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c2_i32_327 : BitVec 32 := 2#32
  let v504 : BitVec 32 := Scalar.addi v183 c2_i32_327
  let c1_i32_2 : BitVec 32 := 1#32
  let v7 : BitVec 32 := Scalar.subi v2 c1_i32_2
  let v505 : BitVec 32 := Scalar.minsi v504 v7
  let c0_i32_328 : BitVec 32 := 0#32
  let v506 : BitVec 1 := Scalar.cmpi .eq v505 c0_i32_328
  let c8_i32_330 : BitVec 32 := 8#32
  let c1_i32_329 : BitVec 32 := 1#32
  let v507 : BitVec 32 := Scalar.subi v505 c1_i32_329
  let v508 : BitVec 32 := Scalar.select v506 c8_i32_330 v507
  let c256_i32_337 : BitVec 32 := 256#32
  let v515 : BitVec 32 := Scalar.muli v508 c256_i32_337
  let v516 : BitVec 32 := v515
  let v590 : Index := Scalar.indexCast v516
  let c1792_396 : Index := 1792#32
  ![v590.toNat, 1792]
def k0_off70 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v624 : Index := Scalar.indexCast v603
  let c0_420 : Index := 0#32
  let c0_421 : Index := 0#32
  ![v624.toNat, 0, 0]
def k0_off71 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v651 : Index := Scalar.indexCast v603
  let c128_435 : Index := 128#32
  let c0_436 : Index := 0#32
  ![v651.toNat, 128, 0]
def k0_off72 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v678 : Index := Scalar.indexCast v603
  let c256_450 : Index := 256#32
  let c0_451 : Index := 0#32
  ![v678.toNat, 256, 0]
def k0_off73 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v705 : Index := Scalar.indexCast v603
  let c384_465 : Index := 384#32
  let c0_466 : Index := 0#32
  ![v705.toNat, 384, 0]
def k0_off74 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v732 : Index := Scalar.indexCast v603
  let c512_480 : Index := 512#32
  let c0_481 : Index := 0#32
  ![v732.toNat, 512, 0]
def k0_off75 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v759 : Index := Scalar.indexCast v603
  let c640_495 : Index := 640#32
  let c0_496 : Index := 0#32
  ![v759.toNat, 640, 0]
def k0_off76 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v786 : Index := Scalar.indexCast v603
  let c768_510 : Index := 768#32
  let c0_511 : Index := 0#32
  ![v786.toNat, 768, 0]
def k0_off77 (i : grid0.Coords) (k0_t2 : Fin (k0_t2_loop i).trips) : Fin 3 → Nat :=
  let c2_i32_120 : BitVec 32 := 2#32
  let c0_i32_77 : BitVec 32 := 0#32
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_76 : BitVec 32 := 1#32
  let v114 : BitVec 32 := Scalar.shrui v2 c1_i32_76
  let v115 : BitVec 32 := Scalar.subi v114 c0_i32_77
  let c1_i32_78 : BitVec 32 := 1#32
  let v117 : BitVec 32 := Scalar.divsi v115 c1_i32_78
  let v118 : BitVec 32 := Scalar.muli v117 c1_i32_78
  let v119 : BitVec 32 := Scalar.addi c0_i32_77 v118
  let c1_i32_80 : BitVec 32 := 1#32
  let arg9 : BitVec 32 := Scf.iv v119 c1_i32_80 k0_t2
  let v183 : BitVec 32 := Scalar.muli c2_i32_120 arg9
  let c1_i32_404 : BitVec 32 := 1#32
  let v600 : BitVec 32 := Scalar.addi v183 c1_i32_404
  let c0_i32_405 : BitVec 32 := 0#32
  let v601 : BitVec 1 := Scalar.cmpi .eq v600 c0_i32_405
  let c8_i32_407 : BitVec 32 := 8#32
  let c1_i32_406 : BitVec 32 := 1#32
  let v602 : BitVec 32 := Scalar.subi v600 c1_i32_406
  let v603 : BitVec 32 := Scalar.select v601 c8_i32_407 v602
  let v813 : Index := Scalar.indexCast v603
  let c896_525 : Index := 896#32
  let c0_526 : Index := 0#32
  ![v813.toNat, 896, 0]
def k0_cond1 (i : grid0.Coords) : BitVec 1 :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_81 : BitVec 32 := 1#32
  let v122 : BitVec 32 := Scalar.andi v2 c1_i32_81
  let c1_i32_82 : BitVec 32 := 1#32
  let v123 : BitVec 1 := Scalar.cmpi .eq v122 c1_i32_82
  let v124 : BitVec 32 := Scalar.extui v123
  let c0_i32_83 : BitVec 32 := 0#32
  let v125 : BitVec 1 := Scalar.cmpi .ne v124 c0_i32_83
  v125

def k0_off78 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v200 : Index := Scalar.indexCast v185
  let c0_129 : Index := 0#32
  let c0_130 : Index := 0#32
  ![v200.toNat, 0, 0]
def k0_off79 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v227 : Index := Scalar.indexCast v185
  let c128_144 : Index := 128#32
  let c0_145 : Index := 0#32
  ![v227.toNat, 128, 0]
def k0_off80 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v254 : Index := Scalar.indexCast v185
  let c256_159 : Index := 256#32
  let c0_160 : Index := 0#32
  ![v254.toNat, 256, 0]
def k0_off81 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v281 : Index := Scalar.indexCast v185
  let c384_174 : Index := 384#32
  let c0_175 : Index := 0#32
  ![v281.toNat, 384, 0]
def k0_off82 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v308 : Index := Scalar.indexCast v185
  let c512_189 : Index := 512#32
  let c0_190 : Index := 0#32
  ![v308.toNat, 512, 0]
def k0_off83 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v335 : Index := Scalar.indexCast v185
  let c640_204 : Index := 640#32
  let c0_205 : Index := 0#32
  ![v335.toNat, 640, 0]
def k0_off84 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v362 : Index := Scalar.indexCast v185
  let c768_219 : Index := 768#32
  let c0_220 : Index := 0#32
  ![v362.toNat, 768, 0]
def k0_off85 (i : grid0.Coords) : Fin 3 → Nat :=
  let arg1 : BitVec 32 := BitVec.ofNat 32 (i 1).val
  let c8_i32 : BitVec 32 := 8#32
  let v0 : BitVec 1 := Scalar.cmpi .eq arg1 c8_i32
  let c1_i32 : BitVec 32 := 1#32
  let c2_i32 : BitVec 32 := 2#32
  let v1 : BitVec 32 := Scalar.addi arg1 c2_i32
  let v2 : BitVec 32 := Scalar.select v0 c1_i32 v1
  let c1_i32_2 : BitVec 32 := 1#32
  let v7 : BitVec 32 := Scalar.subi v2 c1_i32_2
  let c0_i32_120 : BitVec 32 := 0#32
  let v183 : BitVec 1 := Scalar.cmpi .eq v7 c0_i32_120
  let c8_i32_122 : BitVec 32 := 8#32
  let c1_i32_121 : BitVec 32 := 1#32
  let v184 : BitVec 32 := Scalar.subi v7 c1_i32_121
  let v185 : BitVec 32 := Scalar.select v183 c8_i32_122 v184
  let v389 : Index := Scalar.indexCast v185
  let c896_234 : Index := 896#32
  let c0_235 : Index := 0#32
  ![v389.toNat, 896, 0]
def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2176x8x192 : Shape := ⟨4, ![16, 2176, 8, 192]⟩
abbrev S16x2176x8x128 : Shape := ⟨4, ![16, 2176, 8, 128]⟩
abbrev S16x8x2176x2176 : Shape := ⟨4, ![16, 8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S16x8x2176 : Shape := ⟨3, ![16, 8, 2176]⟩
abbrev S16x8x2176x1 : Shape := ⟨4, ![16, 8, 2176, 1]⟩
abbrev S16x8x128x2176 : Shape := ⟨4, ![16, 8, 128, 2176]⟩
abbrev S16x2176x1024 : Shape := ⟨3, ![16, 2176, 1024]⟩
abbrev S16x2048x1024 : Shape := ⟨3, ![16, 2048, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x2176x8x192, .f32⟩
  | .hbm, ⟨1, _⟩ => ⟨S16x2176x8x192, .f32⟩
  | .hbm, ⟨2, _⟩ => ⟨S16x2176x8x128, .f32⟩
  | .hbm, ⟨3, _⟩ => ⟨S16x8x2176x2176, .f32⟩
  | .hbm, ⟨4, _⟩ => ⟨S_, .f32⟩
  | .hbm, ⟨5, _⟩ => ⟨S_, .f32⟩
  | .hbm, ⟨6, _⟩ => ⟨S16x8x2176x2176, .f32⟩
  | .hbm, ⟨7, _⟩ => ⟨S16x8x2176x2176, .f32⟩
  | .hbm, ⟨8, _⟩ => ⟨S2176, .i32⟩
  | .hbm, ⟨9, _⟩ => ⟨S1x2176, .i32⟩
  | .hbm, ⟨10, _⟩ => ⟨S2176, .i32⟩
  | .hbm, ⟨11, _⟩ => ⟨S2176x1, .i32⟩
  | .hbm, ⟨12, _⟩ => ⟨S2176x2176, .i32⟩
  | .hbm, ⟨13, _⟩ => ⟨S2176x2176, .i32⟩
  | .hbm, ⟨14, _⟩ => ⟨S2176x2176, .i1⟩
  | .hbm, ⟨15, _⟩ => ⟨S_, .f32⟩
  | .hbm, ⟨16, _⟩ => ⟨S_, .f32⟩
  | .hbm, ⟨17, _⟩ => ⟨S16x8x2176x2176, .i1⟩
  | .hbm, ⟨18, _⟩ => ⟨S16x8x2176x2176, .f32⟩
  | .hbm, ⟨19, _⟩ => ⟨S16x8x2176x2176, .f32⟩
  | .hbm, ⟨20, _⟩ => ⟨S_, .f32⟩
  | .hbm, ⟨21, _⟩ => ⟨S16x8x2176, .f32⟩
  | .hbm, ⟨22, _⟩ => ⟨S_, .f32⟩
  | .hbm, ⟨23, _⟩ => ⟨S16x8x2176, .f32⟩
  | .hbm, ⟨24, _⟩ => ⟨S16x8x2176, .f32⟩
  | .hbm, ⟨25, _⟩ => ⟨S16x8x2176x1, .f32⟩
  | .hbm, ⟨26, _⟩ => ⟨S16x8x2176x2176, .f32⟩
  | .hbm, ⟨27, _⟩ => ⟨S16x8x2176x2176, .f32⟩
  | .hbm, ⟨28, _⟩ => ⟨S16x8x2176x2176, .f32⟩
  | .hbm, ⟨29, _⟩ => ⟨S_, .f32⟩
  | .hbm, ⟨30, _⟩ => ⟨S16x8x2176, .f32⟩
  | .hbm, ⟨31, _⟩ => ⟨S16x8x2176x1, .f32⟩
  | .hbm, ⟨32, _⟩ => ⟨S16x8x2176x2176, .f32⟩
  | .hbm, ⟨33, _⟩ => ⟨S16x8x2176x2176, .f32⟩
  | .hbm, ⟨34, _⟩ => ⟨S16x8x128x2176, .f32⟩
  | .hbm, ⟨35, _⟩ => ⟨S16x2176x8x128, .f32⟩
  | .hbm, ⟨36, _⟩ => ⟨S16x2176x1024, .f32⟩
  | .hbm, ⟨37, _⟩ => ⟨S16x2048x1024, .f32⟩
  | .hbm, ⟨38, _⟩ => ⟨S32768x1024, .f32⟩
  | .hbm, ⟨39, _⟩ => ⟨S32768x1024, .bf16⟩
  | _, _ => ⟨S16x2176x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S1x2048, .f32⟩
  | .hbm, ⟨5, _⟩ => ⟨S2048x11264, .bf16⟩
  | .hbm, ⟨6, _⟩ => ⟨S5632x2048, .bf16⟩
  | .hbm, ⟨7, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩
abbrev S32768x5632 : Shape := ⟨2, ![32768, 5632]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x11264, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S_, .f32⟩
  | .hbm, ⟨25, _⟩ => ⟨S32768x5632, .f32⟩
  | .hbm, ⟨26, _⟩ => ⟨S32768x5632, .f32⟩
  | .hbm, ⟨27, _⟩ => ⟨S_, .f32⟩
  | .hbm, ⟨28, _⟩ => ⟨S32768x5632, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x2048, .f32⟩
  | .hbm, ⟨34, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S36864x2048 : Shape := ⟨2, ![36864, 2048]⟩
abbrev S2048 : Shape := ⟨1, ![2048]⟩
abbrev S2048x14480 : Shape := ⟨2, ![2048, 14480]⟩
abbrev S1x2048 : Shape := ⟨2, ![1, 2048]⟩
abbrev S2048x1024 : Shape := ⟨2, ![2048, 1024]⟩
abbrev S2048x2048 : Shape := ⟨2, ![2048, 2048]⟩
abbrev S2048x64 : Shape := ⟨2, ![2048, 64]⟩
abbrev S_ : Shape := ⟨0, ![]⟩
abbrev S2048x80 : Shape := ⟨2, ![2048, 80]⟩
abbrev S2048x48 : Shape := ⟨2, ![2048, 48]⟩
abbrev S2048x6400 : Shape := ⟨2, ![2048, 6400]⟩
abbrev S36864x6400 : Shape := ⟨2, ![36864, 6400]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S2048x14480, .f32⟩
  | .hbm, ⟨3, _⟩ => ⟨S1x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S2048x64, .f32⟩
  | .hbm, ⟨9, _⟩ => ⟨S_, .f32⟩
  | .hbm, ⟨10, _⟩ => ⟨S2048x64, .f32⟩
  | .hbm, ⟨11, _⟩ => ⟨S2048x80, .f32⟩
  | .hbm, ⟨12, _⟩ => ⟨S_, .f32⟩
  | .hbm, ⟨13, _⟩ => ⟨S2048x48, .f32⟩
  | .hbm, ⟨14, _⟩ => ⟨S2048x6400, .f32⟩
  | .hbm, ⟨15, _⟩ => ⟨S2048x6400, .bf16⟩
  | .hbm, ⟨16, _⟩ => ⟨S36864x6400, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![36, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S36864x2048 : Shape := ⟨2, ![36864, 2048]⟩
abbrev S2048 : Shape := ⟨1, ![2048]⟩
abbrev S2048x14480 : Shape := ⟨2, ![2048, 14480]⟩
abbrev S_ : Shape := ⟨0, ![]⟩
abbrev S36864 : Shape := ⟨1, ![36864]⟩
abbrev S36864x1 : Shape := ⟨2, ![36864, 1]⟩
abbrev S1x2048 : Shape := ⟨2, ![1, 2048]⟩
abbrev S36864x14480 : Shape := ⟨2, ![36864, 14480]⟩
abbrev S36864x512 : Shape := ⟨2, ![36864, 512]⟩
abbrev S36864x64 : Shape := ⟨2, ![36864, 64]⟩
abbrev S36864x1024 : Shape := ⟨2, ![36864, 1024]⟩
abbrev S36864x16 : Shape := ⟨2, ![36864, 16]⟩
abbrev S36864x6144 : Shape := ⟨2, ![36864, 6144]⟩
abbrev S36864x48 : Shape := ⟨2, ![36864, 48]⟩
abbrev S36864x6400 : Shape := ⟨2, ![36864, 6400]⟩

abbrev nBuf : Space → Nat
  | .hbm => 38
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S2048x14480, .f32⟩
  | .hbm, ⟨3, _⟩ => ⟨S36864x2048, .f32⟩
  | .hbm, ⟨4, _⟩ => ⟨S_, .f32⟩
  | .hbm, ⟨5, _⟩ => ⟨S36864, .f32⟩
  | .hbm, ⟨6, _⟩ => ⟨S36864x1, .f32⟩
  | .hbm, ⟨7, _⟩ => ⟨S_, .f32⟩
  | .hbm, ⟨8, _⟩ => ⟨S36864x1, .f32⟩
  | .hbm, ⟨9, _⟩ => ⟨S36864x1, .f32⟩
  | .hbm, ⟨10, _⟩ => ⟨S_, .f32⟩
  | .hbm, ⟨11, _⟩ => ⟨S36864x1, .f32⟩
  | .hbm, ⟨12, _⟩ => ⟨S36864x1, .f32⟩
  | .hbm, ⟨13, _⟩ => ⟨S36864x1, .f32⟩
  | .hbm, ⟨14, _⟩ => ⟨S36864x2048, .f32⟩
  | .hbm, ⟨15, _⟩ => ⟨S36864x2048, .f32⟩
  | .hbm, ⟨16, _⟩ => ⟨S1x2048, .f32⟩
  | .hbm, ⟨17, _⟩ => ⟨S36864x2048, .f32⟩
  | .hbm, ⟨18, _⟩ => ⟨S36864x2048, .f32⟩
  | .hbm, ⟨19, _⟩ => ⟨S36864x14480, .f32⟩
  | .hbm, ⟨20, _⟩ => ⟨S36864x512, .f32⟩
  | .hbm, ⟨21, _⟩ => ⟨S36864x512, .f32⟩
  | .hbm, ⟨22, _⟩ => ⟨S36864x64, .f32⟩
  | .hbm, ⟨23, _⟩ => ⟨S36864x1024, .f32⟩
  | .hbm, ⟨24, _⟩ => ⟨S36864x1024, .f32⟩
  | .hbm, ⟨25, _⟩ => ⟨S36864x1024, .f32⟩
  | .hbm, ⟨26, _⟩ => ⟨S36864x1024, .f32⟩
  | .hbm, ⟨27, _⟩ => ⟨S36864x64, .f32⟩
  | .hbm, ⟨28, _⟩ => ⟨S36864x16, .f32⟩
  | .hbm, ⟨29, _⟩ => ⟨S36864x1024, .f32⟩
  | .hbm, ⟨30, _⟩ => ⟨S36864x1024, .f32⟩
  | .hbm, ⟨31, _⟩ => ⟨S36864x1024, .f32⟩
  | .hbm, ⟨32, _⟩ => ⟨S36864x6144, .f32⟩
  | .hbm, ⟨33, _⟩ => ⟨S_, .f32⟩
  | .hbm, ⟨34, _⟩ => ⟨S36864x64, .f32⟩
  | .hbm, ⟨35, _⟩ => ⟨S_, .f32⟩
  | .hbm, ⟨36, _⟩ => ⟨S36864x48, .f32⟩
  | .hbm, ⟨37, _⟩ => ⟨S36864x6400, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel4.lean ====
abbrev S36864x2048 : Shape := ⟨2, ![36864, 2048]⟩
abbrev S2048 : Shape := ⟨1, ![2048]⟩
abbrev S2048x14480 : Shape := ⟨2, ![2048, 14480]⟩
abbrev S1x2048 : Shape := ⟨2, ![1, 2048]⟩
abbrev S2048x1024 : Shape := ⟨2, ![2048, 1024]⟩
abbrev S2048x6144 : Shape := ⟨2, ![2048, 6144]⟩
abbrev S2048x8192 : Shape := ⟨2, ![2048, 8192]⟩
abbrev S36864x8192 : Shape := ⟨2, ![36864, 8192]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S2048x14480, .f32⟩
  | .hbm, ⟨3, _⟩ => ⟨S1x2048, .f32⟩
  | .hbm, ⟨4, _⟩ => ⟨S2048x1024, .f32⟩
  | .hbm, ⟨5, _⟩ => ⟨S2048x1024, .f32⟩
  | .hbm, ⟨6, _⟩ => ⟨S2048x6144, .f32⟩
  | .hbm, ⟨7, _⟩ => ⟨S2048x8192, .f32⟩
  | .hbm, ⟨8, _⟩ => ⟨S2048x8192, .bf16⟩
  | .hbm, ⟨9, _⟩ => ⟨S36864x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![36, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S36864x2048 : Shape := ⟨2, ![36864, 2048]⟩
abbrev S2048 : Shape := ⟨1, ![2048]⟩
abbrev S2048x14480 : Shape := ⟨2, ![2048, 14480]⟩
abbrev S_ : Shape := ⟨0, ![]⟩
abbrev S36864 : Shape := ⟨1, ![36864]⟩
abbrev S36864x1 : Shape := ⟨2, ![36864, 1]⟩
abbrev S1x2048 : Shape := ⟨2, ![1, 2048]⟩
abbrev S36864x14480 : Shape := ⟨2, ![36864, 14480]⟩
abbrev S36864x512 : Shape := ⟨2, ![36864, 512]⟩
abbrev S36864x64 : Shape := ⟨2, ![36864, 64]⟩
abbrev S36864x1024 : Shape := ⟨2, ![36864, 1024]⟩
abbrev S36864x16 : Shape := ⟨2, ![36864, 16]⟩
abbrev S36864x6144 : Shape := ⟨2, ![36864, 6144]⟩
abbrev S36864x8192 : Shape := ⟨2, ![36864, 8192]⟩

abbrev nBuf : Space → Nat
  | .hbm => 35
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S2048, .f32⟩
  | .hbm, ⟨2, _⟩ => ⟨S2048x14480, .f32⟩
  | .hbm, ⟨3, _⟩ => ⟨S36864x2048, .f32⟩
  | .hbm, ⟨4, _⟩ => ⟨S_, .f32⟩
  | .hbm, ⟨5, _⟩ => ⟨S36864, .f32⟩
  | .hbm, ⟨6, _⟩ => ⟨S36864x1, .f32⟩
  | .hbm, ⟨7, _⟩ => ⟨S_, .f32⟩
  | .hbm, ⟨8, _⟩ => ⟨S36864x1, .f32⟩
  | .hbm, ⟨9, _⟩ => ⟨S36864x1, .f32⟩
  | .hbm, ⟨10, _⟩ => ⟨S_, .f32⟩
  | .hbm, ⟨11, _⟩ => ⟨S36864x1, .f32⟩
  | .hbm, ⟨12, _⟩ => ⟨S36864x1, .f32⟩
  | .hbm, ⟨13, _⟩ => ⟨S36864x1, .f32⟩
  | .hbm, ⟨14, _⟩ => ⟨S36864x2048, .f32⟩
  | .hbm, ⟨15, _⟩ => ⟨S36864x2048, .f32⟩
  | .hbm, ⟨16, _⟩ => ⟨S1x2048, .f32⟩
  | .hbm, ⟨17, _⟩ => ⟨S36864x2048, .f32⟩
  | .hbm, ⟨18, _⟩ => ⟨S36864x2048, .f32⟩
  | .hbm, ⟨19, _⟩ => ⟨S36864x14480, .f32⟩
  | .hbm, ⟨20, _⟩ => ⟨S36864x512, .f32⟩
  | .hbm, ⟨21, _⟩ => ⟨S36864x512, .f32⟩
  | .hbm, ⟨22, _⟩ => ⟨S36864x64, .f32⟩
  | .hbm, ⟨23, _⟩ => ⟨S36864x1024, .f32⟩
  | .hbm, ⟨24, _⟩ => ⟨S36864x1024, .f32⟩
  | .hbm, ⟨25, _⟩ => ⟨S36864x1024, .f32⟩
  | .hbm, ⟨26, _⟩ => ⟨S36864x1024, .f32⟩
  | .hbm, ⟨27, _⟩ => ⟨S36864x64, .f32⟩
  | .hbm, ⟨28, _⟩ => ⟨S36864x16, .f32⟩
  | .hbm, ⟨29, _⟩ => ⟨S36864x1024, .f32⟩
  | .hbm, ⟨30, _⟩ => ⟨S36864x1024, .f32⟩
  | .hbm, ⟨31, _⟩ => ⟨S36864x1024, .f32⟩
  | .hbm, ⟨32, _⟩ => ⟨S36864x6144, .f32⟩
  | .hbm, ⟨33, _⟩ => ⟨S36864x8192, .f32⟩
  | .hbm, ⟨34, _⟩ => ⟨S36864x8192, .bf16⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel5.lean ====
abbrev S36864x2048 : Shape := ⟨2, ![36864, 2048]⟩
abbrev S36864x1024 : Shape := ⟨2, ![36864, 1024]⟩
abbrev S36864x6144 : Shape := ⟨2, ![36864, 6144]⟩
abbrev S6144 : Shape := ⟨1, ![6144]⟩
abbrev S3x1024x2048 : Shape := ⟨3, ![3, 1024, 2048]⟩
abbrev S2048x2048 : Shape := ⟨2, ![2048, 2048]⟩
abbrev S_ : Shape := ⟨0, ![]⟩
abbrev S36864x8192 : Shape := ⟨2, ![36864, 8192]⟩
abbrev S1x6144 : Shape := ⟨2, ![1, 6144]⟩
abbrev S256x2048 : Shape := ⟨2, ![256, 2048]⟩
abbrev S256x1024 : Shape := ⟨2, ![256, 1024]⟩
abbrev S1x2048 : Shape := ⟨2, ![1, 2048]⟩
abbrev S1x1024x2048 : Shape := ⟨3, ![1, 1024, 2048]⟩
abbrev S1024x2048 : Shape := ⟨2, ![1024, 2048]⟩

abbrev nBuf : Space → Nat
  | .hbm => 19
  | .vmem => 19
  | .smem => 0
  | _ => 0

abbrev bufTy : (tb : Table) → Fin (tcTables nBuf tb) → BufTy
  | .hbm, ⟨0, _⟩ => ⟨S36864x2048, .f32⟩
  | .hbm, ⟨1, _⟩ => ⟨S36864x1024, .f32⟩
  | .hbm, ⟨2, _⟩ => ⟨S36864x1024, .f32⟩
  | .hbm, ⟨3, _⟩ => ⟨S36864x1024, .f32⟩
  | .hbm, ⟨4, _⟩ => ⟨S36864x6144, .f32⟩
  | .hbm, ⟨5, _⟩ => ⟨S6144, .f32⟩
  | .hbm, ⟨6, _⟩ => ⟨S3x1024x2048, .f32⟩
  | .hbm, ⟨7, _⟩ => ⟨S2048x2048, .f32⟩
  | .hbm, ⟨8, _⟩ => ⟨S_, .f32⟩
  | .hbm, ⟨9, _⟩ => ⟨S36864x2048, .f32⟩
  | .hbm, ⟨10, _⟩ => ⟨S36864x8192, .f32⟩
  | .hbm, ⟨11, _⟩ => ⟨S36864x8192, .bf16⟩
  | .hbm, ⟨12, _⟩ => ⟨S36864x1024, .bf16⟩
  | .hbm, ⟨13, _⟩ => ⟨S36864x1024, .bf16⟩
  | .hbm, ⟨14, _⟩ => ⟨S36864x1024, .bf16⟩
  | .hbm, ⟨15, _⟩ => ⟨S1x6144, .f32⟩
  | .hbm, ⟨16, _⟩ => ⟨S3x1024x2048, .bf16⟩
  | .hbm, ⟨17, _⟩ => ⟨S2048x2048, .bf16⟩
  | .hbm, ⟨18, _⟩ => ⟨S36864x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x6144, .f32⟩
  | .local _ .vmem, ⟨15, _⟩ => ⟨S3x1024x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S36864x2048 : Shape := ⟨2, ![36864, 2048]⟩
abbrev S36864x1024 : Shape := ⟨2, ![36864, 1024]⟩
abbrev S36864x6144 : Shape := ⟨2, ![36864, 6144]⟩
abbrev S6144 : Shape := ⟨1, ![6144]⟩
abbrev S3x1024x2048 : Shape := ⟨3, ![3, 1024, 2048]⟩
abbrev S2048x2048 : Shape := ⟨2, ![2048, 2048]⟩
abbrev S1x6144 : Shape := ⟨2, ![1, 6144]⟩
abbrev S_ : Shape := ⟨0, ![]⟩
abbrev S36864x3x2048 : Shape := ⟨3, ![36864, 3, 2048]⟩
abbrev S36864x1x2048 : Shape := ⟨3, ![36864, 1, 2048]⟩
abbrev S1x1024x2048 : Shape := ⟨3, ![1, 1024, 2048]⟩
abbrev S1024x2048 : Shape := ⟨2, ![1024, 2048]⟩

abbrev nBuf : Space → Nat
  | .hbm => 42
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S36864x1024, .f32⟩
  | .hbm, ⟨2, _⟩ => ⟨S36864x1024, .f32⟩
  | .hbm, ⟨3, _⟩ => ⟨S36864x1024, .f32⟩
  | .hbm, ⟨4, _⟩ => ⟨S36864x6144, .f32⟩
  | .hbm, ⟨5, _⟩ => ⟨S6144, .f32⟩
  | .hbm, ⟨6, _⟩ => ⟨S3x1024x2048, .f32⟩
  | .hbm, ⟨7, _⟩ => ⟨S2048x2048, .f32⟩
  | .hbm, ⟨8, _⟩ => ⟨S1x6144, .f32⟩
  | .hbm, ⟨9, _⟩ => ⟨S36864x6144, .f32⟩
  | .hbm, ⟨10, _⟩ => ⟨S36864x6144, .f32⟩
  | .hbm, ⟨11, _⟩ => ⟨S36864x6144, .f32⟩
  | .hbm, ⟨12, _⟩ => ⟨S36864x6144, .f32⟩
  | .hbm, ⟨13, _⟩ => ⟨S_, .f32⟩
  | .hbm, ⟨14, _⟩ => ⟨S36864x6144, .f32⟩
  | .hbm, ⟨15, _⟩ => ⟨S36864x6144, .f32⟩
  | .hbm, ⟨16, _⟩ => ⟨S_, .f32⟩
  | .hbm, ⟨17, _⟩ => ⟨S36864x6144, .f32⟩
  | .hbm, ⟨18, _⟩ => ⟨S36864x6144, .f32⟩
  | .hbm, ⟨19, _⟩ => ⟨S36864x3x2048, .f32⟩
  | .hbm, ⟨20, _⟩ => ⟨S36864x1x2048, .f32⟩
  | .hbm, ⟨21, _⟩ => ⟨S36864x2048, .f32⟩
  | .hbm, ⟨22, _⟩ => ⟨S1x1024x2048, .f32⟩
  | .hbm, ⟨23, _⟩ => ⟨S1024x2048, .f32⟩
  | .hbm, ⟨24, _⟩ => ⟨S36864x2048, .f32⟩
  | .hbm, ⟨25, _⟩ => ⟨S36864x2048, .f32⟩
  | .hbm, ⟨26, _⟩ => ⟨S36864x1x2048, .f32⟩
  | .hbm, ⟨27, _⟩ => ⟨S36864x2048, .f32⟩
  | .hbm, ⟨28, _⟩ => ⟨S1x1024x2048, .f32⟩
  | .hbm, ⟨29, _⟩ => ⟨S1024x2048, .f32⟩
  | .hbm, ⟨30, _⟩ => ⟨S36864x2048, .f32⟩
  | .hbm, ⟨31, _⟩ => ⟨S36864x2048, .f32⟩
  | .hbm, ⟨32, _⟩ => ⟨S36864x2048, .f32⟩
  | .hbm, ⟨33, _⟩ => ⟨S36864x1x2048, .f32⟩
  | .hbm, ⟨34, _⟩ => ⟨S36864x2048, .f32⟩
  | .hbm, ⟨35, _⟩ => ⟨S1x1024x2048, .f32⟩
  | .hbm, ⟨36, _⟩ => ⟨S1024x2048, .f32⟩
  | .hbm, ⟨37, _⟩ => ⟨S36864x2048, .f32⟩
  | .hbm, ⟨38, _⟩ => ⟨S36864x2048, .f32⟩
  | .hbm, ⟨39, _⟩ => ⟨S36864x2048, .f32⟩
  | .hbm, ⟨40, _⟩ => ⟨S36864x2048, .f32⟩
  | .hbm, ⟨41, _⟩ => ⟨S36864x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Ffn.Spec.lean ====
/- The feed-forward part, one element at a time. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Proof.Ffn

open Cert.Kernel2Ideal Cert.Kernel2Ideal.Gen
open Idealize.ShloMosaic
open scoped BigOperators

variable (X : FVec Ideal S32768x2048 .f32) (g : FVec Ideal S2048 .f32)
  (W : FVec Ideal S2048x11264 .f32) (U : FVec Ideal S5632x2048 .f32)

/-- A row over the root of its mean square, times the gain. -/
def normed (R : Fin 32768) (k : Fin 2048) : EReal :=
  X (ix2 R k) * Ideal.rsqrt (Ideal.div (∑ x, X (ix2 R x) * X (ix2 R x)) (Ideal.ofBits FTy.f32 1157627904#32)
    + Ideal.ofBits FTy.f32 897988541#32) * g (ix1 k)

/-- The normed row times one column of the first weights. -/
def proj (R : Fin 32768) (j : Fin 11264) : EReal := ∑ k, normed X g R k * W (ix2 k j)

/-- The gated unit of two projections. -/
def gated (a b : EReal) : EReal := a * Ideal.div 1 (1 + Ideal.exp (0 - a)) * b

/-- One hidden unit's part of one element of the result; none past the last unit. -/
def part (R : Fin 32768) (n : Fin 2048) (J : ℕ) : EReal :=
  if h : J < 5632 then gated (proj X g W R ⟨J, by omega⟩) (proj X g W R ⟨5632 + J, by omega⟩) * U (ix2 ⟨J, h⟩ n) else 0

/-- The result at one element: the row's own value and all hidden units' parts. -/
def target (R : Fin 32768) (n : Fin 2048) : EReal := X (ix2 R n) + ∑ J ∈ Finset.range 5632, part X g W U R n J

/-- What a run over the blocks of 512 units holds after the first `f` blocks. -/
def upTo (R : Fin 32768) (n : Fin 2048) (f : ℕ) : EReal := X (ix2 R n) + ∑ J ∈ Finset.range (512 * f), part X g W U R n J

theorem upTo_zero (R : Fin 32768) (n : Fin 2048) : upTo X g W U R n 0 = X (ix2 R n) := by
  simp [upTo]

/-- One more block adds its 512 units' parts. -/
theorem upTo_succ (R : Fin 32768) (n : Fin 2048) (f : ℕ) :
    upTo X g W U R n (f + 1) = upTo X g W U R n f + ∑ j : Fin 512, part X g W U R n (512 * f + j.val) := by
  unfold upTo
  rw [Nat.mul_succ, Finset.sum_range_add, add_assoc, Finset.sum_range (fun x => part X g W U R n (512 * f + x))]

theorem upTo_all (R : Fin 32768) (n : Fin 2048) : upTo X g W U R n 11 = target X g W U R n := rfl

end Cert.Proof.Ffn

end
-- ==== Proof.Ffn.Blocks.lean ====
/- The blocks of the launch, read at an element: which element of the arguments each holds. -/
module

public import proofs.«01_k».proof.Proof.Ffn.Spec

@[expose] public section

set_option maxRecDepth 16384

noncomputable section

namespace Cert.Proof.Ffn

open Cert.Kernel2Ideal Cert.Kernel2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The activations, gain and weights as the launch's memory holds them. -/
abbrev argX (c : Dev nD) : FVec Ideal S32768x2048 .f32 := m ((c : Thread nD τ).loc main_arg0)
abbrev argG (c : Dev nD) : FVec Ideal S2048 .f32 := m ((c : Thread nD τ).loc main_arg1)
abbrev argW (c : Dev nD) : FVec Ideal S2048x11264 .f32 := m ((c : Thread nD τ).loc main_arg2)
abbrev argU (c : Dev nD) : FVec Ideal S5632x2048 .f32 := m ((c : Thread nD τ).loc main_arg3)

/-- The windows' index maps: row block `t / 11`, unit block `t % 11`. -/
theorem idx : ∀ t : Fin cfg0.N, win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![t.val / 11, 0] ∧ t.val / 11 < 32 :=
  (by decide +kernel : ∀ t : Fin grid0.N, _)

/-- The row of the array that row `r` of point `t`'s block is. -/
def rowOf (t : Fin cfg0.N) (r : Fin 1024) : Fin 32768 := ⟨1024 * (t.val / 11) + r.val, by have := (idx t).2.2.2.2.2.2; omega⟩

theorem blk0 (c : Dev nD) (t : Fin cfg0.N) (r : Fin 1024) (k : Fin 2048) :
    (iblk m c 0 t : Vec Ideal S1024x2048 .f32) (ix2 r k) = argX m c (ix2 (rowOf t r) k) := by
  blk_ext [iblk, V, idx t, rowOf]

theorem blk1 (c : Dev nD) (t : Fin cfg0.N) (k : Fin 2048) :
    (iblk m c 1 t : Vec Ideal S1x2048 .f32) (ix2 0 k) = argG m c (ix1 k) := by
  blk_simp [iblk, idx t]
  entry_read
  pointwise
  blk_ext [idx t]

theorem blk2 (c : Dev nD) (t : Fin cfg0.N) (k : Fin 2048) (j : Fin 512) :
    (iblk m c 2 t : Vec Ideal S2048x512 .bf16) (ix2 k j) = argW m c (ix2 k ⟨512 * (t.val % 11) + j.val, by omega⟩) := by
  blk_simp [iblk, idx t]
  entry_read
  pointwise
  blk_ext [idx t]

theorem blk3 (c : Dev nD) (t : Fin cfg0.N) (k : Fin 2048) (j : Fin 512) :
    (iblk m c 3 t : Vec Ideal S2048x512 .bf16) (ix2 k j) = argW m c (ix2 k ⟨5632 + (512 * (t.val % 11) + j.val), by omega⟩) := by
  blk_simp [iblk, idx t]
  entry_read
  pointwise
  blk_ext [idx t]

theorem blk4 (c : Dev nD) (t : Fin cfg0.N) (j : Fin 512) (n : Fin 2048) :
    (iblk m c 4 t : Vec Ideal S512x2048 .bf16) (ix2 j n) = argU m c (ix2 ⟨512 * (t.val % 11) + j.val, by omega⟩ n) := by
  blk_simp [iblk, idx t]
  entry_read
  pointwise
  blk_ext [idx t]

end Cert.Proof.Ffn

end
-- ==== Proof.Ffn.State.lean ====
/- What the result block and the normed rows hold after each point of the launch, and the array after the run. -/
module

public import proofs.«01_k».proof.Proof.Ffn.Blocks
public import Idealize.ShloMosaic.Lib.Pipeline.ReadBack

@[expose] public section

set_option maxRecDepth 16384

noncomputable section

namespace Cert.Proof.Ffn

open Cert.Kernel2Ideal Cert.Kernel2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

theorem pay1_at (h : Vec Ideal S1024x2048 .f32) (g : Vec Ideal S1x2048 .f32) (r : Fin 1024) (k : Fin 2048) :
    k0_pay1 h g (ix2 r k) = h (ix2 r k) * Ideal.rsqrt (Ideal.div (∑ x, h (ix2 r x) * h (ix2 r x))
      (Ideal.ofBits FTy.f32 1157627904#32) + Ideal.ofBits FTy.f32 897988541#32) * g (ix2 0 k) := by
  pointwise [k0_pay1]

theorem pay2_at (xn : Vec Ideal S1024x2048 .bf16) (wa wb : Vec Ideal S2048x512 .bf16) (acc : Vec Ideal S1024x2048 .f32)
    (w2 : Vec Ideal S512x2048 .bf16) (r : Fin 1024) (n : Fin 2048) :
    k0_pay2 xn wa wb acc w2 (ix2 r n) = acc (ix2 r n) + ∑ j : Fin 512,
      gated (∑ k, xn (ix2 r k) * wa (ix2 k j)) (∑ k, xn (ix2 r k) * wb (ix2 k j)) * w2 (ix2 j n) := by
  pointwise [k0_pay2]
  rfl

/-- A first point of a row block: the normed rows are made and the block starts from the activations. -/
theorem outA (c : Dev nD) (t : Fin cfg0.N) (h0 : t.val % 11 = 0) :
    outsAt0 m c t.val t.isLt = (k0_pay2 (k0_pay1 (iblk m c 0 t) (iblk m c 1 t)) (iblk m c 2 t) (iblk m c 3 t) (iblk m c 0 t) (iblk m c 4 t),
      k0_pay1 (iblk m c 0 t) (iblk m c 1 t)) := by
  rw [outsAt0_A m c t h0]
  frame_out

/-- A later point: the normed rows stay, the block adds its units' parts. -/
theorem outB (c : Dev nD) (t : Fin cfg0.N) (h0 : ¬ t.val % 11 = 0) (p : Vec Ideal S1024x2048 .f32 × Vec Ideal S1024x2048 .bf16)
    (hp : outsAt0 m c (t.val - 1) (Nat.lt_of_le_of_lt (Nat.sub_le _ _) t.isLt) = p) :
    outsAt0 m c t.val t.isLt = (k0_pay2 p.2 (iblk m c 2 t) (iblk m c 3 t) p.1 (iblk m c 4 t), p.2) := by
  rw [outsAt0_B m c t h0, hp]
  frame_out
  unfold sout0_B_0
  rw [read_unread_whole]

/-- The normed rows of a row block, from the block and the gain. -/
theorem normed_at (c : Dev nD) (t : Fin cfg0.N) (r : Fin 1024) (k : Fin 2048) :
    k0_pay1 (iblk m c 0 t : Vec Ideal S1024x2048 .f32) (iblk m c 1 t : Vec Ideal S1x2048 .f32) (ix2 r k)
      = normed (argX m c) (argG m c) (rowOf t r) k := by
  rw [pay1_at, blk1]
  simp only [blk0]
  rfl

/-- One point's addition: the 512 units' parts, if the rows it multiplies are the normed ones. -/
theorem added (c : Dev nD) (t : Fin cfg0.N) (xn : Vec Ideal S1024x2048 .bf16) (acc : Vec Ideal S1024x2048 .f32)
    (hx : ∀ r k, xn (ix2 r k) = normed (argX m c) (argG m c) (rowOf t r) k) (r : Fin 1024) (n : Fin 2048) :
    k0_pay2 xn (iblk m c 2 t : Vec Ideal S2048x512 .bf16) (iblk m c 3 t : Vec Ideal S2048x512 .bf16) acc (iblk m c 4 t : Vec Ideal S512x2048 .bf16) (ix2 r n)
      = acc (ix2 r n) + ∑ j : Fin 512, part (argX m c) (argG m c) (argW m c) (argU m c) (rowOf t r) n (512 * (t.val % 11) + j.val) := by
  rw [pay2_at]
  congr 1
  refine Finset.sum_congr rfl fun j _ => ?_
  have hj : 512 * (t.val % 11) + j.val < 5632 := by omega
  rw [part, dif_pos hj, blk4]
  simp only [hx, blk2, blk3]
  rfl

/-- What a point leaves: the block's running values after its share of the units, and the normed rows. -/
def Holds (c : Dev nD) (t : Fin cfg0.N) (p : Vec Ideal S1024x2048 .f32 × Vec Ideal S1024x2048 .bf16) : Prop :=
  (∀ r n, p.1 (ix2 r n) = upTo (argX m c) (argG m c) (argW m c) (argU m c) (rowOf t r) n (t.val % 11 + 1))
    ∧ ∀ r k, p.2 (ix2 r k) = normed (argX m c) (argG m c) (rowOf t r) k

theorem holds_first (c : Dev nD) (t : Fin cfg0.N) (h0 : t.val % 11 = 0) : Holds m c t (outsAt0 m c t.val t.isLt) := by
  rw [outA m c t h0]
  refine ⟨fun r n => ?_, fun r k => normed_at m c t r k⟩
  dsimp only
  rw [added m c t _ _ (fun r k => normed_at m c t r k), upTo_succ, h0, upTo_zero, blk0]

theorem holds_next (c : Dev nD) (t s : Fin cfg0.N) (h0 : ¬ t.val % 11 = 0) (hs : s.val = t.val - 1)
    (hp : Holds m c s (outsAt0 m c s.val s.isLt)) : Holds m c t (outsAt0 m c t.val t.isLt) := by
  obtain ⟨s, hs'⟩ := s
  dsimp only at hs
  subst hs
  have hrow : ∀ r, rowOf ⟨t.val - 1, hs'⟩ r = rowOf t r := fun r => Fin.ext (by
    show 1024 * ((t.val - 1) / 11) + r.val = 1024 * (t.val / 11) + r.val
    omega)
  have hf : (t.val - 1) % 11 + 1 = t.val % 11 := by omega
  rw [outB m c t h0 _ rfl]
  obtain ⟨h1, h2⟩ := hp
  have h2' : ∀ r k, (outsAt0 m c (t.val - 1) hs').2 (ix2 r k) = normed (argX m c) (argG m c) (rowOf t r) k := fun r k => by
    rw [← hrow r]; exact h2 r k
  refine ⟨fun r n => ?_, h2'⟩
  dsimp only
  rw [added m c t _ _ h2', upTo_succ]
  congr 1
  rw [← hrow r, ← hf]
  exact h1 r n

theorem holds_all (c : Dev nD) : ∀ (n : ℕ) (hn : n < cfg0.N), Holds m c ⟨n, hn⟩ (outsAt0 m c n hn)
  | 0, hn => holds_first m c ⟨0, hn⟩ rfl
  | n + 1, hn => by
    by_cases h0 : (n + 1) % 11 = 0
    · exact holds_first m c ⟨n + 1, hn⟩ h0
    · exact holds_next m c ⟨n + 1, hn⟩ ⟨n, Nat.lt_of_succ_lt hn⟩ h0 rfl (holds_all c n (Nat.lt_of_succ_lt hn))

/-- The whole result. -/
def result (X : FVec Ideal S32768x2048 .f32) (g : FVec Ideal S2048 .f32) (W : FVec Ideal S2048x11264 .f32)
    (U : FVec Ideal S5632x2048 .f32) : FVec Ideal S32768x2048 .f32 := fun i => target X g W U (i 0) (i 1)

/-- The array after the run is the feed-forward part's result. -/
theorem final (c : Dev nD) : (dats m 0 c).arrAt 5 cfg0.N = result (argX m c) (argG m c) (argW m c) (argU m c) := by
  refine (dats m 0 c).arrAt_eq_of_covers 5 _ (by decide +kernel) fun t hf y => ?_
  have hm : t.val % 11 = 10 := (flush0_5 t).mp hf
  blk_simp
  rw [after0_5]
  obtain ⟨h1, -⟩ := holds_all m c t.val t.isLt
  have e := h1 (y 0) (y 1)
  rw [hm] at e
  have hrow : (win0_5.blk t).view.emb y 0 = rowOf t (y 0) := Fin.ext (by blk_simp [idx t]; show _ = 1024 * (t.val / 11) + _; omega)
  have hcol : (win0_5.blk t).view.emb y 1 = y 1 := Fin.ext (by blk_simp [idx t])
  unfold result
  rw [hrow, hcol]
  exact (congrArg (outsAt0 m c t.val t.isLt).1 (eq_ix2 y)).trans e

end Cert.Proof.Ffn

end
-- ==== Proof.Ffn.Plain.lean ====
/- The plain feed-forward part, read at an element. -/
module

public import proofs.«01_k».proof.Proof.Ffn.State
public import proofs.«01_k».proof.Proof.Gen.Reference2Ideal.Run
public import Idealize.ShloMosaic.Adequacy
public import Idealize.ShloMosaic.Lib.Quiescent
public import Idealize.ShloMosaic.Init

@[expose] public section

set_option maxRecDepth 16384

noncomputable section

namespace Cert.Proof.FfnPlain

open Cert.Reference2Ideal Cert.Reference2Ideal.Gen
open Idealize.ShloMosaic Idealize.ShloMosaic.TcCoe Idealize.SL.Sem
open Cert.Proof.Ffn
open scoped BigOperators

/-- The normed rows, -/
def normT (X : FVec Ideal S32768x2048 .f32) (g : FVec Ideal S2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))
/-- their projections, -/
def projT (N : FVec Ideal S32768x2048 .f32) (W : FVec Ideal S2048x11264 .f32) : FVec Ideal S32768x11264 .f32 :=
  Host.dotGeneral dot_S32768x2048_S2048x11264_S32768x11264_1_0_0_1_n_n none N W
/-- the gated units, -/
def gateT (P : FVec Ideal S32768x11264 .f32) : FVec Ideal S32768x5632 .f32 :=
  mulf (mulf (extractStridedSlice S32768x5632 ![0, 0] P slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] P slices_S32768x11264_S32768x5632_0_0)))))) (extractStridedSlice S32768x5632 ![0, 5632] P slices_S32768x11264_S32768x5632_0_5632)
/-- and the result. -/
def outT (X : FVec Ideal S32768x2048 .f32) (A : FVec Ideal S32768x5632 .f32) (U : FVec Ideal S5632x2048 .f32) : FVec Ideal S32768x2048 .f32 :=
  addf X (Host.dotGeneral dot_S32768x5632_S5632x2048_S32768x2048_1_0_0_1_n_n none A U)

theorem norm_at (X : FVec Ideal S32768x2048 .f32) (g : FVec Ideal S2048 .f32) (R : Fin 32768) (k : Fin 2048) :
    normT X g (ix2 R k) = normed X g R k := by
  pointwise [normT]
  rfl

theorem proj_at (N : FVec Ideal S32768x2048 .f32) (W : FVec Ideal S2048x11264 .f32) (R : Fin 32768) (j : Fin 11264) :
    projT N W (ix2 R j) = ∑ k : Fin 2048, N (ix2 R k) * W (ix2 k j) := by
  pointwise [projT]

theorem gate_at (P : FVec Ideal S32768x11264 .f32) (R : Fin 32768) (J : Fin 5632) :
    gateT P (ix2 R J) = gated (P (ix2 R ⟨J.val, by omega⟩)) (P (ix2 R ⟨5632 + J.val, by omega⟩)) := by
  pointwise [gateT, gated]
  rw [zero_sub]

theorem out_at (X : FVec Ideal S32768x2048 .f32) (A : FVec Ideal S32768x5632 .f32) (U : FVec Ideal S5632x2048 .f32) (R : Fin 32768) (n : Fin 2048) :
    outT X A U (ix2 R n) = X (ix2 R n) + ∑ J : Fin 5632, A (ix2 R J) * U (ix2 J n) := by
  pointwise [outT]

/-- The plain program's result is the target. -/
theorem plain (X : FVec Ideal S32768x2048 .f32) (g : FVec Ideal S2048 .f32) (W : FVec Ideal S2048x11264 .f32) (U : FVec Ideal S5632x2048 .f32) :
    outT X (gateT (projT (normT X g) W)) U = result X g W U := by
  funext i
  obtain ⟨R, n, rfl⟩ : ∃ (R : Fin 32768) (n : Fin 2048), i = ix2 R n := ⟨i 0, i 1, eq_ix2 i⟩
  rw [out_at]
  show _ = X (ix2 R n) + ∑ J ∈ Finset.range 5632, part X g W U R n J
  rw [Finset.sum_range]
  congr 1
  refine Finset.sum_congr rfl fun J _ => ?_
  rw [part, dif_pos J.isLt, gate_at, proj_at, proj_at]
  simp only [norm_at]
  rfl

/-- The term that the plain program's run leaves is that result. -/
theorem left (X : FVec Ideal S32768x2048 .f32) (g : FVec Ideal S2048 .f32) (W : FVec Ideal S2048x11264 .f32) (U : FVec Ideal S5632x2048 .f32) :
    addf X (Host.dotGeneral dot_S32768x5632_S5632x2048_S32768x2048_1_0_0_1_n_n none (mulf (mulf (extractStridedSlice S32768x5632 ![0, 0] (Host.dotGeneral dot_S32768x2048_S2048x11264_S32768x11264_1_0_0_1_n_n none (mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) W) slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] (Host.dotGeneral dot_S32768x2048_S2048x11264_S32768x11264_1_0_0_1_n_n none (mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) W) slices_S32768x11264_S32768x5632_0_0)))))) (extractStridedSlice S32768x5632 ![0, 5632] (Host.dotGeneral dot_S32768x2048_S2048x11264_S32768x11264_1_0_0_1_n_n none (mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) W) slices_S32768x11264_S32768x5632_0_5632)) U)
      = result X g W U := by
  rw [← plain]
  unfold outT gateT projT normT
  rfl

variable {F : FTy → Type} [FloatOps F]

/-- The plain program's frame: its arguments end as they were and no semaphore counts. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  exact (θ_run defs _ _).mono (fun r h => ⟨fun c => (h c).2, sem_eq_zero_of_no_sems (by decide) _⟩) (Cert.Reference2Ideal.Value.run m ρ)

end Cert.Proof.FfnPlain

end
-- ==== Proof.Inproj.Spec.lean ====
/- The input projection, one element at a time. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Proof.Inproj

open Cert.Kernel3Ideal Cert.Kernel3Ideal.Gen
open Idealize.ShloMosaic
open scoped BigOperators

/-- A row over the root of its mean square, times the gain. -/
def normed (X : FVec Ideal S36864x2048 .f32) (g : FVec Ideal S2048 .f32) (R : Fin 36864) (k : Fin 2048) : EReal :=
  X (ix2 R k) * Ideal.rsqrt (Ideal.div (∑ x, X (ix2 R x) * X (ix2 R x)) (Ideal.ofBits FTy.f32 1157627904#32)
    + Ideal.ofBits FTy.f32 897988541#32) * g (ix1 k)

/-- The weights' columns in the launch's order. -/
def packT (W : FVec Ideal S2048x14480 .f32) : FVec Ideal S2048x6400 .f32 :=
  concatenate S2048x6400 1 [⟨S2048x1024, (extractStridedSlice S2048x1024 ![0, 0] W slices_S2048x14480_S2048x1024_0_0 : FVec Ideal S2048x1024 .f32)⟩,
    ⟨S2048x2048, (extractStridedSlice S2048x2048 ![0, 1088] W slices_S2048x14480_S2048x2048_0_1088 : FVec Ideal S2048x2048 .f32)⟩,
    ⟨S2048x2048, (extractStridedSlice S2048x2048 ![0, 5264] W slices_S2048x14480_S2048x2048_0_5264 : FVec Ideal S2048x2048 .f32)⟩,
    ⟨S2048x1024, (extractStridedSlice S2048x1024 ![0, 4160] W slices_S2048x14480_S2048x1024_0_4160 : FVec Ideal S2048x1024 .f32)⟩,
    ⟨S2048x64, (extractStridedSlice S2048x64 ![0, 1024] W slices_S2048x14480_S2048x64_0_1024 : FVec Ideal S2048x64 .f32)⟩,
    ⟨S2048x64, (broadcastInDim S2048x64 ![] bcast_S_S2048x64 (constant S_ .f32 0x00000000#32) : FVec Ideal S2048x64 .f32)⟩,
    ⟨S2048x80, (extractStridedSlice S2048x80 ![0, 5184] W slices_S2048x14480_S2048x80_0_5184 : FVec Ideal S2048x80 .f32)⟩,
    ⟨S2048x48, (broadcastInDim S2048x48 ![] bcast_S_S2048x48 (constant S_ .f32 0x00000000#32) : FVec Ideal S2048x48 .f32)⟩] concatenates_S2048x1024_S2048x2048_S2048x2048_S2048x1024_S2048x64_S2048x64_S2048x80_S2048x48_S2048x6400_d1

/-- The whole result: each normed row times each of those columns. -/
def result (X : FVec Ideal S36864x2048 .f32) (g : FVec Ideal S2048 .f32) (W : FVec Ideal S2048x14480 .f32) : FVec Ideal S36864x6400 .f32 :=
  fun i => ∑ k : Fin 2048, normed X g (i 0) k * packT W (ix2 k (i 1))

end Cert.Proof.Inproj

end
-- ==== Proof.Inproj.Pick.lean ====
/- The columns the launch keeps, and in which order. -/
module

public import proofs.«01_k».proof.Proof.Inproj.Spec

@[expose] public section

set_option maxRecDepth 16384

noncomputable section

namespace Cert.Proof.Inproj

open Cert.Kernel3Ideal Cert.Kernel3Ideal.Gen
open Idealize.ShloMosaic
open scoped BigOperators

/-- Which of the projection's columns stands at each place. -/
def pick (f : Fin 14480 → EReal) (j : Fin 6400) : EReal :=
  if h : j.val < 1024 then f ⟨j.val, by omega⟩
  else if h : j.val < 3072 then f ⟨1088 + (j.val - 1024), by omega⟩
  else if h : j.val < 5120 then f ⟨5264 + (j.val - 3072), by omega⟩
  else if h : j.val < 6144 then f ⟨4160 + (j.val - 5120), by omega⟩
  else if h : j.val < 6208 then f ⟨1024 + (j.val - 6144), by omega⟩
  else if h : j.val < 6272 then 0
  else if h : j.val < 6352 then f ⟨5184 + (j.val - 6272), by omega⟩
  else 0

theorem pack_at (W : FVec Ideal S2048x14480 .f32) (k : Fin 2048) (j : Fin 6400) :
    packT W (ix2 k j) = pick (fun n => W (ix2 k n)) j := by
  pointwise [packT]
  unfold pick
  repeat' split
  all_goals first
    | (exfalso; omega)
    | exact congrArg (fun n => W (ix2 k n)) (Fin.ext (by first | omega | (dsimp only; omega) | dsimp only))
    | rfl

/-- A row times the picked column is the picked one of the products. -/
theorem sum_pick (a : Fin 2048 → EReal) (f : Fin 2048 → Fin 14480 → EReal) (j : Fin 6400) :
    ∑ k, a k * pick (f k) j = pick (fun n => ∑ k, a k * f k n) j := by
  unfold pick
  split_ifs <;> simp

end Cert.Proof.Inproj

end
-- ==== Proof.Inproj.Blocks.lean ====
/- The blocks of the launch, read at an element: which element of the arguments each holds. -/
module

public import proofs.«01_k».proof.Proof.Inproj.Spec

@[expose] public section

set_option maxRecDepth 16384

noncomputable section

namespace Cert.Proof.Inproj

open Cert.Kernel3Ideal Cert.Kernel3Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The activations, gain and weights as the launch's memory holds them. -/
abbrev argX (c : Dev nD) : FVec Ideal S36864x2048 .f32 := m ((c : Thread nD τ).loc main_arg0)
abbrev argG (c : Dev nD) : FVec Ideal S2048 .f32 := m ((c : Thread nD τ).loc main_arg1)
abbrev argW (c : Dev nD) : FVec Ideal S2048x14480 .f32 := m ((c : Thread nD τ).loc main_arg2)

/-- The windows' index maps: row block `t / 5`, column block `t % 5`. -/
theorem idx : ∀ t : Fin cfg0.N, win0_0.index t = ![t.val / 5, 0] ∧ win0_1.index t = ![0, 0]
    ∧ win0_2.index t = ![0, t.val % 5] ∧ win0_3.index t = ![t.val / 5, t.val % 5] ∧ t.val / 5 < 36 :=
  (by decide +kernel : ∀ t : Fin grid0.N, _)

/-- The row of the array that row `r` of point `t`'s block is. -/
def rowOf (t : Fin cfg0.N) (r : Fin 1024) : Fin 36864 := ⟨1024 * (t.val / 5) + r.val, by have := (idx t).2.2.2.2; omega⟩

/-- The column of the array that column `j` of point `t`'s block is. -/
def colOf (t : Fin cfg0.N) (j : Fin 1280) : Fin 6400 := ⟨1280 * (t.val % 5) + j.val, by omega⟩

theorem blk0 (c : Dev nD) (t : Fin cfg0.N) (r : Fin 1024) (k : Fin 2048) :
    (iblk m c 0 t : Vec Ideal S1024x2048 .f32) (ix2 r k) = argX m c (ix2 (rowOf t r) k) := by
  blk_ext [iblk, V, idx t, rowOf]

theorem blk1 (c : Dev nD) (t : Fin cfg0.N) (k : Fin 2048) :
    (iblk m c 1 t : Vec Ideal S1x2048 .f32) (ix2 0 k) = argG m c (ix1 k) := by
  blk_simp [iblk, idx t]
  entry_read
  pointwise
  blk_ext [idx t]

set_option maxHeartbeats 2000000 in
/-- The packed weights as the launch's memory holds them. -/
theorem packed (c : Dev nD) : V m c main_v10 = truncf .bf16 (packT (argW m c)) bitsLt_bf16_f32 := by
  unfold V
  after_results_simp
  dsimp only [Matrix.cons_val]
  rfl

theorem blk2 (c : Dev nD) (t : Fin cfg0.N) (k : Fin 2048) (j : Fin 1280) :
    (iblk m c 2 t : Vec Ideal S2048x1280 .bf16) (ix2 k j) = packT (argW m c) (ix2 k (colOf t j)) := by
  have e : (iblk m c 2 t : Vec Ideal S2048x1280 .bf16) (ix2 k j) = V m c main_v10 (ix2 k (colOf t j)) := by
    blk_ext [iblk, idx t, colOf]
  rw [e, packed]
  rfl

end Cert.Proof.Inproj

end
-- ==== Proof.Inproj.State.lean ====
/- What the result block and the normed rows hold after each point of the launch, and the array after the run. -/
module

public import proofs.«01_k».proof.Proof.Inproj.Blocks
public import Idealize.ShloMosaic.Lib.Pipeline.ReadBack

@[expose] public section

set_option maxRecDepth 16384

noncomputable section

namespace Cert.Proof.Inproj

open Cert.Kernel3Ideal Cert.Kernel3Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

theorem pay1_at (h : Vec Ideal S1024x2048 .f32) (g : Vec Ideal S1x2048 .f32) (r : Fin 1024) (k : Fin 2048) :
    k0_pay1 h g (ix2 r k) = h (ix2 r k) * Ideal.rsqrt (Ideal.div (∑ x, h (ix2 r x) * h (ix2 r x))
      (Ideal.ofBits FTy.f32 1157627904#32) + Ideal.ofBits FTy.f32 897988541#32) * g (ix2 0 k) := by
  pointwise [k0_pay1]

theorem pay2_at (xn : Vec Ideal S1024x2048 .bf16) (w : Vec Ideal S2048x1280 .bf16) (r : Fin 1024) (j : Fin 1280) :
    k0_pay2 xn w (ix2 r j) = ∑ k : Fin 2048, xn (ix2 r k) * w (ix2 k j) := by
  pointwise [k0_pay2]

/-- A first point of a row block: the normed rows are made. -/
theorem outA (c : Dev nD) (t : Fin cfg0.N) (h0 : t.val % 5 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  frame_out

/-- A later point: the normed rows stay. -/
theorem outB (c : Dev nD) (t : Fin cfg0.N) (h0 : ¬ t.val % 5 = 0) (p : Vec Ideal S1024x1280 .f32 × Vec Ideal S1024x2048 .bf16)
    (hp : outsAt0 m c (t.val - 1) (Nat.lt_of_le_of_lt (Nat.sub_le _ _) t.isLt) = p) :
    outsAt0 m c t.val t.isLt = (k0_pay2 p.2 (iblk m c 2 t), p.2) := by
  rw [outsAt0_B m c t h0, hp]
  frame_out
  unfold sout0_B_0
  rw [read_unread_whole]

/-- The normed rows of a row block, from the block and the gain. -/
theorem normed_at (c : Dev nD) (t : Fin cfg0.N) (r : Fin 1024) (k : Fin 2048) :
    k0_pay1 (iblk m c 0 t : Vec Ideal S1024x2048 .f32) (iblk m c 1 t : Vec Ideal S1x2048 .f32) (ix2 r k)
      = normed (argX m c) (argG m c) (rowOf t r) k := by
  rw [pay1_at, blk1]
  simp only [blk0]
  rfl

/-- One point's block, if the rows it multiplies are the normed ones. -/
theorem made (c : Dev nD) (t : Fin cfg0.N) (xn : Vec Ideal S1024x2048 .bf16)
    (hx : ∀ r k, xn (ix2 r k) = normed (argX m c) (argG m c) (rowOf t r) k) (r : Fin 1024) (j : Fin 1280) :
    k0_pay2 xn (iblk m c 2 t : Vec Ideal S2048x1280 .bf16) (ix2 r j)
      = result (argX m c) (argG m c) (argW m c) (ix2 (rowOf t r) (colOf t j)) := by
  rw [pay2_at]
  simp only [hx, blk2]
  rfl

/-- What a point leaves: its block of the result, and the normed rows. -/
def Holds (c : Dev nD) (t : Fin cfg0.N) (p : Vec Ideal S1024x1280 .f32 × Vec Ideal S1024x2048 .bf16) : Prop :=
  (∀ r j, p.1 (ix2 r j) = result (argX m c) (argG m c) (argW m c) (ix2 (rowOf t r) (colOf t j)))
    ∧ ∀ r k, p.2 (ix2 r k) = normed (argX m c) (argG m c) (rowOf t r) k

theorem holds_first (c : Dev nD) (t : Fin cfg0.N) (h0 : t.val % 5 = 0) : Holds m c t (outsAt0 m c t.val t.isLt) := by
  rw [outA m c t h0]
  exact ⟨fun r j => made m c t _ (fun r k => normed_at m c t r k) r j, fun r k => normed_at m c t r k⟩

theorem holds_next (c : Dev nD) (t s : Fin cfg0.N) (h0 : ¬ t.val % 5 = 0) (hs : s.val = t.val - 1)
    (hp : Holds m c s (outsAt0 m c s.val s.isLt)) : Holds m c t (outsAt0 m c t.val t.isLt) := by
  obtain ⟨s, hs'⟩ := s
  dsimp only at hs
  subst hs
  have hrow : ∀ r, rowOf ⟨t.val - 1, hs'⟩ r = rowOf t r := fun r => Fin.ext (by
    show 1024 * ((t.val - 1) / 5) + r.val = 1024 * (t.val / 5) + r.val
    omega)
  rw [outB m c t h0 _ rfl]
  obtain ⟨-, h2⟩ := hp
  have h2' : ∀ r k, (outsAt0 m c (t.val - 1) hs').2 (ix2 r k) = normed (argX m c) (argG m c) (rowOf t r) k := fun r k => by
    rw [← hrow r]; exact h2 r k
  exact ⟨fun r j => made m c t _ h2' r j, h2'⟩

theorem holds_all (c : Dev nD) : ∀ (n : ℕ) (hn : n < cfg0.N), Holds m c ⟨n, hn⟩ (outsAt0 m c n hn)
  | 0, hn => holds_first m c ⟨0, hn⟩ rfl
  | n + 1, hn => by
    by_cases h0 : (n + 1) % 5 = 0
    · exact holds_first m c ⟨n + 1, hn⟩ h0
    · exact holds_next m c ⟨n + 1, hn⟩ ⟨n, Nat.lt_of_succ_lt hn⟩ h0 rfl (holds_all c n (Nat.lt_of_succ_lt hn))

/-- The array after the run is the projection. -/
theorem final (c : Dev nD) : (dats m 0 c).arrAt 3 cfg0.N = result (argX m c) (argG m c) (argW m c) := by
  refine (dats m 0 c).arrAt_eq_of_covers 3 _ (by decide +kernel) fun t hf y => ?_
  blk_simp
  rw [after0_3]
  obtain ⟨h1, -⟩ := holds_all m c t.val t.isLt
  have e := h1 (y 0) (y 1)
  have hrow : (win0_3.blk t).view.emb y 0 = rowOf t (y 0) := Fin.ext (by blk_simp [idx t]; show _ = 1024 * (t.val / 5) + _; omega)
  have hcol : (win0_3.blk t).view.emb y 1 = colOf t (y 1) := Fin.ext (by blk_simp [idx t]; show _ = 1280 * (t.val % 5) + _; omega)
  have hy : (win0_3.blk t).view.emb y = ix2 (rowOf t (y 0)) (colOf t (y 1)) := by
    rw [eq_ix2 ((win0_3.blk t).view.emb y), hrow, hcol]
  rw [hy]
  exact (congrArg (outsAt0 m c t.val t.isLt).1 (eq_ix2 y)).trans e

end Cert.Proof.Inproj

end
-- ==== Proof.Inproj.Plain.lean ====
/- The plain input projection, read at an element. -/
module

public import proofs.«01_k».proof.Proof.Inproj.Pick
public import proofs.«01_k».proof.Proof.Inproj.State
public import proofs.«01_k».proof.Proof.Gen.Reference3Ideal.Run
public import Idealize.ShloMosaic.Adequacy
public import Idealize.ShloMosaic.Lib.Quiescent
public import Idealize.ShloMosaic.Init

@[expose] public section

set_option maxRecDepth 16384

noncomputable section

namespace Cert.Proof.InprojPlain

open Cert.Reference3Ideal Cert.Reference3Ideal.Gen
open Idealize.ShloMosaic Idealize.ShloMosaic.TcCoe Idealize.SL.Sem
open Cert.Proof.Inproj
open scoped BigOperators

/-- The normed rows, -/
def normT (X : FVec Ideal S36864x2048 .f32) (g : FVec Ideal S2048 .f32) : FVec Ideal S36864x2048 .f32 :=
  mulf (mulf X (broadcastInDim S36864x2048 ![0, 1] bcast_S36864x1_S36864x2048_0_1 (Host.rsqrt (addf (Host.divf (broadcastInDim S36864x1 ![0] bcast_S36864_S36864x1_0 (Host.reduceAdd (mulf X X) (constant S_ .f32 0x00000000#32) reducesTo_S36864x2048_S36864_d1 h_S_)) (broadcastInDim S36864x1 ![] bcast_S_S36864x1 (constant S_ .f32 0x45000000#32))) (broadcastInDim S36864x1 ![] bcast_S_S36864x1 (constant S_ .f32 0x358637BD#32)))))) (broadcastInDim S36864x2048 ![0, 1] bcast_S1x2048_S36864x2048_0_1 (broadcastInDim S1x2048 ![1] bcast_S2048_S1x2048_1 g))
/-- their projections, -/
def projT (N : FVec Ideal S36864x2048 .f32) (W : FVec Ideal S2048x14480 .f32) : FVec Ideal S36864x14480 .f32 :=
  Host.dotGeneral dot_S36864x2048_S2048x14480_S36864x14480_1_0_0_1_n_n none N W
/-- and the kept columns, side by side. -/
def catT (P : FVec Ideal S36864x14480 .f32) : FVec Ideal S36864x6400 .f32 :=
  (concatenate S36864x6400 1 [⟨S36864x512, ((extractStridedSlice S36864x512 ![0, 0] P slices_S36864x14480_S36864x512_0_0) : FVec Ideal S36864x512 .f32)⟩, ⟨S36864x512, ((extractStridedSlice S36864x512 ![0, 512] P slices_S36864x14480_S36864x512_0_512) : FVec Ideal S36864x512 .f32)⟩, ⟨S36864x1024, ((extractStridedSlice S36864x1024 ![0, 1088] P slices_S36864x14480_S36864x1024_0_1088) : FVec Ideal S36864x1024 .f32)⟩, ⟨S36864x1024, ((extractStridedSlice S36864x1024 ![0, 2112] P slices_S36864x14480_S36864x1024_0_2112) : FVec Ideal S36864x1024 .f32)⟩, ⟨S36864x1024, ((extractStridedSlice S36864x1024 ![0, 5264] P slices_S36864x14480_S36864x1024_0_5264) : FVec Ideal S36864x1024 .f32)⟩, ⟨S36864x1024, ((extractStridedSlice S36864x1024 ![0, 6288] P slices_S36864x14480_S36864x1024_0_6288) : FVec Ideal S36864x1024 .f32)⟩, ⟨S36864x1024, ((extractStridedSlice S36864x1024 ![0, 4160] P slices_S36864x14480_S36864x1024_0_4160) : FVec Ideal S36864x1024 .f32)⟩, ⟨S36864x64, ((extractStridedSlice S36864x64 ![0, 1024] P slices_S36864x14480_S36864x64_0_1024) : FVec Ideal S36864x64 .f32)⟩, ⟨S36864x64, ((broadcastInDim S36864x64 ![] bcast_S_S36864x64 (constant S_ .f32 0x00000000#32)) : FVec Ideal S36864x64 .f32)⟩, ⟨S36864x64, ((extractStridedSlice S36864x64 ![0, 5184] P slices_S36864x14480_S36864x64_0_5184) : FVec Ideal S36864x64 .f32)⟩, ⟨S36864x16, ((extractStridedSlice S36864x16 ![0, 5248] P slices_S36864x14480_S36864x16_0_5248) : FVec Ideal S36864x16 .f32)⟩, ⟨S36864x48, ((broadcastInDim S36864x48 ![] bcast_S_S36864x48 (constant S_ .f32 0x00000000#32)) : FVec Ideal S36864x48 .f32)⟩] concatenates_S36864x512_S36864x512_S36864x1024_S36864x1024_S36864x1024_S36864x1024_S36864x1024_S36864x64_S36864x64_S36864x64_S36864x16_S36864x48_S36864x6400_d1 : FVec Ideal S36864x6400 .f32)

theorem norm_at (X : FVec Ideal S36864x2048 .f32) (g : FVec Ideal S2048 .f32) (R : Fin 36864) (k : Fin 2048) :
    normT X g (ix2 R k) = normed X g R k := by
  pointwise [normT]
  rfl

theorem proj_at (N : FVec Ideal S36864x2048 .f32) (W : FVec Ideal S2048x14480 .f32) (R : Fin 36864) (j : Fin 14480) :
    projT N W (ix2 R j) = ∑ k : Fin 2048, N (ix2 R k) * W (ix2 k j) := by
  pointwise [projT]

theorem cat_at (P : FVec Ideal S36864x14480 .f32) (R : Fin 36864) (j : Fin 6400) :
    catT P (ix2 R j) = pick (fun n => P (ix2 R n)) j := by
  pointwise [catT]
  unfold pick
  have hj := j.isLt
  rcases (by omega : (0 ≤ j.val ∧ j.val < 512) ∨ (512 ≤ j.val ∧ j.val < 1024) ∨ (1024 ≤ j.val ∧ j.val < 2048) ∨ (2048 ≤ j.val ∧ j.val < 3072) ∨ (3072 ≤ j.val ∧ j.val < 4096) ∨ (4096 ≤ j.val ∧ j.val < 5120) ∨ (5120 ≤ j.val ∧ j.val < 6144) ∨ (6144 ≤ j.val ∧ j.val < 6208) ∨ (6208 ≤ j.val ∧ j.val < 6272) ∨ (6272 ≤ j.val ∧ j.val < 6336) ∨ (6336 ≤ j.val ∧ j.val < 6352) ∨ (6352 ≤ j.val ∧ j.val < 6400)) with h | h | h | h | h | h | h | h | h | h | h | h
  all_goals repeat first | rw [dif_pos (by omega)] | rw [dif_neg (by omega)]
  all_goals first
    | exact congrArg (fun n => P (ix2 R n)) (Fin.ext (by first | omega | (dsimp only; omega) | dsimp only))
    | rfl

/-- The plain program's result is the projection. -/
theorem plain (X : FVec Ideal S36864x2048 .f32) (g : FVec Ideal S2048 .f32) (W : FVec Ideal S2048x14480 .f32) :
    catT (projT (normT X g) W) = result X g W := by
  funext i
  obtain ⟨R, j, rfl⟩ : ∃ (R : Fin 36864) (j : Fin 6400), i = ix2 R j := ⟨i 0, i 1, eq_ix2 i⟩
  rw [cat_at]
  show _ = ∑ k : Fin 2048, normed X g R k * packT W (ix2 k j)
  simp only [pack_at, sum_pick, proj_at, norm_at]

/-- What the plain program's run leaves is the projection. -/
theorem left (m : (ℓ : Loc nD τ sig) → Buf (Elt Ideal) ℓ) (c : Dev nD) :
    Cert.Reference3Ideal.Value.res_main_v29 m c = result (m ((c.tc : Thread nD τ).loc main_arg0)) (m ((c.tc : Thread nD τ).loc main_arg1)) (m ((c.tc : Thread nD τ).loc main_arg2)) := by
  rw [← plain]
  unfold catT projT normT Cert.Reference3Ideal.Value.res_main_v29
  rfl

variable {F : FTy → Type} [FloatOps F]

/-- The plain program's frame: its arguments end as they were and no semaphore counts. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  exact (θ_run defs _ _).mono (fun r h => ⟨fun c => (h c).2, sem_eq_zero_of_no_sems (by decide) _⟩) (Cert.Reference3Ideal.Value.run m ρ)

end Cert.Proof.InprojPlain

end
-- ==== Proof.Inproj16.Spec.lean ====
/- The input projection, one element at a time. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Proof.Inproj16

open Cert.Kernel4Ideal Cert.Kernel4Ideal.Gen
open Idealize.ShloMosaic
open scoped BigOperators

/-- A row over the root of its mean square, times the gain. -/
def normed (X : FVec Ideal S36864x2048 .f32) (g : FVec Ideal S2048 .f32) (R : Fin 36864) (k : Fin 2048) : EReal :=
  X (ix2 R k) * Ideal.rsqrt (Ideal.div (∑ x, X (ix2 R x) * X (ix2 R x)) (Ideal.ofBits FTy.f32 1157627904#32)
    + Ideal.ofBits FTy.f32 897988541#32) * g (ix1 k)

/-- The weights' columns in the launch's order. -/
def packT (W : FVec Ideal S2048x14480 .f32) : FVec Ideal S2048x8192 .f32 :=
  concatenate S2048x8192 1 [⟨S2048x1024, (extractStridedSlice S2048x1024 ![0, 3136] W slices_S2048x14480_S2048x1024_0_3136 : FVec Ideal S2048x1024 .f32)⟩,
    ⟨S2048x1024, (extractStridedSlice S2048x1024 ![0, 7312] W slices_S2048x14480_S2048x1024_0_7312 : FVec Ideal S2048x1024 .f32)⟩,
    ⟨S2048x6144, (extractStridedSlice S2048x6144 ![0, 8336] W slices_S2048x14480_S2048x6144_0_8336 : FVec Ideal S2048x6144 .f32)⟩] concatenates_S2048x1024_S2048x1024_S2048x6144_S2048x8192_d1

/-- The whole result: each normed row times each of those columns. -/
def result (X : FVec Ideal S36864x2048 .f32) (g : FVec Ideal S2048 .f32) (W : FVec Ideal S2048x14480 .f32) : FVec Ideal S36864x8192 .bf16 :=
  fun i => ∑ k : Fin 2048, normed X g (i 0) k * packT W (ix2 k (i 1))

end Cert.Proof.Inproj16

end
-- ==== Proof.Inproj16.Pick.lean ====
/- The columns the launch keeps, and in which order. -/
module

public import proofs.«01_k».proof.Proof.Inproj16.Spec

@[expose] public section

set_option maxRecDepth 16384

noncomputable section

namespace Cert.Proof.Inproj16

open Cert.Kernel4Ideal Cert.Kernel4Ideal.Gen
open Idealize.ShloMosaic
open scoped BigOperators

/-- Which of the projection's columns stands at each place. -/
def pick (f : Fin 14480 → EReal) (j : Fin 8192) : EReal :=
  if h : j.val < 1024 then f ⟨3136 + j.val, by omega⟩
  else if h : j.val < 2048 then f ⟨7312 + (j.val - 1024), by omega⟩
  else f ⟨8336 + (j.val - 2048), by omega⟩

theorem pack_at (W : FVec Ideal S2048x14480 .f32) (k : Fin 2048) (j : Fin 8192) :
    packT W (ix2 k j) = pick (fun n => W (ix2 k n)) j := by
  pointwise [packT]
  unfold pick
  repeat' split
  all_goals first
    | (exfalso; omega)
    | exact congrArg (fun n => W (ix2 k n)) (Fin.ext (by first | omega | (dsimp only; omega) | dsimp only))
    | rfl

/-- A row times the picked column is the picked one of the products. -/
theorem sum_pick (a : Fin 2048 → EReal) (f : Fin 2048 → Fin 14480 → EReal) (j : Fin 8192) :
    ∑ k, a k * pick (f k) j = pick (fun n => ∑ k, a k * f k n) j := by
  unfold pick
  split_ifs <;> simp

end Cert.Proof.Inproj16

end
-- ==== Proof.Inproj16.Blocks.lean ====
/- The blocks of the launch, read at an element: which element of the arguments each holds. -/
module

public import proofs.«01_k».proof.Proof.Inproj16.Spec

@[expose] public section

set_option maxRecDepth 16384

noncomputable section

namespace Cert.Proof.Inproj16

open Cert.Kernel4Ideal Cert.Kernel4Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The activations, gain and weights as the launch's memory holds them. -/
abbrev argX (c : Dev nD) : FVec Ideal S36864x2048 .f32 := m ((c : Thread nD τ).loc main_arg0)
abbrev argG (c : Dev nD) : FVec Ideal S2048 .f32 := m ((c : Thread nD τ).loc main_arg1)
abbrev argW (c : Dev nD) : FVec Ideal S2048x14480 .f32 := m ((c : Thread nD τ).loc main_arg2)

/-- The windows' index maps: row block `t / 8`, column block `t % 8`. -/
theorem idx : ∀ t : Fin cfg0.N, win0_0.index t = ![t.val / 8, 0] ∧ win0_1.index t = ![0, 0]
    ∧ win0_2.index t = ![0, t.val % 8] ∧ win0_3.index t = ![t.val / 8, t.val % 8] ∧ t.val / 8 < 36 :=
  (by decide +kernel : ∀ t : Fin grid0.N, _)

/-- The row of the array that row `r` of point `t`'s block is. -/
def rowOf (t : Fin cfg0.N) (r : Fin 1024) : Fin 36864 := ⟨1024 * (t.val / 8) + r.val, by have := (idx t).2.2.2.2; omega⟩

/-- The column of the array that column `j` of point `t`'s block is. -/
def colOf (t : Fin cfg0.N) (j : Fin 1024) : Fin 8192 := ⟨1024 * (t.val % 8) + j.val, by omega⟩

theorem blk0 (c : Dev nD) (t : Fin cfg0.N) (r : Fin 1024) (k : Fin 2048) :
    (iblk m c 0 t : Vec Ideal S1024x2048 .f32) (ix2 r k) = argX m c (ix2 (rowOf t r) k) := by
  blk_ext [iblk, V, idx t, rowOf]

theorem blk1 (c : Dev nD) (t : Fin cfg0.N) (k : Fin 2048) :
    (iblk m c 1 t : Vec Ideal S1x2048 .f32) (ix2 0 k) = argG m c (ix1 k) := by
  blk_simp [iblk, idx t]
  entry_read
  pointwise
  blk_ext [idx t]

set_option maxHeartbeats 2000000 in
/-- The packed weights as the launch's memory holds them. -/
theorem packed (c : Dev nD) : V m c main_v5 = truncf .bf16 (packT (argW m c)) bitsLt_bf16_f32 := by
  unfold V
  after_results_simp
  dsimp only [Matrix.cons_val]
  rfl

theorem blk2 (c : Dev nD) (t : Fin cfg0.N) (k : Fin 2048) (j : Fin 1024) :
    (iblk m c 2 t : Vec Ideal S2048x1024 .bf16) (ix2 k j) = packT (argW m c) (ix2 k (colOf t j)) := by
  have e : (iblk m c 2 t : Vec Ideal S2048x1024 .bf16) (ix2 k j) = V m c main_v5 (ix2 k (colOf t j)) := by
    blk_ext [iblk, idx t, colOf]
  rw [e, packed]
  rfl

end Cert.Proof.Inproj16

end
-- ==== Proof.Inproj16.State.lean ====
/- What the result block and the normed rows hold after each point of the launch, and the array after the run. -/
module

public import proofs.«01_k».proof.Proof.Inproj16.Blocks
public import Idealize.ShloMosaic.Lib.Pipeline.ReadBack

@[expose] public section

set_option maxRecDepth 16384

noncomputable section

namespace Cert.Proof.Inproj16

open Cert.Kernel4Ideal Cert.Kernel4Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

theorem pay1_at (h : Vec Ideal S1024x2048 .f32) (g : Vec Ideal S1x2048 .f32) (r : Fin 1024) (k : Fin 2048) :
    k0_pay1 h g (ix2 r k) = h (ix2 r k) * Ideal.rsqrt (Ideal.div (∑ x, h (ix2 r x) * h (ix2 r x))
      (Ideal.ofBits FTy.f32 1157627904#32) + Ideal.ofBits FTy.f32 897988541#32) * g (ix2 0 k) := by
  pointwise [k0_pay1]

theorem pay2_at (xn : Vec Ideal S1024x2048 .bf16) (w : Vec Ideal S2048x1024 .bf16) (r : Fin 1024) (j : Fin 1024) :
    k0_pay2 xn w (ix2 r j) = ∑ k : Fin 2048, xn (ix2 r k) * w (ix2 k j) := by
  pointwise [k0_pay2]

/-- A first point of a row block: the normed rows are made. -/
theorem outA (c : Dev nD) (t : Fin cfg0.N) (h0 : t.val % 8 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  frame_out

/-- A later point: the normed rows stay. -/
theorem outB (c : Dev nD) (t : Fin cfg0.N) (h0 : ¬ t.val % 8 = 0) (p : Vec Ideal S1024x1024 .bf16 × Vec Ideal S1024x2048 .bf16)
    (hp : outsAt0 m c (t.val - 1) (Nat.lt_of_le_of_lt (Nat.sub_le _ _) t.isLt) = p) :
    outsAt0 m c t.val t.isLt = (k0_pay2 p.2 (iblk m c 2 t), p.2) := by
  rw [outsAt0_B m c t h0, hp]
  frame_out
  unfold sout0_B_0
  rw [read_unread_whole]

/-- The normed rows of a row block, from the block and the gain. -/
theorem normed_at (c : Dev nD) (t : Fin cfg0.N) (r : Fin 1024) (k : Fin 2048) :
    k0_pay1 (iblk m c 0 t : Vec Ideal S1024x2048 .f32) (iblk m c 1 t : Vec Ideal S1x2048 .f32) (ix2 r k)
      = normed (argX m c) (argG m c) (rowOf t r) k := by
  rw [pay1_at, blk1]
  simp only [blk0]
  rfl

/-- One point's block, if the rows it multiplies are the normed ones. -/
theorem made (c : Dev nD) (t : Fin cfg0.N) (xn : Vec Ideal S1024x2048 .bf16)
    (hx : ∀ r k, xn (ix2 r k) = normed (argX m c) (argG m c) (rowOf t r) k) (r : Fin 1024) (j : Fin 1024) :
    k0_pay2 xn (iblk m c 2 t : Vec Ideal S2048x1024 .bf16) (ix2 r j)
      = result (argX m c) (argG m c) (argW m c) (ix2 (rowOf t r) (colOf t j)) := by
  rw [pay2_at]
  simp only [hx, blk2]
  rfl

/-- What a point leaves: its block of the result, and the normed rows. -/
def Holds (c : Dev nD) (t : Fin cfg0.N) (p : Vec Ideal S1024x1024 .bf16 × Vec Ideal S1024x2048 .bf16) : Prop :=
  (∀ r j, p.1 (ix2 r j) = result (argX m c) (argG m c) (argW m c) (ix2 (rowOf t r) (colOf t j)))
    ∧ ∀ r k, p.2 (ix2 r k) = normed (argX m c) (argG m c) (rowOf t r) k

theorem holds_first (c : Dev nD) (t : Fin cfg0.N) (h0 : t.val % 8 = 0) : Holds m c t (outsAt0 m c t.val t.isLt) := by
  rw [outA m c t h0]
  exact ⟨fun r j => made m c t _ (fun r k => normed_at m c t r k) r j, fun r k => normed_at m c t r k⟩

theorem holds_next (c : Dev nD) (t s : Fin cfg0.N) (h0 : ¬ t.val % 8 = 0) (hs : s.val = t.val - 1)
    (hp : Holds m c s (outsAt0 m c s.val s.isLt)) : Holds m c t (outsAt0 m c t.val t.isLt) := by
  obtain ⟨s, hs'⟩ := s
  dsimp only at hs
  subst hs
  have hrow : ∀ r, rowOf ⟨t.val - 1, hs'⟩ r = rowOf t r := fun r => Fin.ext (by
    show 1024 * ((t.val - 1) / 8) + r.val = 1024 * (t.val / 8) + r.val
    omega)
  rw [outB m c t h0 _ rfl]
  obtain ⟨-, h2⟩ := hp
  have h2' : ∀ r k, (outsAt0 m c (t.val - 1) hs').2 (ix2 r k) = normed (argX m c) (argG m c) (rowOf t r) k := fun r k => by
    rw [← hrow r]; exact h2 r k
  exact ⟨fun r j => made m c t _ h2' r j, h2'⟩

theorem holds_all (c : Dev nD) : ∀ (n : ℕ) (hn : n < cfg0.N), Holds m c ⟨n, hn⟩ (outsAt0 m c n hn)
  | 0, hn => holds_first m c ⟨0, hn⟩ rfl
  | n + 1, hn => by
    by_cases h0 : (n + 1) % 8 = 0
    · exact holds_first m c ⟨n + 1, hn⟩ h0
    · exact holds_next m c ⟨n + 1, hn⟩ ⟨n, Nat.lt_of_succ_lt hn⟩ h0 rfl (holds_all c n (Nat.lt_of_succ_lt hn))

/-- The array after the run is the projection. -/
theorem final (c : Dev nD) : (dats m 0 c).arrAt 3 cfg0.N = result (argX m c) (argG m c) (argW m c) := by
  refine (dats m 0 c).arrAt_eq_of_covers 3 _ (by decide +kernel) fun t hf y => ?_
  blk_simp
  rw [after0_3]
  obtain ⟨h1, -⟩ := holds_all m c t.val t.isLt
  have e := h1 (y 0) (y 1)
  have hrow : (win0_3.blk t).view.emb y 0 = rowOf t (y 0) := Fin.ext (by blk_simp [idx t]; show _ = 1024 * (t.val / 8) + _; omega)
  have hcol : (win0_3.blk t).view.emb y 1 = colOf t (y 1) := Fin.ext (by blk_simp [idx t]; show _ = 1024 * (t.val % 8) + _; omega)
  have hy : (win0_3.blk t).view.emb y = ix2 (rowOf t (y 0)) (colOf t (y 1)) := by
    rw [eq_ix2 ((win0_3.blk t).view.emb y), hrow, hcol]
  rw [hy]
  exact (congrArg (outsAt0 m c t.val t.isLt).1 (eq_ix2 y)).trans e

end Cert.Proof.Inproj16

end
-- ==== Proof.Inproj16.Plain.lean ====
/- The plain input projection, read at an element. -/
module

public import proofs.«01_k».proof.Proof.Inproj16.Pick
public import proofs.«01_k».proof.Proof.Inproj16.State
public import proofs.«01_k».proof.Proof.Gen.Reference4Ideal.Run
public import Idealize.ShloMosaic.Adequacy
public import Idealize.ShloMosaic.Lib.Quiescent
public import Idealize.ShloMosaic.Init

@[expose] public section

set_option maxRecDepth 16384

noncomputable section

namespace Cert.Proof.Inproj16Plain

open Cert.Reference4Ideal Cert.Reference4Ideal.Gen
open Idealize.ShloMosaic Idealize.ShloMosaic.TcCoe Idealize.SL.Sem
open Cert.Proof.Inproj16
open scoped BigOperators

/-- The normed rows, -/
def normT (X : FVec Ideal S36864x2048 .f32) (g : FVec Ideal S2048 .f32) : FVec Ideal S36864x2048 .f32 :=
  mulf (mulf X (broadcastInDim S36864x2048 ![0, 1] bcast_S36864x1_S36864x2048_0_1 (Host.rsqrt (addf (Host.divf (broadcastInDim S36864x1 ![0] bcast_S36864_S36864x1_0 (Host.reduceAdd (mulf X X) (constant S_ .f32 0x00000000#32) reducesTo_S36864x2048_S36864_d1 h_S_)) (broadcastInDim S36864x1 ![] bcast_S_S36864x1 (constant S_ .f32 0x45000000#32))) (broadcastInDim S36864x1 ![] bcast_S_S36864x1 (constant S_ .f32 0x358637BD#32)))))) (broadcastInDim S36864x2048 ![0, 1] bcast_S1x2048_S36864x2048_0_1 (broadcastInDim S1x2048 ![1] bcast_S2048_S1x2048_1 g))
/-- their projections, -/
def projT (N : FVec Ideal S36864x2048 .f32) (W : FVec Ideal S2048x14480 .f32) : FVec Ideal S36864x14480 .f32 :=
  Host.dotGeneral dot_S36864x2048_S2048x14480_S36864x14480_1_0_0_1_n_n none N W
/-- and the kept columns, side by side. -/
def catT (P : FVec Ideal S36864x14480 .f32) : FVec Ideal S36864x8192 .bf16 :=
  truncf .bf16 ((concatenate S36864x8192 1 [⟨S36864x1024, ((extractStridedSlice S36864x1024 ![0, 3136] P slices_S36864x14480_S36864x1024_0_3136) : (⟨S36864x1024, .f32⟩ : BufTy).Contents (Elt Ideal))⟩, ⟨S36864x1024, ((extractStridedSlice S36864x1024 ![0, 7312] P slices_S36864x14480_S36864x1024_0_7312) : (⟨S36864x1024, .f32⟩ : BufTy).Contents (Elt Ideal))⟩, ⟨S36864x6144, ((extractStridedSlice S36864x6144 ![0, 8336] P slices_S36864x14480_S36864x6144_0_8336) : (⟨S36864x6144, .f32⟩ : BufTy).Contents (Elt Ideal))⟩] concatenates_S36864x1024_S36864x1024_S36864x6144_S36864x8192_d1 : (⟨S36864x8192, .f32⟩ : BufTy).Contents (Elt Ideal))) bitsLt_bf16_f32

theorem norm_at (X : FVec Ideal S36864x2048 .f32) (g : FVec Ideal S2048 .f32) (R : Fin 36864) (k : Fin 2048) :
    normT X g (ix2 R k) = normed X g R k := by
  pointwise [normT]
  rfl

theorem proj_at (N : FVec Ideal S36864x2048 .f32) (W : FVec Ideal S2048x14480 .f32) (R : Fin 36864) (j : Fin 14480) :
    projT N W (ix2 R j) = ∑ k : Fin 2048, N (ix2 R k) * W (ix2 k j) := by
  pointwise [projT]

theorem cat_at (P : FVec Ideal S36864x14480 .f32) (R : Fin 36864) (j : Fin 8192) :
    catT P (ix2 R j) = pick (fun n => P (ix2 R n)) j := by
  pointwise [catT]
  unfold pick
  repeat' split
  all_goals first
    | exact congrArg (fun n => P (ix2 R n)) (Fin.ext (by first | omega | (dsimp only; omega) | dsimp only))
    | rfl

/-- The plain program's result is the projection. -/
theorem plain (X : FVec Ideal S36864x2048 .f32) (g : FVec Ideal S2048 .f32) (W : FVec Ideal S2048x14480 .f32) :
    catT (projT (normT X g) W) = result X g W := by
  funext i
  obtain ⟨R, j, rfl⟩ : ∃ (R : Fin 36864) (j : Fin 8192), i = ix2 R j := ⟨i 0, i 1, eq_ix2 i⟩
  rw [cat_at]
  show _ = ∑ k : Fin 2048, normed X g R k * packT W (ix2 k j)
  simp only [pack_at, sum_pick, proj_at, norm_at]

/-- The term that the plain program's run leaves is the projection. -/
theorem left (X : FVec Ideal S36864x2048 .f32) (g : FVec Ideal S2048 .f32) (W : FVec Ideal S2048x14480 .f32) :
    truncf .bf16 ((concatenate S36864x8192 1 [⟨S36864x1024, ((extractStridedSlice S36864x1024 ![0, 3136] (Host.dotGeneral dot_S36864x2048_S2048x14480_S36864x14480_1_0_0_1_n_n none (mulf (mulf X (broadcastInDim S36864x2048 ![0, 1] bcast_S36864x1_S36864x2048_0_1 (Host.rsqrt (addf (Host.divf (broadcastInDim S36864x1 ![0] bcast_S36864_S36864x1_0 (Host.reduceAdd (mulf X X) (constant S_ .f32 0x00000000#32) reducesTo_S36864x2048_S36864_d1 h_S_)) (broadcastInDim S36864x1 ![] bcast_S_S36864x1 (constant S_ .f32 0x45000000#32))) (broadcastInDim S36864x1 ![] bcast_S_S36864x1 (constant S_ .f32 0x358637BD#32)))))) (broadcastInDim S36864x2048 ![0, 1] bcast_S1x2048_S36864x2048_0_1 (broadcastInDim S1x2048 ![1] bcast_S2048_S1x2048_1 g))) W) slices_S36864x14480_S36864x1024_0_3136) : (⟨S36864x1024, .f32⟩ : BufTy).Contents (Elt Ideal))⟩, ⟨S36864x1024, ((extractStridedSlice S36864x1024 ![0, 7312] (Host.dotGeneral dot_S36864x2048_S2048x14480_S36864x14480_1_0_0_1_n_n none (mulf (mulf X (broadcastInDim S36864x2048 ![0, 1] bcast_S36864x1_S36864x2048_0_1 (Host.rsqrt (addf (Host.divf (broadcastInDim S36864x1 ![0] bcast_S36864_S36864x1_0 (Host.reduceAdd (mulf X X) (constant S_ .f32 0x00000000#32) reducesTo_S36864x2048_S36864_d1 h_S_)) (broadcastInDim S36864x1 ![] bcast_S_S36864x1 (constant S_ .f32 0x45000000#32))) (broadcastInDim S36864x1 ![] bcast_S_S36864x1 (constant S_ .f32 0x358637BD#32)))))) (broadcastInDim S36864x2048 ![0, 1] bcast_S1x2048_S36864x2048_0_1 (broadcastInDim S1x2048 ![1] bcast_S2048_S1x2048_1 g))) W) slices_S36864x14480_S36864x1024_0_7312) : (⟨S36864x1024, .f32⟩ : BufTy).Contents (Elt Ideal))⟩, ⟨S36864x6144, ((extractStridedSlice S36864x6144 ![0, 8336] (Host.dotGeneral dot_S36864x2048_S2048x14480_S36864x14480_1_0_0_1_n_n none (mulf (mulf X (broadcastInDim S36864x2048 ![0, 1] bcast_S36864x1_S36864x2048_0_1 (Host.rsqrt (addf (Host.divf (broadcastInDim S36864x1 ![0] bcast_S36864_S36864x1_0 (Host.reduceAdd (mulf X X) (constant S_ .f32 0x00000000#32) reducesTo_S36864x2048_S36864_d1 h_S_)) (broadcastInDim S36864x1 ![] bcast_S_S36864x1 (constant S_ .f32 0x45000000#32))) (broadcastInDim S36864x1 ![] bcast_S_S36864x1 (constant S_ .f32 0x358637BD#32)))))) (broadcastInDim S36864x2048 ![0, 1] bcast_S1x2048_S36864x2048_0_1 (broadcastInDim S1x2048 ![1] bcast_S2048_S1x2048_1 g))) W) slices_S36864x14480_S36864x6144_0_8336) : (⟨S36864x6144, .f32⟩ : BufTy).Contents (Elt Ideal))⟩] concatenates_S36864x1024_S36864x1024_S36864x6144_S36864x8192_d1 : (⟨S36864x8192, .f32⟩ : BufTy).Contents (Elt Ideal))) bitsLt_bf16_f32
      = result X g W := by
  rw [← plain]
  unfold catT projT normT
  rfl

variable {F : FTy → Type} [FloatOps F]

/-- The plain program's frame: its arguments end as they were and no semaphore counts. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  exact (θ_run defs _ _).mono (fun r h => ⟨fun c => (h c).2, sem_eq_zero_of_no_sems (by decide) _⟩) (Cert.Reference4Ideal.Value.run m ρ)

end Cert.Proof.Inproj16Plain

end
-- ==== Proof.Merge.Spec.lean ====
/- The merge of the three branches, one element at a time. -/
module

public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Proof.Merge

open Cert.Kernel5Ideal Cert.Kernel5Ideal.Gen
open Idealize.ShloMosaic
open scoped BigOperators

/-- One branch's projection under its gate, from the gate's logit. -/
def gated (x a : EReal) : EReal := Ideal.div 1 (1 + Ideal.exp (0 - x)) * a

variable (H : FVec Ideal S36864x2048 .f32) (A B C : FVec Ideal S36864x1024 .f32) (g : FVec Ideal S36864x6144 .f32)
  (b : FVec Ideal S6144 .f32) (W : FVec Ideal S3x1024x2048 .f32) (U : FVec Ideal S2048x2048 .f32)

/-- The three branches, each through its weights and under its gate, added. -/
def merged (R : Fin 36864) (n : Fin 2048) : EReal :=
  gated (g (ix2 R ⟨n.val, by omega⟩) + b (ix1 ⟨n.val, by omega⟩)) (∑ k, A (ix2 R k) * W (ix3 0 k n))
    + gated (g (ix2 R ⟨2048 + n.val, by omega⟩) + b (ix1 ⟨2048 + n.val, by omega⟩)) (∑ k, B (ix2 R k) * W (ix3 1 k n))
    + gated (g (ix2 R ⟨4096 + n.val, by omega⟩) + b (ix1 ⟨4096 + n.val, by omega⟩)) (∑ k, C (ix2 R k) * W (ix3 2 k n))

/-- The whole result: the row's own value and the merged row times the last weights' column. -/
def result : FVec Ideal S36864x2048 .f32 :=
  fun i => H (ix2 (i 0) (i 1)) + ∑ k, merged A B C g b W (i 0) k * U (ix2 k (i 1))

end Cert.Proof.Merge

end
-- ==== Proof.Merge.Blocks.lean ====
/- The blocks of the launch, read at an element: which element of the arguments each holds. -/
module

public import proofs.«01_k».proof.Proof.Merge.Spec

@[expose] public section

set_option maxRecDepth 16384

noncomputable section

namespace Cert.Proof.Merge

open Cert.Kernel5Ideal Cert.Kernel5Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The activations, the branches, the gates' logits and bias and the weights as the launch's memory holds them. -/
abbrev argH (c : Dev nD) : FVec Ideal S36864x2048 .f32 := m ((c : Thread nD τ).loc main_arg0)
abbrev argA (c : Dev nD) : FVec Ideal S36864x1024 .f32 := m ((c : Thread nD τ).loc main_arg1)
abbrev argB (c : Dev nD) : FVec Ideal S36864x1024 .f32 := m ((c : Thread nD τ).loc main_arg2)
abbrev argC (c : Dev nD) : FVec Ideal S36864x1024 .f32 := m ((c : Thread nD τ).loc main_arg3)
abbrev argG (c : Dev nD) : FVec Ideal S36864x6144 .f32 := m ((c : Thread nD τ).loc main_arg4)
abbrev argBias (c : Dev nD) : FVec Ideal S6144 .f32 := m ((c : Thread nD τ).loc main_arg5)
abbrev argW (c : Dev nD) : FVec Ideal S3x1024x2048 .f32 := m ((c : Thread nD τ).loc main_arg6)
abbrev argU (c : Dev nD) : FVec Ideal S2048x2048 .f32 := m ((c : Thread nD τ).loc main_arg7)

/-- The windows' index maps: row block `t` of the activations, the branches, the gates and the result. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2] ∧ win0_6.index t = ![t.val, 3]
    ∧ win0_7.index t = ![0, 0] ∧ win0_8.index t = ![0, 0, 0] ∧ win0_9.index t = ![0, 0] ∧ win0_10.index t = ![t.val, 0] ∧ t.val < 144 :=
  (by decide +kernel : ∀ t : Fin grid0.N, _)

theorem point_lt (t : Fin cfg0.N) : t.val < 144 := (idx t).2.2.2.2.2.2.2.2.2.2.2

/-- The row of the array that row `r` of point `t`'s block is. -/
def rowOf (t : Fin cfg0.N) (r : Fin 256) : Fin 36864 := ⟨256 * t.val + r.val, by have := point_lt t; omega⟩

theorem blk0 (c : Dev nD) (t : Fin cfg0.N) (r : Fin 256) (k : Fin 2048) :
    (iblk m c 0 t : Vec Ideal S256x2048 .f32) (ix2 r k) = argH m c (ix2 (rowOf t r) k) := by
  blk_ext [iblk, V, idx t, rowOf]

theorem blk1 (c : Dev nD) (t : Fin cfg0.N) (r : Fin 256) (k : Fin 1024) :
    (iblk m c 1 t : Vec Ideal S256x1024 .bf16) (ix2 r k) = argA m c (ix2 (rowOf t r) k) := by
  blk_simp [iblk, idx t]
  entry_read
  pointwise
  blk_ext [idx t, rowOf]

theorem blk2 (c : Dev nD) (t : Fin cfg0.N) (r : Fin 256) (k : Fin 1024) :
    (iblk m c 2 t : Vec Ideal S256x1024 .bf16) (ix2 r k) = argB m c (ix2 (rowOf t r) k) := by
  blk_simp [iblk, idx t]
  entry_read
  pointwise
  blk_ext [idx t, rowOf]

theorem blk3 (c : Dev nD) (t : Fin cfg0.N) (r : Fin 256) (k : Fin 1024) :
    (iblk m c 3 t : Vec Ideal S256x1024 .bf16) (ix2 r k) = argC m c (ix2 (rowOf t r) k) := by
  blk_simp [iblk, idx t]
  entry_read
  pointwise
  blk_ext [idx t, rowOf]

theorem blk4 (c : Dev nD) (t : Fin cfg0.N) (r : Fin 256) (n : Fin 2048) :
    (iblk m c 4 t : Vec Ideal S256x2048 .bf16) (ix2 r n) = argG m c (ix2 (rowOf t r) ⟨n.val, by omega⟩) := by
  blk_simp [iblk, idx t]
  entry_read
  pointwise
  blk_simp [idx t]
  rw [dif_neg (by omega)]
  blk_ext [idx t, rowOf]

theorem blk5 (c : Dev nD) (t : Fin cfg0.N) (r : Fin 256) (n : Fin 2048) :
    (iblk m c 5 t : Vec Ideal S256x2048 .bf16) (ix2 r n) = argG m c (ix2 (rowOf t r) ⟨2048 + n.val, by omega⟩) := by
  blk_simp [iblk, idx t]
  entry_read
  pointwise
  blk_simp [idx t]
  rw [dif_neg (by omega)]
  blk_ext [idx t, rowOf]

theorem blk6 (c : Dev nD) (t : Fin cfg0.N) (r : Fin 256) (n : Fin 2048) :
    (iblk m c 6 t : Vec Ideal S256x2048 .bf16) (ix2 r n) = argG m c (ix2 (rowOf t r) ⟨4096 + n.val, by omega⟩) := by
  blk_simp [iblk, idx t]
  entry_read
  pointwise
  blk_simp [idx t]
  rw [dif_neg (by omega)]
  blk_ext [idx t, rowOf]

theorem blk7 (c : Dev nD) (t : Fin cfg0.N) (n : Fin 6144) :
    (iblk m c 7 t : Vec Ideal S1x6144 .f32) (ix2 0 n) = argBias m c (ix1 n) := by
  blk_simp [iblk, idx t]
  entry_read
  pointwise
  blk_ext [idx t, rowOf]

theorem blk8 (c : Dev nD) (t : Fin cfg0.N) (a : Fin 3) (k : Fin 1024) (n : Fin 2048) :
    (iblk m c 8 t : Vec Ideal S3x1024x2048 .bf16) (ix3 a k n) = argW m c (ix3 a k n) := by
  blk_simp [iblk, idx t]
  entry_read
  pointwise
  blk_ext [idx t, rowOf]

theorem blk9 (c : Dev nD) (t : Fin cfg0.N) (k : Fin 2048) (n : Fin 2048) :
    (iblk m c 9 t : Vec Ideal S2048x2048 .bf16) (ix2 k n) = argU m c (ix2 k n) := by
  blk_simp [iblk, idx t]
  entry_read
  pointwise
  blk_ext [idx t, rowOf]

end Cert.Proof.Merge

end
-- ==== Proof.Merge.State.lean ====
/- What each point of the launch stores, and the array after the run. -/
module

public import proofs.«01_k».proof.Proof.Merge.Blocks

@[expose] public section

set_option maxRecDepth 16384

noncomputable section

namespace Cert.Proof.Merge

open Cert.Kernel5Ideal Cert.Kernel5Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

theorem out_at (x0 : Vec Ideal S256x2048 .f32) (x1 x2 x3 : Vec Ideal S256x1024 .bf16) (x4 x5 x6 : Vec Ideal S256x2048 .bf16)
    (x7 : Vec Ideal S1x6144 .f32) (x8 : Vec Ideal S3x1024x2048 .bf16) (x9 : Vec Ideal S2048x2048 .bf16) (r : Fin 256) (n : Fin 2048) :
    out0_10 x0 x1 x2 x3 x4 x5 x6 x7 x8 x9 (ix2 r n) = x0 (ix2 r n) + ∑ k : Fin 2048,
      (gated (x4 (ix2 r k) + x7 (ix2 0 ⟨k.val, by omega⟩)) (∑ l, x1 (ix2 r l) * x8 (ix3 0 l k))
        + gated (x5 (ix2 r k) + x7 (ix2 0 ⟨2048 + k.val, by omega⟩)) (∑ l, x2 (ix2 r l) * x8 (ix3 1 l k))
        + gated (x6 (ix2 r k) + x7 (ix2 0 ⟨4096 + k.val, by omega⟩)) (∑ l, x3 (ix2 r l) * x8 (ix3 2 l k))) * x9 (ix2 k n) := by
  frame_out
  pointwise [k0_pay1, k0_pay2, k0_pay3, k0_pay4, gated]

/-- What a point stores is its rows of the merge. -/
theorem stored (c : Dev nD) (t : Fin cfg0.N) (r : Fin 256) (n : Fin 2048) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r n)
      = result (argH m c) (argA m c) (argB m c) (argC m c) (argG m c) (argBias m c) (argW m c) (argU m c) (ix2 (rowOf t r) n) := by
  rw [out_at]
  simp only [blk0, blk1, blk2, blk3, blk4, blk5, blk6, blk7, blk8, blk9]
  rfl

/-- The array after the run is the merge. -/
theorem final (c : Dev nD) : (dats m 0 c).arrAt 10 cfg0.N
    = result (argH m c) (argA m c) (argB m c) (argC m c) (argG m c) (argBias m c) (argW m c) (argU m c) := by
  refine (dats m 0 c).arrAt_eq_of_covers 10 _ (by decide +kernel) fun t hf y => ?_
  blk_simp
  rw [after0_10]
  have hrow : (win0_10.blk t).view.emb y 0 = rowOf t (y 0) := Fin.ext (by blk_simp [idx t]; show _ = 256 * t.val + _; omega)
  have hcol : (win0_10.blk t).view.emb y 1 = y 1 := Fin.ext (by blk_simp [idx t])
  have hy : (win0_10.blk t).view.emb y = ix2 (rowOf t (y 0)) (y 1) := by
    refine (eq_ix2 _).trans ?_
    rw [hrow, hcol]
    rfl
  rw [hy]
  exact (congrArg (out0_10 _ _ _ _ _ _ _ _ _ _) (eq_ix2 y)).trans (stored m c t (y 0) (y 1))

end Cert.Proof.Merge

end
-- ==== Proof.Merge.Plain.lean ====
/- The plain merge, read at an element. -/
module

public import proofs.«01_k».proof.Proof.Merge.State
public import proofs.«01_k».proof.Proof.Gen.Reference5Ideal.Run
public import Idealize.ShloMosaic.Adequacy
public import Idealize.ShloMosaic.Lib.Quiescent
public import Idealize.ShloMosaic.Init

@[expose] public section

set_option maxRecDepth 16384

noncomputable section

namespace Cert.Proof.MergePlain

open Cert.Reference5Ideal Cert.Reference5Ideal.Gen
open Idealize.ShloMosaic Idealize.ShloMosaic.TcCoe Idealize.SL.Sem
open Cert.Proof.Merge
open scoped BigOperators

/-- The three gates of each row, -/
def gateT (g : FVec Ideal S36864x6144 .f32) (b : FVec Ideal S6144 .f32) : FVec Ideal S36864x3x2048 .f32 :=
  shapeCast S36864x3x2048 (Host.divf (broadcastInDim S36864x6144 ![] bcast_S_S36864x6144 (constant S_ .f32 0x3F800000#32)) (addf (broadcastInDim S36864x6144 ![] bcast_S_S36864x6144 (constant S_ .f32 0x3F800000#32)) (Host.exp (Host.negf (addf g (broadcastInDim S36864x6144 ![0, 1] bcast_S1x6144_S36864x6144_0_1 (broadcastInDim S1x6144 ![1] bcast_S6144_S1x6144_1 b))))))) shapeCasts_S36864x6144_S36864x3x2048
/-- the gated sum of the branches, -/
def mergedT (T : FVec Ideal S36864x3x2048 .f32) (A B C : FVec Ideal S36864x1024 .f32) (W : FVec Ideal S3x1024x2048 .f32) : FVec Ideal S36864x2048 .f32 :=
  addf (addf (mulf (shapeCast _ (extractStridedSlice S36864x1x2048 ![0, 0, 0] T slices_S36864x3x2048_S36864x1x2048_0_0_0) shapeCasts_S36864x1x2048_S36864x2048) (Host.dotGeneral dot_S36864x1024_S1024x2048_S36864x2048_1_0_0_1_n_n none A (shapeCast _ (extractStridedSlice S1x1024x2048 ![0, 0, 0] W slices_S3x1024x2048_S1x1024x2048_0_0_0) shapeCasts_S1x1024x2048_S1024x2048))) (mulf (shapeCast _ (extractStridedSlice S36864x1x2048 ![0, 1, 0] T slices_S36864x3x2048_S36864x1x2048_0_1_0) shapeCasts_S36864x1x2048_S36864x2048) (Host.dotGeneral dot_S36864x1024_S1024x2048_S36864x2048_1_0_0_1_n_n none B (shapeCast _ (extractStridedSlice S1x1024x2048 ![1, 0, 0] W slices_S3x1024x2048_S1x1024x2048_1_0_0) shapeCasts_S1x1024x2048_S1024x2048)))) (mulf (shapeCast _ (extractStridedSlice S36864x1x2048 ![0, 2, 0] T slices_S36864x3x2048_S36864x1x2048_0_2_0) shapeCasts_S36864x1x2048_S36864x2048) (Host.dotGeneral dot_S36864x1024_S1024x2048_S36864x2048_1_0_0_1_n_n none C (shapeCast _ (extractStridedSlice S1x1024x2048 ![2, 0, 0] W slices_S3x1024x2048_S1x1024x2048_2_0_0) shapeCasts_S1x1024x2048_S1024x2048)))
/-- and the result. -/
def outT (H M : FVec Ideal S36864x2048 .f32) (U : FVec Ideal S2048x2048 .f32) : FVec Ideal S36864x2048 .f32 :=
  addf H (Host.dotGeneral dot_S36864x2048_S2048x2048_S36864x2048_1_0_0_1_n_n none M U)

theorem gate_at (g : FVec Ideal S36864x6144 .f32) (b : FVec Ideal S6144 .f32) (R : Fin 36864) (a : Fin 3) (n : Fin 2048) :
    gateT g b (ix3 R a n) = Ideal.div 1 (1 + Ideal.exp (0 - (g (ix2 R ⟨a.val * 2048 + n.val, by omega⟩) + b (ix1 ⟨a.val * 2048 + n.val, by omega⟩)))) := by
  pointwise [gateT]
  rw [zero_sub]

theorem merged_at (T : FVec Ideal S36864x3x2048 .f32) (A B C : FVec Ideal S36864x1024 .f32) (W : FVec Ideal S3x1024x2048 .f32) (R : Fin 36864) (n : Fin 2048) :
    mergedT T A B C W (ix2 R n) = T (ix3 R 0 n) * (∑ k, A (ix2 R k) * W (ix3 0 k n)) + T (ix3 R 1 n) * (∑ k, B (ix2 R k) * W (ix3 1 k n))
      + T (ix3 R 2 n) * (∑ k, C (ix2 R k) * W (ix3 2 k n)) := by
  pointwise [mergedT]

theorem out_at (H M : FVec Ideal S36864x2048 .f32) (U : FVec Ideal S2048x2048 .f32) (R : Fin 36864) (n : Fin 2048) :
    outT H M U (ix2 R n) = H (ix2 R n) + ∑ k : Fin 2048, M (ix2 R k) * U (ix2 k n) := by
  pointwise [outT]

variable (H : FVec Ideal S36864x2048 .f32) (A B C : FVec Ideal S36864x1024 .f32) (g : FVec Ideal S36864x6144 .f32)
  (b : FVec Ideal S6144 .f32) (W : FVec Ideal S3x1024x2048 .f32) (U : FVec Ideal S2048x2048 .f32)

/-- The plain gated sum is the merged row. -/
theorem merged_eq (R : Fin 36864) (n : Fin 2048) : mergedT (gateT g b) A B C W (ix2 R n) = merged A B C g b W R n := by
  rw [merged_at, gate_at, gate_at, gate_at]
  unfold merged gated
  congr! 12 <;> simp

/-- The plain program's result is the merge. -/
theorem plain : outT H (mergedT (gateT g b) A B C W) U = result H A B C g b W U := by
  funext i
  obtain ⟨R, n, rfl⟩ : ∃ (R : Fin 36864) (n : Fin 2048), i = ix2 R n := ⟨i 0, i 1, eq_ix2 i⟩
  rw [out_at]
  simp only [merged_eq]
  rfl

/-- The term that the plain program's run leaves is the merge. -/
theorem left : addf H (Host.dotGeneral dot_S36864x2048_S2048x2048_S36864x2048_1_0_0_1_n_n none (addf (addf (mulf (shapeCast _ (extractStridedSlice S36864x1x2048 ![0, 0, 0] (shapeCast _ (Host.divf (broadcastInDim S36864x6144 ![] bcast_S_S36864x6144 (constant S_ .f32 0x3F800000#32)) (addf (broadcastInDim S36864x6144 ![] bcast_S_S36864x6144 (constant S_ .f32 0x3F800000#32)) (Host.exp (Host.negf (addf g (broadcastInDim S36864x6144 ![0, 1] bcast_S1x6144_S36864x6144_0_1 (broadcastInDim S1x6144 ![1] bcast_S6144_S1x6144_1 b))))))) shapeCasts_S36864x6144_S36864x3x2048) slices_S36864x3x2048_S36864x1x2048_0_0_0) shapeCasts_S36864x1x2048_S36864x2048) (Host.dotGeneral dot_S36864x1024_S1024x2048_S36864x2048_1_0_0_1_n_n none A (shapeCast _ (extractStridedSlice S1x1024x2048 ![0, 0, 0] W slices_S3x1024x2048_S1x1024x2048_0_0_0) shapeCasts_S1x1024x2048_S1024x2048))) (mulf (shapeCast _ (extractStridedSlice S36864x1x2048 ![0, 1, 0] (shapeCast _ (Host.divf (broadcastInDim S36864x6144 ![] bcast_S_S36864x6144 (constant S_ .f32 0x3F800000#32)) (addf (broadcastInDim S36864x6144 ![] bcast_S_S36864x6144 (constant S_ .f32 0x3F800000#32)) (Host.exp (Host.negf (addf g (broadcastInDim S36864x6144 ![0, 1] bcast_S1x6144_S36864x6144_0_1 (broadcastInDim S1x6144 ![1] bcast_S6144_S1x6144_1 b))))))) shapeCasts_S36864x6144_S36864x3x2048) slices_S36864x3x2048_S36864x1x2048_0_1_0) shapeCasts_S36864x1x2048_S36864x2048) (Host.dotGeneral dot_S36864x1024_S1024x2048_S36864x2048_1_0_0_1_n_n none B (shapeCast _ (extractStridedSlice S1x1024x2048 ![1, 0, 0] W slices_S3x1024x2048_S1x1024x2048_1_0_0) shapeCasts_S1x1024x2048_S1024x2048)))) (mulf (shapeCast _ (extractStridedSlice S36864x1x2048 ![0, 2, 0] (shapeCast _ (Host.divf (broadcastInDim S36864x6144 ![] bcast_S_S36864x6144 (constant S_ .f32 0x3F800000#32)) (addf (broadcastInDim S36864x6144 ![] bcast_S_S36864x6144 (constant S_ .f32 0x3F800000#32)) (Host.exp (Host.negf (addf g (broadcastInDim S36864x6144 ![0, 1] bcast_S1x6144_S36864x6144_0_1 (broadcastInDim S1x6144 ![1] bcast_S6144_S1x6144_1 b))))))) shapeCasts_S36864x6144_S36864x3x2048) slices_S36864x3x2048_S36864x1x2048_0_2_0) shapeCasts_S36864x1x2048_S36864x2048) (Host.dotGeneral dot_S36864x1024_S1024x2048_S36864x2048_1_0_0_1_n_n none C (shapeCast _ (extractStridedSlice S1x1024x2048 ![2, 0, 0] W slices_S3x1024x2048_S1x1024x2048_2_0_0) shapeCasts_S1x1024x2048_S1024x2048)))) U)
      = result H A B C g b W U := by
  rw [← plain]
  unfold outT mergedT gateT
  rfl

variable {F : FTy → Type} [FloatOps F]

/-- The plain program's frame: its arguments end as they were and no semaphore counts. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  exact (θ_run defs _ _).mono (fun r h => ⟨fun c => (h c).2, sem_eq_zero_of_no_sems (by decide) _⟩) (Cert.Reference5Ideal.Value.run m ρ)

end Cert.Proof.MergePlain

end
-- ==== Proof.Mla.Sem.lean ====
/- What the kernel's body computes at a grid point, written down over the blocks it reads: the chunks of keys and
   values it visits in its order, a step of the running softmax on one chunk, and the state after `n` chunks. -/
module

public import proofs.«01_k».proof.Proof.Gen.KernelIdeal.Frame
public import proofs.«01_k».proof.Proof.Gen.KernelIdeal.Skeleton

@[expose] public section

set_option maxRecDepth 16384

noncomputable section

namespace Cert.Proof.Mla

open Cert.KernelIdeal Cert.KernelIdeal.Gen
open Idealize.ShloMosaic Idealize.ShloMosaic.TcCoe

variable {F : FTy → Type} [FloatOps F] [Named F]

/-! ## Reading back one of several writes -/

theorem rd_nth {sig : RefSig} {κ : Kind} {sp : Space} {s : Shape} {e : EltTy} {Val : EltTy → Type}
    (v : View sig κ sp s e) (f : v.ty.Contents Val) : ∀ (L : List (View.Piece Val s e)) (j : Nat) (r : Rect s) (w : r.shape.Idx → Val e),
      View.Piece.nth L j = some ⟨r, w⟩ → LoadRect.disjAll ((L.take j).map Sigma.fst) r.toLoadRect = true →
      v.readAt Val r.toLoadRect (v.writes Val f L) = w
  | [], j, _, _, hj, _ => by cases j <;> cases hj
  | p :: L, 0, r, w, hj, _ => by
    simp only [View.Piece.nth, Option.some.injEq] at hj
    subst hj
    funext x
    exact View.read_writes_cons_emb v f r w L x
  | p :: L, j + 1, r, w, hj, hc => by
    simp only [View.Piece.nth] at hj
    simp only [List.take_succ_cons, List.map_cons, LoadRect.disjAll, List.all_cons, Bool.and_eq_true] at hc
    rw [← rd_nth v f L j r w hj hc.2]
    funext x
    have hx : r.toLoadRect.idx x ∉ Finset.univ.map p.1.emb := by
      rw [Rect.map_emb_univ]; exact LoadRect.idx_not_mem_of_disj hc.1 x
    rw [View.readAt_apply, View.readAt_apply, View.writes_cons, View.read_slice_write_of_not_mem p.1 _ _ _ hx]

theorem rd_cov {sig : RefSig} {κ : Kind} {sp : Space} {s : Shape} {e : EltTy} {Val : EltTy → Type} [∀ e, Nonempty (Val e)]
    (v : View sig κ sp s e) (L : List (View.Piece Val s e)) (j : Nat) (r : Rect s) (w : r.shape.Idx → Val e)
    (hj : View.Piece.nth L j = some ⟨r, w⟩) (hc : LoadRect.disjAll ((L.take j).map Sigma.fst) r.toLoadRect = true) :
    v.readCov L r.toLoadRect = w := rd_nth v v.junk L j r w hj hc

theorem ld_off {s : Shape} {e : EltTy} {Val : EltTy → Type} (x : s.Idx → Val e) (size : Fin s.rank → ℕ) {off off' : Fin s.rank → ℕ}
    (h : off = off') (inb : ∀ a, off a + size a ≤ s.size a) (inb' : ∀ a, off' a + size a ≤ s.size a) :
    (View.ld x (Rect.unit (s := s) off size inb) : (Rect.unit (s := s) off size inb).shape.Idx → Val e)
      = (View.ld x (Rect.unit (s := s) off' size inb') : _) := by
  subst h; rfl

/-! ## The chunks -/

/-- The chunk of keys visited `c`-th: the meta tokens' (chunk 8) first, then the sequence's in order. -/
def chunk (c : ℕ) : Fin 9 := if c = 0 then 8 else ⟨(c - 1) % 9, Nat.mod_lt _ (by decide)⟩

/-- The row of the bias table the `c`-th chunk takes at query block `i`: the meta tokens' mask, the diagonal's, or none. -/
def kind (i c : ℕ) : Fin 4 := if c = 0 then 0 else if c - 1 = i then 2 else 1

theorem qh_inb : ∀ (h : Fin 8) (a : Fin 2), (![0, 256 * h.val] : Fin 2 → ℕ) a + S256x256.size a ≤ S256x2048.size a := by decide
theorem kch_inb : ∀ (d : Fin 9) (h : Fin 8) (a : Fin 2), (![256 * d.val, 256 * h.val] : Fin 2 → ℕ) a + S256x256.size a ≤ S2304x2048.size a := by decide
theorem vch_inb : ∀ (d : Fin 9) (h : Fin 8) (a : Fin 3), (![d.val, 128 * h.val, 0] : Fin 3 → ℕ) a + S1x128x256.size a ≤ S9x1024x256.size a := by decide
theorem bch_inb : ∀ (d : Fin 4) (a : Fin 3), (![d.val, 0, 0] : Fin 3 → ℕ) a + S1x256x256.size a ≤ S4x256x256.size a := by decide

/-- One head's queries of the block, -/
def qh (x2 : Vec F S256x2048 .bf16) (h : Fin 8) : Vec F S256x256 .bf16 :=
  View.ld x2 (Rect.unit (s := S256x2048) ![0, 256 * h.val] S256x256.size (qh_inb h))
/-- one head's keys of a chunk, -/
def kch (x3 : Vec F S2304x2048 .bf16) (d : Fin 9) (h : Fin 8) : Vec F S256x256 .bf16 :=
  View.ld x3 (Rect.unit (s := S2304x2048) ![256 * d.val, 256 * h.val] S256x256.size (kch_inb d h))
/-- its values, transposed, -/
def vch (x4 : Vec F S9x1024x256 .bf16) (d : Fin 9) (h : Fin 8) : Vec F S1x128x256 .bf16 :=
  View.ld x4 (Rect.unit (s := S9x1024x256) ![d.val, 128 * h.val, 0] S1x128x256.size (vch_inb d h))
/-- and a row of the bias table. -/
def bch (x5 : Vec F S4x256x256 .f32) (d : Fin 4) : Vec F S1x256x256 .f32 :=
  View.ld x5 (Rect.unit (s := S4x256x256) ![d.val, 0, 0] S1x256x256.size (bch_inb d))

/-! ## One chunk's step, one head's -/

/-- The scores of the `c`-th chunk. -/
def sc (x2 : Vec F S256x2048 .bf16) (x3 : Vec F S2304x2048 .bf16) (x5 : Vec F S4x256x256 .f32) (i c : ℕ) (h : Fin 8) : FVec F S1x1x256x256 .f32 :=
  k0_pay10 (bch x5 (kind i c)) (kch x3 (chunk c) h) (qh x2 h)

/-- A head's running maximum, running sum and accumulator. -/
structure St (F : FTy → Type) where
  m : FVec F S1x256 .f32
  l : FVec F S1x256 .f32
  a : FVec F S1x128x256 .f32

def St.step (s : St F) (w : FVec F S1x1x256x256 .f32) (v : Vec F S1x128x256 .bf16) : St F where
  m := k0_pay22 s.m w
  l := k0_pay25 s.m s.l w
  a := k0_pay27 (k0_pay26 s.m w v s.a)

end Cert.Proof.Mla

end
-- ==== Proof.Mla.Offsets.lean ====
/- Where the kernel's loads are, in closed form: the chunk, the head, the row of the bias table. -/
module

public import proofs.«01_k».proof.Proof.Mla.Sem

@[expose] public section

set_option maxRecDepth 65536
set_option maxHeartbeats 4000000

noncomputable section

namespace Cert.Proof.Mla

open Cert.KernelIdeal Cert.KernelIdeal.Gen
open Idealize.ShloMosaic Idealize.ShloMosaic.TcCoe Idealize.ShloMosaic.Tactic

variable {F : FTy → Type} [FloatOps F] [Named F]

theorem trips_eq : ∀ i : grid0.Coords, (k0_t1_loop i).trips = ((i 1).val + 2) / 2 := by decide +kernel
theorem trips2_eq : ∀ i : grid0.Coords, (k0_t2_loop i).trips = 0 := by decide +kernel
theorem cond_eq : ∀ i : grid0.Coords, k0_cond1 i = 1#1 ↔ (i 1).val % 2 = 1 := by decide +kernel
theorem o10 : ∀ (i : grid0.Coords) (k : Fin (k0_t1_loop i).trips), k0_off10 i k = ![(kind (i 1).val (2 * k.val + 1)).val, 0, 0] := by decide +kernel
theorem o27 : ∀ (i : grid0.Coords) (k : Fin (k0_t1_loop i).trips), k0_off27 i k = ![(kind (i 1).val (min (2 * k.val + 2) ((i 1).val + 1))).val, 0, 0] := by decide +kernel
theorem o1 : ∀ (i : grid0.Coords), k0_off1 i = ![(kind (i 1).val 0).val, 0, 0] := by decide +kernel
theorem o11 : ∀ (i : grid0.Coords) (k : Fin (k0_t1_loop i).trips), k0_off11 i k = ![256 * (chunk (2 * k.val + 1)).val, 256 * ((0 : Fin 8) : ℕ)] := by decide +kernel
theorem o28 : ∀ (i : grid0.Coords) (k : Fin (k0_t1_loop i).trips), k0_off28 i k = ![256 * (chunk (min (2 * k.val + 2) ((i 1).val + 1))).val, 256 * ((0 : Fin 8) : ℕ)] := by decide +kernel
theorem o19 : ∀ (i : grid0.Coords) (k : Fin (k0_t1_loop i).trips), k0_off19 i k = ![(chunk (2 * k.val)).val, 128 * ((0 : Fin 8) : ℕ), 0] := by decide +kernel
theorem o36 : ∀ (i : grid0.Coords) (k : Fin (k0_t1_loop i).trips), k0_off36 i k = ![(chunk (2 * k.val + 1)).val, 128 * ((0 : Fin 8) : ℕ), 0] := by decide +kernel
theorem o2 : k0_off2 = ![256 * (chunk 0).val, 256 * ((0 : Fin 8) : ℕ)] := by decide +kernel
theorem o78 : ∀ (i : grid0.Coords), k0_cond1 i = 1#1 → k0_off78 i = ![(chunk ((i 1).val + 1)).val, 128 * ((0 : Fin 8) : ℕ), 0] := by decide +kernel
theorem o12 : ∀ (i : grid0.Coords) (k : Fin (k0_t1_loop i).trips), k0_off12 i k = ![256 * (chunk (2 * k.val + 1)).val, 256 * ((1 : Fin 8) : ℕ)] := by decide +kernel
theorem o29 : ∀ (i : grid0.Coords) (k : Fin (k0_t1_loop i).trips), k0_off29 i k = ![256 * (chunk (min (2 * k.val + 2) ((i 1).val + 1))).val, 256 * ((1 : Fin 8) : ℕ)] := by decide +kernel
theorem o20 : ∀ (i : grid0.Coords) (k : Fin (k0_t1_loop i).trips), k0_off20 i k = ![(chunk (2 * k.val)).val, 128 * ((1 : Fin 8) : ℕ), 0] := by decide +kernel
theorem o37 : ∀ (i : grid0.Coords) (k : Fin (k0_t1_loop i).trips), k0_off37 i k = ![(chunk (2 * k.val + 1)).val, 128 * ((1 : Fin 8) : ℕ), 0] := by decide +kernel
theorem o3 : k0_off3 = ![256 * (chunk 0).val, 256 * ((1 : Fin 8) : ℕ)] := by decide +kernel
theorem o79 : ∀ (i : grid0.Coords), k0_cond1 i = 1#1 → k0_off79 i = ![(chunk ((i 1).val + 1)).val, 128 * ((1 : Fin 8) : ℕ), 0] := by decide +kernel
theorem o13 : ∀ (i : grid0.Coords) (k : Fin (k0_t1_loop i).trips), k0_off13 i k = ![256 * (chunk (2 * k.val + 1)).val, 256 * ((2 : Fin 8) : ℕ)] := by decide +kernel
theorem o30 : ∀ (i : grid0.Coords) (k : Fin (k0_t1_loop i).trips), k0_off30 i k = ![256 * (chunk (min (2 * k.val + 2) ((i 1).val + 1))).val, 256 * ((2 : Fin 8) : ℕ)] := by decide +kernel
theorem o21 : ∀ (i : grid0.Coords) (k : Fin (k0_t1_loop i).trips), k0_off21 i k = ![(chunk (2 * k.val)).val, 128 * ((2 : Fin 8) : ℕ), 0] := by decide +kernel
theorem o38 : ∀ (i : grid0.Coords) (k : Fin (k0_t1_loop i).trips), k0_off38 i k = ![(chunk (2 * k.val + 1)).val, 128 * ((2 : Fin 8) : ℕ), 0] := by decide +kernel
theorem o4 : k0_off4 = ![256 * (chunk 0).val, 256 * ((2 : Fin 8) : ℕ)] := by decide +kernel
theorem o80 : ∀ (i : grid0.Coords), k0_cond1 i = 1#1 → k0_off80 i = ![(chunk ((i 1).val + 1)).val, 128 * ((2 : Fin 8) : ℕ), 0] := by decide +kernel
theorem o14 : ∀ (i : grid0.Coords) (k : Fin (k0_t1_loop i).trips), k0_off14 i k = ![256 * (chunk (2 * k.val + 1)).val, 256 * ((3 : Fin 8) : ℕ)] := by decide +kernel
theorem o31 : ∀ (i : grid0.Coords) (k : Fin (k0_t1_loop i).trips), k0_off31 i k = ![256 * (chunk (min (2 * k.val + 2) ((i 1).val + 1))).val, 256 * ((3 : Fin 8) : ℕ)] := by decide +kernel
theorem o22 : ∀ (i : grid0.Coords) (k : Fin (k0_t1_loop i).trips), k0_off22 i k = ![(chunk (2 * k.val)).val, 128 * ((3 : Fin 8) : ℕ), 0] := by decide +kernel
theorem o39 : ∀ (i : grid0.Coords) (k : Fin (k0_t1_loop i).trips), k0_off39 i k = ![(chunk (2 * k.val + 1)).val, 128 * ((3 : Fin 8) : ℕ), 0] := by decide +kernel
theorem o5 : k0_off5 = ![256 * (chunk 0).val, 256 * ((3 : Fin 8) : ℕ)] := by decide +kernel
theorem o81 : ∀ (i : grid0.Coords), k0_cond1 i = 1#1 → k0_off81 i = ![(chunk ((i 1).val + 1)).val, 128 * ((3 : Fin 8) : ℕ), 0] := by decide +kernel
theorem o15 : ∀ (i : grid0.Coords) (k : Fin (k0_t1_loop i).trips), k0_off15 i k = ![256 * (chunk (2 * k.val + 1)).val, 256 * ((4 : Fin 8) : ℕ)] := by decide +kernel
theorem o32 : ∀ (i : grid0.Coords) (k : Fin (k0_t1_loop i).trips), k0_off32 i k = ![256 * (chunk (min (2 * k.val + 2) ((i 1).val + 1))).val, 256 * ((4 : Fin 8) : ℕ)] := by decide +kernel
theorem o23 : ∀ (i : grid0.Coords) (k : Fin (k0_t1_loop i).trips), k0_off23 i k = ![(chunk (2 * k.val)).val, 128 * ((4 : Fin 8) : ℕ), 0] := by decide +kernel
theorem o40 : ∀ (i : grid0.Coords) (k : Fin (k0_t1_loop i).trips), k0_off40 i k = ![(chunk (2 * k.val + 1)).val, 128 * ((4 : Fin 8) : ℕ), 0] := by decide +kernel
theorem o6 : k0_off6 = ![256 * (chunk 0).val, 256 * ((4 : Fin 8) : ℕ)] := by decide +kernel
theorem o82 : ∀ (i : grid0.Coords), k0_cond1 i = 1#1 → k0_off82 i = ![(chunk ((i 1).val + 1)).val, 128 * ((4 : Fin 8) : ℕ), 0] := by decide +kernel
theorem o16 : ∀ (i : grid0.Coords) (k : Fin (k0_t1_loop i).trips), k0_off16 i k = ![256 * (chunk (2 * k.val + 1)).val, 256 * ((5 : Fin 8) : ℕ)] := by decide +kernel
theorem o33 : ∀ (i : grid0.Coords) (k : Fin (k0_t1_loop i).trips), k0_off33 i k = ![256 * (chunk (min (2 * k.val + 2) ((i 1).val + 1))).val, 256 * ((5 : Fin 8) : ℕ)] := by decide +kernel
theorem o24 : ∀ (i : grid0.Coords) (k : Fin (k0_t1_loop i).trips), k0_off24 i k = ![(chunk (2 * k.val)).val, 128 * ((5 : Fin 8) : ℕ), 0] := by decide +kernel
theorem o41 : ∀ (i : grid0.Coords) (k : Fin (k0_t1_loop i).trips), k0_off41 i k = ![(chunk (2 * k.val + 1)).val, 128 * ((5 : Fin 8) : ℕ), 0] := by decide +kernel
theorem o7 : k0_off7 = ![256 * (chunk 0).val, 256 * ((5 : Fin 8) : ℕ)] := by decide +kernel
theorem o83 : ∀ (i : grid0.Coords), k0_cond1 i = 1#1 → k0_off83 i = ![(chunk ((i 1).val + 1)).val, 128 * ((5 : Fin 8) : ℕ), 0] := by decide +kernel
theorem o17 : ∀ (i : grid0.Coords) (k : Fin (k0_t1_loop i).trips), k0_off17 i k = ![256 * (chunk (2 * k.val + 1)).val, 256 * ((6 : Fin 8) : ℕ)] := by decide +kernel
theorem o34 : ∀ (i : grid0.Coords) (k : Fin (k0_t1_loop i).trips), k0_off34 i k = ![256 * (chunk (min (2 * k.val + 2) ((i 1).val + 1))).val, 256 * ((6 : Fin 8) : ℕ)] := by decide +kernel
theorem o25 : ∀ (i : grid0.Coords) (k : Fin (k0_t1_loop i).trips), k0_off25 i k = ![(chunk (2 * k.val)).val, 128 * ((6 : Fin 8) : ℕ), 0] := by decide +kernel
theorem o42 : ∀ (i : grid0.Coords) (k : Fin (k0_t1_loop i).trips), k0_off42 i k = ![(chunk (2 * k.val + 1)).val, 128 * ((6 : Fin 8) : ℕ), 0] := by decide +kernel
theorem o8 : k0_off8 = ![256 * (chunk 0).val, 256 * ((6 : Fin 8) : ℕ)] := by decide +kernel
theorem o84 : ∀ (i : grid0.Coords), k0_cond1 i = 1#1 → k0_off84 i = ![(chunk ((i 1).val + 1)).val, 128 * ((6 : Fin 8) : ℕ), 0] := by decide +kernel
theorem o18 : ∀ (i : grid0.Coords) (k : Fin (k0_t1_loop i).trips), k0_off18 i k = ![256 * (chunk (2 * k.val + 1)).val, 256 * ((7 : Fin 8) : ℕ)] := by decide +kernel
theorem o35 : ∀ (i : grid0.Coords) (k : Fin (k0_t1_loop i).trips), k0_off35 i k = ![256 * (chunk (min (2 * k.val + 2) ((i 1).val + 1))).val, 256 * ((7 : Fin 8) : ℕ)] := by decide +kernel
theorem o26 : ∀ (i : grid0.Coords) (k : Fin (k0_t1_loop i).trips), k0_off26 i k = ![(chunk (2 * k.val)).val, 128 * ((7 : Fin 8) : ℕ), 0] := by decide +kernel
theorem o43 : ∀ (i : grid0.Coords) (k : Fin (k0_t1_loop i).trips), k0_off43 i k = ![(chunk (2 * k.val + 1)).val, 128 * ((7 : Fin 8) : ℕ), 0] := by decide +kernel
theorem o9 : k0_off9 = ![256 * (chunk 0).val, 256 * ((7 : Fin 8) : ℕ)] := by decide +kernel
theorem o85 : ∀ (i : grid0.Coords), k0_cond1 i = 1#1 → k0_off85 i = ![(chunk ((i 1).val + 1)).val, 128 * ((7 : Fin 8) : ℕ), 0] := by decide +kernel

end Cert.Proof.Mla

end
-- ==== Proof.Mla.Trip.lean ====
/- One trip of the loop over pairs of chunks: two steps of every head's running softmax, and the scores of the chunk after them. -/
module

public import proofs.«01_k».proof.Proof.Mla.Offsets
public import proofs.«01_k».proof.Proof.Gen.KernelIdeal.Loops
public import Idealize.ShloMosaic.Lib.Claim

@[expose] public section

set_option maxRecDepth 65536
set_option maxHeartbeats 4000000

noncomputable section

namespace Cert.Proof.Mla

open Cert.KernelIdeal Cert.KernelIdeal.Gen
open Idealize.ShloMosaic Idealize.ShloMosaic.TcCoe Idealize.ShloMosaic.Tactic

variable {F : FTy → Type} [FloatOps F] [Named F]

theorem slot7_inb : ∀ (h : Fin 8) (a : Fin 3), (![h.val, 0, 0] : Fin 3 → ℕ) a + S1x128x256.size a ≤ S8x128x256.size a := by decide
theorem slot8_inb : ∀ (b : Fin 2) (h : Fin 8) (a : Fin 4), (![b.val, h.val, 0, 0] : Fin 4 → ℕ) a + S1x1x256x256.size a ≤ S2x8x256x256.size a := by decide

/-- A head's accumulator, in its buffer; -/
abbrev slot7 (h : Fin 8) : Rect S8x128x256 := Rect.unit (s := S8x128x256) ![h.val, 0, 0] S1x128x256.size (slot7_inb h)
/-- its scores, in one of the two halves of theirs. -/
abbrev slot8 (b : Fin 2) (h : Fin 8) : Rect S2x8x256x256 := Rect.unit (s := S2x8x256x256) ![b.val, h.val, 0, 0] S1x1x256x256.size (slot8_inb b h)

/-- The carried maxima and sums of the eight heads. -/
def tup (s : Fin 8 → St F) : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 :=
  ((s 0).m, (s 1).m, (s 2).m, (s 3).m, (s 4).m, (s 5).m, (s 6).m, (s 7).m, (s 0).l, (s 1).l, (s 2).l, (s 3).l, (s 4).l, (s 5).l, (s 6).l, (s 7).l)

/-- What a run of the body at a grid point is given: the buffers, the words and the contents of what it reads. -/
structure Env (F : FTy → Type) [FloatOps F] [Named F] where
  𝒱 : Variants
  c : Dev nD
  bd : Option 𝒱.V
  i : grid0.Coords
  arg2 : Memref sig .tc .vmem S256x2048 .bf16
  harg2 : arg2.IsWhole
  arg3 : Memref sig .tc .vmem S2304x2048 .bf16
  harg3 : arg3.IsWhole
  arg4 : Memref sig .tc .vmem S9x1024x256 .bf16
  harg4 : arg4.IsWhole
  arg5 : Memref sig .tc .vmem S4x256x256 .f32
  harg5 : arg5.IsWhole
  arg6 : Memref sig .tc .vmem S256x1024 .bf16
  harg6 : arg6.IsWhole
  arg7 : Memref sig .tc .vmem S8x128x256 .f32
  harg7 : arg7.IsWhole
  arg8 : Memref sig .tc .vmem S2x8x256x256 .f32
  harg8 : arg8.IsWhole
  arg1 : BitVec 32
  v0 : BitVec 1
  v2 : BitVec 32
  v7 : BitVec 32
  v17 : FVec F S256x256 .f32
  v90 : FVec F S256x256 .bf16
  X2 : arg2.view.ty.Contents (Elt F)
  X3 : arg3.view.ty.Contents (Elt F)
  X4 : arg4.view.ty.Contents (Elt F)
  X5 : arg5.view.ty.Contents (Elt F)

namespace Env

abbrev tr (E : Env F) := trip_k0_t1 (F := F) E.𝒱 E.c E.bd E.i E.arg2 E.harg2 E.arg3 E.harg3 E.arg4 E.harg4 E.arg5 E.harg5 E.arg6 E.harg6 E.arg7 E.harg7 E.arg8 E.harg8 E.arg1 E.v0 E.v2 E.v7 E.v17 E.v90 E.X2 E.X3 E.X4 E.X5

/-- The blocks the body reads. -/
def x2 (E : Env F) : Vec F S256x2048 .bf16 := E.arg2.view.read (Elt F) E.X2
def x3 (E : Env F) : Vec F S2304x2048 .bf16 := E.arg3.view.read (Elt F) E.X3
def x4 (E : Env F) : Vec F S9x1024x256 .bf16 := E.arg4.view.read (Elt F) E.X4
def x5 (E : Env F) : Vec F S4x256x256 .f32 := E.arg5.view.read (Elt F) E.X5

/-- The scores, and the step, of the `c`-th chunk. -/
abbrev s (E : Env F) (c : ℕ) (h : Fin 8) := sc E.x2 E.x3 E.x5 (E.i 1).val c h
abbrev v (E : Env F) (c : ℕ) (h : Fin 8) := vch E.x4 (chunk c) h
def stp (E : Env F) (c : ℕ) (st : Fin 8 → St F) (h : Fin 8) : St F := (st h).step (E.s c h) (E.v c h)

theorem s_eq (E : Env F) (c : ℕ) (h : Fin 8) {o5 : Fin 3 → ℕ} {o3 : Fin 2 → ℕ} (h5 : o5 = ![(kind (E.i 1).val c).val, 0, 0])
    (h3 : o3 = ![256 * (chunk c).val, 256 * h.val]) (i5 : ∀ a, o5 a + S1x256x256.size a ≤ S4x256x256.size a)
    (i3 : ∀ a, o3 a + S256x256.size a ≤ S2304x2048.size a) :
    k0_pay10 (E.arg5.view.readAt (Elt F) (Rect.unit (s := S4x256x256) o5 S1x256x256.size i5).toLoadRect E.X5)
      (E.arg3.view.readAt (Elt F) (Rect.unit (s := S2304x2048) o3 S256x256.size i3).toLoadRect E.X3)
      (E.arg2.view.readAt (Elt F) (Rect.unit (s := S256x2048) ![0, 256 * h.val] S256x256.size (qh_inb h)).toLoadRect E.X2) = E.s c h := by
  subst h5; subst h3; rfl

theorem v_eq (E : Env F) (c : ℕ) (h : Fin 8) {o4 : Fin 3 → ℕ} (h4 : o4 = ![(chunk c).val, 128 * h.val, 0])
    (i4 : ∀ a, o4 a + S1x128x256.size a ≤ S9x1024x256.size a) :
    E.arg4.view.readAt (Elt F) (Rect.unit (s := S9x1024x256) o4 S1x128x256.size i4).toLoadRect E.X4 = E.v c h := by
  subst h4; rfl

theorem cur0 (E : Env F) (k : Fin (k0_t1_loop E.i).trips) : trip_k0_t1.sl.v610 E.i E.arg2 E.arg3 E.arg5 E.arg8 E.X2 E.X3 E.X5 k = E.s (2 * k.val + 1) 0 :=
  (rd_cov E.arg8.view (trip_k0_t1.sl.HW_arg8_16 E.i E.arg2 E.arg3 E.arg5 E.X2 E.X3 E.X5 k) 15 (slot8 1 0) _ rfl rfl).trans
    (s_eq E (2 * k.val + 1) 0 (o10 E.i k) (o11 E.i k) _ _)
theorem nxt0 (E : Env F) (k : Fin (k0_t1_loop E.i).trips) : trip_k0_t1.sl.v529 E.i E.arg2 E.arg3 E.arg5 E.X2 E.X3 E.X5 k = E.s (min (2 * k.val + 2) ((E.i 1).val + 1)) 0 :=
  s_eq E (min (2 * k.val + 2) ((E.i 1).val + 1)) 0 (o27 E.i k) (o28 E.i k) _ _

theorem cur1 (E : Env F) (k : Fin (k0_t1_loop E.i).trips) : trip_k0_t1.sl.v637 E.i E.arg2 E.arg3 E.arg5 E.arg8 E.X2 E.X3 E.X5 k = E.s (2 * k.val + 1) 1 :=
  (rd_cov E.arg8.view (trip_k0_t1.sl.HW_arg8_16 E.i E.arg2 E.arg3 E.arg5 E.X2 E.X3 E.X5 k) 14 (slot8 1 1) _ rfl rfl).trans
    (s_eq E (2 * k.val + 1) 1 (o10 E.i k) (o12 E.i k) _ _)
theorem nxt1 (E : Env F) (k : Fin (k0_t1_loop E.i).trips) : trip_k0_t1.sl.v539 E.i E.arg2 E.arg3 E.arg5 E.X2 E.X3 E.X5 k = E.s (min (2 * k.val + 2) ((E.i 1).val + 1)) 1 :=
  s_eq E (min (2 * k.val + 2) ((E.i 1).val + 1)) 1 (o27 E.i k) (o29 E.i k) _ _

theorem cur2 (E : Env F) (k : Fin (k0_t1_loop E.i).trips) : trip_k0_t1.sl.v664 E.i E.arg2 E.arg3 E.arg5 E.arg8 E.X2 E.X3 E.X5 k = E.s (2 * k.val + 1) 2 :=
  (rd_cov E.arg8.view (trip_k0_t1.sl.HW_arg8_16 E.i E.arg2 E.arg3 E.arg5 E.X2 E.X3 E.X5 k) 13 (slot8 1 2) _ rfl rfl).trans
    (s_eq E (2 * k.val + 1) 2 (o10 E.i k) (o13 E.i k) _ _)
theorem nxt2 (E : Env F) (k : Fin (k0_t1_loop E.i).trips) : trip_k0_t1.sl.v549 E.i E.arg2 E.arg3 E.arg5 E.X2 E.X3 E.X5 k = E.s (min (2 * k.val + 2) ((E.i 1).val + 1)) 2 :=
  s_eq E (min (2 * k.val + 2) ((E.i 1).val + 1)) 2 (o27 E.i k) (o30 E.i k) _ _

theorem cur3 (E : Env F) (k : Fin (k0_t1_loop E.i).trips) : trip_k0_t1.sl.v691 E.i E.arg2 E.arg3 E.arg5 E.arg8 E.X2 E.X3 E.X5 k = E.s (2 * k.val + 1) 3 :=
  (rd_cov E.arg8.view (trip_k0_t1.sl.HW_arg8_16 E.i E.arg2 E.arg3 E.arg5 E.X2 E.X3 E.X5 k) 12 (slot8 1 3) _ rfl rfl).trans
    (s_eq E (2 * k.val + 1) 3 (o10 E.i k) (o14 E.i k) _ _)
theorem nxt3 (E : Env F) (k : Fin (k0_t1_loop E.i).trips) : trip_k0_t1.sl.v559 E.i E.arg2 E.arg3 E.arg5 E.X2 E.X3 E.X5 k = E.s (min (2 * k.val + 2) ((E.i 1).val + 1)) 3 :=
  s_eq E (min (2 * k.val + 2) ((E.i 1).val + 1)) 3 (o27 E.i k) (o31 E.i k) _ _

theorem cur4 (E : Env F) (k : Fin (k0_t1_loop E.i).trips) : trip_k0_t1.sl.v718 E.i E.arg2 E.arg3 E.arg5 E.arg8 E.X2 E.X3 E.X5 k = E.s (2 * k.val + 1) 4 :=
  (rd_cov E.arg8.view (trip_k0_t1.sl.HW_arg8_16 E.i E.arg2 E.arg3 E.arg5 E.X2 E.X3 E.X5 k) 11 (slot8 1 4) _ rfl rfl).trans
    (s_eq E (2 * k.val + 1) 4 (o10 E.i k) (o15 E.i k) _ _)
theorem nxt4 (E : Env F) (k : Fin (k0_t1_loop E.i).trips) : trip_k0_t1.sl.v569 E.i E.arg2 E.arg3 E.arg5 E.X2 E.X3 E.X5 k = E.s (min (2 * k.val + 2) ((E.i 1).val + 1)) 4 :=
  s_eq E (min (2 * k.val + 2) ((E.i 1).val + 1)) 4 (o27 E.i k) (o32 E.i k) _ _

theorem cur5 (E : Env F) (k : Fin (k0_t1_loop E.i).trips) : trip_k0_t1.sl.v745 E.i E.arg2 E.arg3 E.arg5 E.arg8 E.X2 E.X3 E.X5 k = E.s (2 * k.val + 1) 5 :=
  (rd_cov E.arg8.view (trip_k0_t1.sl.HW_arg8_16 E.i E.arg2 E.arg3 E.arg5 E.X2 E.X3 E.X5 k) 10 (slot8 1 5) _ rfl rfl).trans
    (s_eq E (2 * k.val + 1) 5 (o10 E.i k) (o16 E.i k) _ _)
theorem nxt5 (E : Env F) (k : Fin (k0_t1_loop E.i).trips) : trip_k0_t1.sl.v579 E.i E.arg2 E.arg3 E.arg5 E.X2 E.X3 E.X5 k = E.s (min (2 * k.val + 2) ((E.i 1).val + 1)) 5 :=
  s_eq E (min (2 * k.val + 2) ((E.i 1).val + 1)) 5 (o27 E.i k) (o33 E.i k) _ _

theorem cur6 (E : Env F) (k : Fin (k0_t1_loop E.i).trips) : trip_k0_t1.sl.v772 E.i E.arg2 E.arg3 E.arg5 E.arg8 E.X2 E.X3 E.X5 k = E.s (2 * k.val + 1) 6 :=
  (rd_cov E.arg8.view (trip_k0_t1.sl.HW_arg8_16 E.i E.arg2 E.arg3 E.arg5 E.X2 E.X3 E.X5 k) 9 (slot8 1 6) _ rfl rfl).trans
    (s_eq E (2 * k.val + 1) 6 (o10 E.i k) (o17 E.i k) _ _)
theorem nxt6 (E : Env F) (k : Fin (k0_t1_loop E.i).trips) : trip_k0_t1.sl.v589 E.i E.arg2 E.arg3 E.arg5 E.X2 E.X3 E.X5 k = E.s (min (2 * k.val + 2) ((E.i 1).val + 1)) 6 :=
  s_eq E (min (2 * k.val + 2) ((E.i 1).val + 1)) 6 (o27 E.i k) (o34 E.i k) _ _

theorem cur7 (E : Env F) (k : Fin (k0_t1_loop E.i).trips) : trip_k0_t1.sl.v799 E.i E.arg2 E.arg3 E.arg5 E.arg8 E.X2 E.X3 E.X5 k = E.s (2 * k.val + 1) 7 :=
  (rd_cov E.arg8.view (trip_k0_t1.sl.HW_arg8_16 E.i E.arg2 E.arg3 E.arg5 E.X2 E.X3 E.X5 k) 8 (slot8 1 7) _ rfl rfl).trans
    (s_eq E (2 * k.val + 1) 7 (o10 E.i k) (o18 E.i k) _ _)
theorem nxt7 (E : Env F) (k : Fin (k0_t1_loop E.i).trips) : trip_k0_t1.sl.v599 E.i E.arg2 E.arg3 E.arg5 E.X2 E.X3 E.X5 k = E.s (min (2 * k.val + 2) ((E.i 1).val + 1)) 7 :=
  s_eq E (min (2 * k.val + 2) ((E.i 1).val + 1)) 7 (o27 E.i k) (o35 E.i k) _ _

theorem m0 (E : Env F) (k : Fin (k0_t1_loop E.i).trips) (st : Fin 8 → St F) (f8) (hS : ∀ h, E.arg8.view.readAt (Elt F) (slot8 0 h).toLoadRect f8 = E.s (2 * k.val) h) :
    trip_k0_t1.sl.v614 E.i E.arg2 E.arg3 E.arg5 E.arg8 E.X2 E.X3 E.X5 k (tup st) f8 = (E.stp (2 * k.val + 1) (E.stp (2 * k.val) st) 0).m := by
  show k0_pay22 (k0_pay22 (st 0).m (E.arg8.view.readAt (Elt F) (slot8 0 0).toLoadRect f8)) (trip_k0_t1.sl.v610 E.i E.arg2 E.arg3 E.arg5 E.arg8 E.X2 E.X3 E.X5 k) = _
  rw [hS, cur0]; rfl
theorem l0 (E : Env F) (k : Fin (k0_t1_loop E.i).trips) (st : Fin 8 → St F) (f8) (hS : ∀ h, E.arg8.view.readAt (Elt F) (slot8 0 h).toLoadRect f8 = E.s (2 * k.val) h) :
    trip_k0_t1.sl.v623 E.i E.arg2 E.arg3 E.arg5 E.arg8 E.X2 E.X3 E.X5 k (tup st) f8 = (E.stp (2 * k.val + 1) (E.stp (2 * k.val) st) 0).l := by
  show k0_pay25 (k0_pay22 (st 0).m (E.arg8.view.readAt (Elt F) (slot8 0 0).toLoadRect f8))
    (k0_pay25 (st 0).m (st 0).l (E.arg8.view.readAt (Elt F) (slot8 0 0).toLoadRect f8)) (trip_k0_t1.sl.v610 E.i E.arg2 E.arg3 E.arg5 E.arg8 E.X2 E.X3 E.X5 k) = _
  rw [hS, cur0]; rfl

theorem m1 (E : Env F) (k : Fin (k0_t1_loop E.i).trips) (st : Fin 8 → St F) (f8) (hS : ∀ h, E.arg8.view.readAt (Elt F) (slot8 0 h).toLoadRect f8 = E.s (2 * k.val) h) :
    trip_k0_t1.sl.v641 E.i E.arg2 E.arg3 E.arg5 E.arg8 E.X2 E.X3 E.X5 k (tup st) f8 = (E.stp (2 * k.val + 1) (E.stp (2 * k.val) st) 1).m := by
  show k0_pay22 (k0_pay22 (st 1).m (E.arg8.view.readAt (Elt F) (slot8 0 1).toLoadRect f8)) (trip_k0_t1.sl.v637 E.i E.arg2 E.arg3 E.arg5 E.arg8 E.X2 E.X3 E.X5 k) = _
  rw [hS, cur1]; rfl
theorem l1 (E : Env F) (k : Fin (k0_t1_loop E.i).trips) (st : Fin 8 → St F) (f8) (hS : ∀ h, E.arg8.view.readAt (Elt F) (slot8 0 h).toLoadRect f8 = E.s (2 * k.val) h) :
    trip_k0_t1.sl.v650 E.i E.arg2 E.arg3 E.arg5 E.arg8 E.X2 E.X3 E.X5 k (tup st) f8 = (E.stp (2 * k.val + 1) (E.stp (2 * k.val) st) 1).l := by
  show k0_pay25 (k0_pay22 (st 1).m (E.arg8.view.readAt (Elt F) (slot8 0 1).toLoadRect f8))
    (k0_pay25 (st 1).m (st 1).l (E.arg8.view.readAt (Elt F) (slot8 0 1).toLoadRect f8)) (trip_k0_t1.sl.v637 E.i E.arg2 E.arg3 E.arg5 E.arg8 E.X2 E.X3 E.X5 k) = _
  rw [hS, cur1]; rfl

theorem m2 (E : Env F) (k : Fin (k0_t1_loop E.i).trips) (st : Fin 8 → St F) (f8) (hS : ∀ h, E.arg8.view.readAt (Elt F) (slot8 0 h).toLoadRect f8 = E.s (2 * k.val) h) :
    trip_k0_t1.sl.v668 E.i E.arg2 E.arg3 E.arg5 E.arg8 E.X2 E.X3 E.X5 k (tup st) f8 = (E.stp (2 * k.val + 1) (E.stp (2 * k.val) st) 2).m := by
  show k0_pay22 (k0_pay22 (st 2).m (E.arg8.view.readAt (Elt F) (slot8 0 2).toLoadRect f8)) (trip_k0_t1.sl.v664 E.i E.arg2 E.arg3 E.arg5 E.arg8 E.X2 E.X3 E.X5 k) = _
  rw [hS, cur2]; rfl
theorem l2 (E : Env F) (k : Fin (k0_t1_loop E.i).trips) (st : Fin 8 → St F) (f8) (hS : ∀ h, E.arg8.view.readAt (Elt F) (slot8 0 h).toLoadRect f8 = E.s (2 * k.val) h) :
    trip_k0_t1.sl.v677 E.i E.arg2 E.arg3 E.arg5 E.arg8 E.X2 E.X3 E.X5 k (tup st) f8 = (E.stp (2 * k.val + 1) (E.stp (2 * k.val) st) 2).l := by
  show k0_pay25 (k0_pay22 (st 2).m (E.arg8.view.readAt (Elt F) (slot8 0 2).toLoadRect f8))
    (k0_pay25 (st 2).m (st 2).l (E.arg8.view.readAt (Elt F) (slot8 0 2).toLoadRect f8)) (trip_k0_t1.sl.v664 E.i E.arg2 E.arg3 E.arg5 E.arg8 E.X2 E.X3 E.X5 k) = _
  rw [hS, cur2]; rfl

theorem m3 (E : Env F) (k : Fin (k0_t1_loop E.i).trips) (st : Fin 8 → St F) (f8) (hS : ∀ h, E.arg8.view.readAt (Elt F) (slot8 0 h).toLoadRect f8 = E.s (2 * k.val) h) :
    trip_k0_t1.sl.v695 E.i E.arg2 E.arg3 E.arg5 E.arg8 E.X2 E.X3 E.X5 k (tup st) f8 = (E.stp (2 * k.val + 1) (E.stp (2 * k.val) st) 3).m := by
  show k0_pay22 (k0_pay22 (st 3).m (E.arg8.view.readAt (Elt F) (slot8 0 3).toLoadRect f8)) (trip_k0_t1.sl.v691 E.i E.arg2 E.arg3 E.arg5 E.arg8 E.X2 E.X3 E.X5 k) = _
  rw [hS, cur3]; rfl
theorem l3 (E : Env F) (k : Fin (k0_t1_loop E.i).trips) (st : Fin 8 → St F) (f8) (hS : ∀ h, E.arg8.view.readAt (Elt F) (slot8 0 h).toLoadRect f8 = E.s (2 * k.val) h) :
    trip_k0_t1.sl.v704 E.i E.arg2 E.arg3 E.arg5 E.arg8 E.X2 E.X3 E.X5 k (tup st) f8 = (E.stp (2 * k.val + 1) (E.stp (2 * k.val) st) 3).l := by
  show k0_pay25 (k0_pay22 (st 3).m (E.arg8.view.readAt (Elt F) (slot8 0 3).toLoadRect f8))
    (k0_pay25 (st 3).m (st 3).l (E.arg8.view.readAt (Elt F) (slot8 0 3).toLoadRect f8)) (trip_k0_t1.sl.v691 E.i E.arg2 E.arg3 E.arg5 E.arg8 E.X2 E.X3 E.X5 k) = _
  rw [hS, cur3]; rfl

theorem m4 (E : Env F) (k : Fin (k0_t1_loop E.i).trips) (st : Fin 8 → St F) (f8) (hS : ∀ h, E.arg8.view.readAt (Elt F) (slot8 0 h).toLoadRect f8 = E.s (2 * k.val) h) :
    trip_k0_t1.sl.v722 E.i E.arg2 E.arg3 E.arg5 E.arg8 E.X2 E.X3 E.X5 k (tup st) f8 = (E.stp (2 * k.val + 1) (E.stp (2 * k.val) st) 4).m := by
  show k0_pay22 (k0_pay22 (st 4).m (E.arg8.view.readAt (Elt F) (slot8 0 4).toLoadRect f8)) (trip_k0_t1.sl.v718 E.i E.arg2 E.arg3 E.arg5 E.arg8 E.X2 E.X3 E.X5 k) = _
  rw [hS, cur4]; rfl
theorem l4 (E : Env F) (k : Fin (k0_t1_loop E.i).trips) (st : Fin 8 → St F) (f8) (hS : ∀ h, E.arg8.view.readAt (Elt F) (slot8 0 h).toLoadRect f8 = E.s (2 * k.val) h) :
    trip_k0_t1.sl.v731 E.i E.arg2 E.arg3 E.arg5 E.arg8 E.X2 E.X3 E.X5 k (tup st) f8 = (E.stp (2 * k.val + 1) (E.stp (2 * k.val) st) 4).l := by
  show k0_pay25 (k0_pay22 (st 4).m (E.arg8.view.readAt (Elt F) (slot8 0 4).toLoadRect f8))
    (k0_pay25 (st 4).m (st 4).l (E.arg8.view.readAt (Elt F) (slot8 0 4).toLoadRect f8)) (trip_k0_t1.sl.v718 E.i E.arg2 E.arg3 E.arg5 E.arg8 E.X2 E.X3 E.X5 k) = _
  rw [hS, cur4]; rfl

theorem m5 (E : Env F) (k : Fin (k0_t1_loop E.i).trips) (st : Fin 8 → St F) (f8) (hS : ∀ h, E.arg8.view.readAt (Elt F) (slot8 0 h).toLoadRect f8 = E.s (2 * k.val) h) :
    trip_k0_t1.sl.v749 E.i E.arg2 E.arg3 E.arg5 E.arg8 E.X2 E.X3 E.X5 k (tup st) f8 = (E.stp (2 * k.val + 1) (E.stp (2 * k.val) st) 5).m := by
  show k0_pay22 (k0_pay22 (st 5).m (E.arg8.view.readAt (Elt F) (slot8 0 5).toLoadRect f8)) (trip_k0_t1.sl.v745 E.i E.arg2 E.arg3 E.arg5 E.arg8 E.X2 E.X3 E.X5 k) = _
  rw [hS, cur5]; rfl
theorem l5 (E : Env F) (k : Fin (k0_t1_loop E.i).trips) (st : Fin 8 → St F) (f8) (hS : ∀ h, E.arg8.view.readAt (Elt F) (slot8 0 h).toLoadRect f8 = E.s (2 * k.val) h) :
    trip_k0_t1.sl.v758 E.i E.arg2 E.arg3 E.arg5 E.arg8 E.X2 E.X3 E.X5 k (tup st) f8 = (E.stp (2 * k.val + 1) (E.stp (2 * k.val) st) 5).l := by
  show k0_pay25 (k0_pay22 (st 5).m (E.arg8.view.readAt (Elt F) (slot8 0 5).toLoadRect f8))
    (k0_pay25 (st 5).m (st 5).l (E.arg8.view.readAt (Elt F) (slot8 0 5).toLoadRect f8)) (trip_k0_t1.sl.v745 E.i E.arg2 E.arg3 E.arg5 E.arg8 E.X2 E.X3 E.X5 k) = _
  rw [hS, cur5]; rfl

theorem m6 (E : Env F) (k : Fin (k0_t1_loop E.i).trips) (st : Fin 8 → St F) (f8) (hS : ∀ h, E.arg8.view.readAt (Elt F) (slot8 0 h).toLoadRect f8 = E.s (2 * k.val) h) :
    trip_k0_t1.sl.v776 E.i E.arg2 E.arg3 E.arg5 E.arg8 E.X2 E.X3 E.X5 k (tup st) f8 = (E.stp (2 * k.val + 1) (E.stp (2 * k.val) st) 6).m := by
  show k0_pay22 (k0_pay22 (st 6).m (E.arg8.view.readAt (Elt F) (slot8 0 6).toLoadRect f8)) (trip_k0_t1.sl.v772 E.i E.arg2 E.arg3 E.arg5 E.arg8 E.X2 E.X3 E.X5 k) = _
  rw [hS, cur6]; rfl
theorem l6 (E : Env F) (k : Fin (k0_t1_loop E.i).trips) (st : Fin 8 → St F) (f8) (hS : ∀ h, E.arg8.view.readAt (Elt F) (slot8 0 h).toLoadRect f8 = E.s (2 * k.val) h) :
    trip_k0_t1.sl.v785 E.i E.arg2 E.arg3 E.arg5 E.arg8 E.X2 E.X3 E.X5 k (tup st) f8 = (E.stp (2 * k.val + 1) (E.stp (2 * k.val) st) 6).l := by
  show k0_pay25 (k0_pay22 (st 6).m (E.arg8.view.readAt (Elt F) (slot8 0 6).toLoadRect f8))
    (k0_pay25 (st 6).m (st 6).l (E.arg8.view.readAt (Elt F) (slot8 0 6).toLoadRect f8)) (trip_k0_t1.sl.v772 E.i E.arg2 E.arg3 E.arg5 E.arg8 E.X2 E.X3 E.X5 k) = _
  rw [hS, cur6]; rfl

theorem m7 (E : Env F) (k : Fin (k0_t1_loop E.i).trips) (st : Fin 8 → St F) (f8) (hS : ∀ h, E.arg8.view.readAt (Elt F) (slot8 0 h).toLoadRect f8 = E.s (2 * k.val) h) :
    trip_k0_t1.sl.v803 E.i E.arg2 E.arg3 E.arg5 E.arg8 E.X2 E.X3 E.X5 k (tup st) f8 = (E.stp (2 * k.val + 1) (E.stp (2 * k.val) st) 7).m := by
  show k0_pay22 (k0_pay22 (st 7).m (E.arg8.view.readAt (Elt F) (slot8 0 7).toLoadRect f8)) (trip_k0_t1.sl.v799 E.i E.arg2 E.arg3 E.arg5 E.arg8 E.X2 E.X3 E.X5 k) = _
  rw [hS, cur7]; rfl
theorem l7 (E : Env F) (k : Fin (k0_t1_loop E.i).trips) (st : Fin 8 → St F) (f8) (hS : ∀ h, E.arg8.view.readAt (Elt F) (slot8 0 h).toLoadRect f8 = E.s (2 * k.val) h) :
    trip_k0_t1.sl.v812 E.i E.arg2 E.arg3 E.arg5 E.arg8 E.X2 E.X3 E.X5 k (tup st) f8 = (E.stp (2 * k.val + 1) (E.stp (2 * k.val) st) 7).l := by
  show k0_pay25 (k0_pay22 (st 7).m (E.arg8.view.readAt (Elt F) (slot8 0 7).toLoadRect f8))
    (k0_pay25 (st 7).m (st 7).l (E.arg8.view.readAt (Elt F) (slot8 0 7).toLoadRect f8)) (trip_k0_t1.sl.v799 E.i E.arg2 E.arg3 E.arg5 E.arg8 E.X2 E.X3 E.X5 k) = _
  rw [hS, cur7]; rfl

theorem a0 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v314 E.i E.arg4 E.arg7 E.arg8 E.X4 k (tup st) f7 f8 = (E.stp (2 * k.val) st 0).a := by
  show k0_pay27 (k0_pay26 (st 0).m (E.arg8.view.readAt (Elt F) (slot8 0 0).toLoadRect f8) (E.arg4.view.readAt (Elt F) (Rect.unit (s := S9x1024x256) (k0_off19 E.i k) S1x128x256.size (k0_off19_inb E.i k)).toLoadRect E.X4) (E.arg7.view.readAt (Elt F) (slot7 0).toLoadRect f7)) = _
  rw [hS, hA, v_eq E (2 * k.val) 0 (o19 E.i k)]; rfl

theorem a1 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v341 E.i E.arg4 E.arg7 E.arg8 E.X4 k (tup st) f7 f8 = (E.stp (2 * k.val) st 1).a := by
  show k0_pay27 (k0_pay26 (st 1).m (E.arg8.view.readAt (Elt F) (slot8 0 1).toLoadRect f8) (E.arg4.view.readAt (Elt F) (Rect.unit (s := S9x1024x256) (k0_off20 E.i k) S1x128x256.size (k0_off20_inb E.i k)).toLoadRect E.X4) (E.arg7.view.readAt (Elt F) (slot7 1).toLoadRect f7)) = _
  rw [hS, hA, v_eq E (2 * k.val) 1 (o20 E.i k)]; rfl

theorem a2 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v368 E.i E.arg4 E.arg7 E.arg8 E.X4 k (tup st) f7 f8 = (E.stp (2 * k.val) st 2).a := by
  show k0_pay27 (k0_pay26 (st 2).m (E.arg8.view.readAt (Elt F) (slot8 0 2).toLoadRect f8) (E.arg4.view.readAt (Elt F) (Rect.unit (s := S9x1024x256) (k0_off21 E.i k) S1x128x256.size (k0_off21_inb E.i k)).toLoadRect E.X4) (E.arg7.view.readAt (Elt F) (slot7 2).toLoadRect f7)) = _
  rw [hS, hA, v_eq E (2 * k.val) 2 (o21 E.i k)]; rfl

theorem a3 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v395 E.i E.arg4 E.arg7 E.arg8 E.X4 k (tup st) f7 f8 = (E.stp (2 * k.val) st 3).a := by
  show k0_pay27 (k0_pay26 (st 3).m (E.arg8.view.readAt (Elt F) (slot8 0 3).toLoadRect f8) (E.arg4.view.readAt (Elt F) (Rect.unit (s := S9x1024x256) (k0_off22 E.i k) S1x128x256.size (k0_off22_inb E.i k)).toLoadRect E.X4) (E.arg7.view.readAt (Elt F) (slot7 3).toLoadRect f7)) = _
  rw [hS, hA, v_eq E (2 * k.val) 3 (o22 E.i k)]; rfl

theorem a4 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v422 E.i E.arg4 E.arg7 E.arg8 E.X4 k (tup st) f7 f8 = (E.stp (2 * k.val) st 4).a := by
  show k0_pay27 (k0_pay26 (st 4).m (E.arg8.view.readAt (Elt F) (slot8 0 4).toLoadRect f8) (E.arg4.view.readAt (Elt F) (Rect.unit (s := S9x1024x256) (k0_off23 E.i k) S1x128x256.size (k0_off23_inb E.i k)).toLoadRect E.X4) (E.arg7.view.readAt (Elt F) (slot7 4).toLoadRect f7)) = _
  rw [hS, hA, v_eq E (2 * k.val) 4 (o23 E.i k)]; rfl

theorem a5 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v449 E.i E.arg4 E.arg7 E.arg8 E.X4 k (tup st) f7 f8 = (E.stp (2 * k.val) st 5).a := by
  show k0_pay27 (k0_pay26 (st 5).m (E.arg8.view.readAt (Elt F) (slot8 0 5).toLoadRect f8) (E.arg4.view.readAt (Elt F) (Rect.unit (s := S9x1024x256) (k0_off24 E.i k) S1x128x256.size (k0_off24_inb E.i k)).toLoadRect E.X4) (E.arg7.view.readAt (Elt F) (slot7 5).toLoadRect f7)) = _
  rw [hS, hA, v_eq E (2 * k.val) 5 (o24 E.i k)]; rfl

theorem a6 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v476 E.i E.arg4 E.arg7 E.arg8 E.X4 k (tup st) f7 f8 = (E.stp (2 * k.val) st 6).a := by
  show k0_pay27 (k0_pay26 (st 6).m (E.arg8.view.readAt (Elt F) (slot8 0 6).toLoadRect f8) (E.arg4.view.readAt (Elt F) (Rect.unit (s := S9x1024x256) (k0_off25 E.i k) S1x128x256.size (k0_off25_inb E.i k)).toLoadRect E.X4) (E.arg7.view.readAt (Elt F) (slot7 6).toLoadRect f7)) = _
  rw [hS, hA, v_eq E (2 * k.val) 6 (o25 E.i k)]; rfl

theorem a7 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v503 E.i E.arg4 E.arg7 E.arg8 E.X4 k (tup st) f7 f8 = (E.stp (2 * k.val) st 7).a := by
  show k0_pay27 (k0_pay26 (st 7).m (E.arg8.view.readAt (Elt F) (slot8 0 7).toLoadRect f8) (E.arg4.view.readAt (Elt F) (Rect.unit (s := S9x1024x256) (k0_off26 E.i k) S1x128x256.size (k0_off26_inb E.i k)).toLoadRect E.X4) (E.arg7.view.readAt (Elt F) (slot7 7).toLoadRect f7)) = _
  rw [hS, hA, v_eq E (2 * k.val) 7 (o26 E.i k)]; rfl

theorem cura0 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_8 E.i E.arg4 E.arg7 E.arg8 E.X4 k (tup st) f7 f8) (slot7 0).toLoadRect = (E.stp (2 * k.val) st 0).a :=
  (rd_cov E.arg7.view (trip_k0_t1.sl.HW_arg7_8 E.i E.arg4 E.arg7 E.arg8 E.X4 k (tup st) f7 f8) 7 (slot7 0) _ rfl rfl).trans (E.a0 k st f7 f8 hA hS)
theorem b0 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v636 E.i E.arg2 E.arg3 E.arg4 E.arg5 E.arg7 E.arg8 E.X2 E.X3 E.X4 E.X5 k (tup st) f7 f8 = (E.stp (2 * k.val + 1) (E.stp (2 * k.val) st) 0).a := by
  show k0_pay27 (k0_pay26 (k0_pay22 (st 0).m (E.arg8.view.readAt (Elt F) (slot8 0 0).toLoadRect f8)) (trip_k0_t1.sl.v610 E.i E.arg2 E.arg3 E.arg5 E.arg8 E.X2 E.X3 E.X5 k) (E.arg4.view.readAt (Elt F) (Rect.unit (s := S9x1024x256) (k0_off36 E.i k) S1x128x256.size (k0_off36_inb E.i k)).toLoadRect E.X4) (E.arg7.view.readCov (trip_k0_t1.sl.HW_arg7_8 E.i E.arg4 E.arg7 E.arg8 E.X4 k (tup st) f7 f8) (slot7 0).toLoadRect)) = _
  rw [cura0 E k st f7 f8 hA hS, cur0, hS, v_eq E (2 * k.val + 1) 0 (o36 E.i k)]; rfl

theorem cura1 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_9 E.i E.arg2 E.arg3 E.arg4 E.arg5 E.arg7 E.arg8 E.X2 E.X3 E.X4 E.X5 k (tup st) f7 f8) (slot7 1).toLoadRect = (E.stp (2 * k.val) st 1).a :=
  (rd_cov E.arg7.view (trip_k0_t1.sl.HW_arg7_9 E.i E.arg2 E.arg3 E.arg4 E.arg5 E.arg7 E.arg8 E.X2 E.X3 E.X4 E.X5 k (tup st) f7 f8) 7 (slot7 1) _ rfl rfl).trans (E.a1 k st f7 f8 hA hS)
theorem b1 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v663 E.i E.arg2 E.arg3 E.arg4 E.arg5 E.arg7 E.arg8 E.X2 E.X3 E.X4 E.X5 k (tup st) f7 f8 = (E.stp (2 * k.val + 1) (E.stp (2 * k.val) st) 1).a := by
  show k0_pay27 (k0_pay26 (k0_pay22 (st 1).m (E.arg8.view.readAt (Elt F) (slot8 0 1).toLoadRect f8)) (trip_k0_t1.sl.v637 E.i E.arg2 E.arg3 E.arg5 E.arg8 E.X2 E.X3 E.X5 k) (E.arg4.view.readAt (Elt F) (Rect.unit (s := S9x1024x256) (k0_off37 E.i k) S1x128x256.size (k0_off37_inb E.i k)).toLoadRect E.X4) (E.arg7.view.readCov (trip_k0_t1.sl.HW_arg7_9 E.i E.arg2 E.arg3 E.arg4 E.arg5 E.arg7 E.arg8 E.X2 E.X3 E.X4 E.X5 k (tup st) f7 f8) (slot7 1).toLoadRect)) = _
  rw [cura1 E k st f7 f8 hA hS, cur1, hS, v_eq E (2 * k.val + 1) 1 (o37 E.i k)]; rfl

theorem cura2 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_10 E.i E.arg2 E.arg3 E.arg4 E.arg5 E.arg7 E.arg8 E.X2 E.X3 E.X4 E.X5 k (tup st) f7 f8) (slot7 2).toLoadRect = (E.stp (2 * k.val) st 2).a :=
  (rd_cov E.arg7.view (trip_k0_t1.sl.HW_arg7_10 E.i E.arg2 E.arg3 E.arg4 E.arg5 E.arg7 E.arg8 E.X2 E.X3 E.X4 E.X5 k (tup st) f7 f8) 7 (slot7 2) _ rfl rfl).trans (E.a2 k st f7 f8 hA hS)
theorem b2 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v690 E.i E.arg2 E.arg3 E.arg4 E.arg5 E.arg7 E.arg8 E.X2 E.X3 E.X4 E.X5 k (tup st) f7 f8 = (E.stp (2 * k.val + 1) (E.stp (2 * k.val) st) 2).a := by
  show k0_pay27 (k0_pay26 (k0_pay22 (st 2).m (E.arg8.view.readAt (Elt F) (slot8 0 2).toLoadRect f8)) (trip_k0_t1.sl.v664 E.i E.arg2 E.arg3 E.arg5 E.arg8 E.X2 E.X3 E.X5 k) (E.arg4.view.readAt (Elt F) (Rect.unit (s := S9x1024x256) (k0_off38 E.i k) S1x128x256.size (k0_off38_inb E.i k)).toLoadRect E.X4) (E.arg7.view.readCov (trip_k0_t1.sl.HW_arg7_10 E.i E.arg2 E.arg3 E.arg4 E.arg5 E.arg7 E.arg8 E.X2 E.X3 E.X4 E.X5 k (tup st) f7 f8) (slot7 2).toLoadRect)) = _
  rw [cura2 E k st f7 f8 hA hS, cur2, hS, v_eq E (2 * k.val + 1) 2 (o38 E.i k)]; rfl

theorem cura3 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_11 E.i E.arg2 E.arg3 E.arg4 E.arg5 E.arg7 E.arg8 E.X2 E.X3 E.X4 E.X5 k (tup st) f7 f8) (slot7 3).toLoadRect = (E.stp (2 * k.val) st 3).a :=
  (rd_cov E.arg7.view (trip_k0_t1.sl.HW_arg7_11 E.i E.arg2 E.arg3 E.arg4 E.arg5 E.arg7 E.arg8 E.X2 E.X3 E.X4 E.X5 k (tup st) f7 f8) 7 (slot7 3) _ rfl rfl).trans (E.a3 k st f7 f8 hA hS)
theorem b3 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v717 E.i E.arg2 E.arg3 E.arg4 E.arg5 E.arg7 E.arg8 E.X2 E.X3 E.X4 E.X5 k (tup st) f7 f8 = (E.stp (2 * k.val + 1) (E.stp (2 * k.val) st) 3).a := by
  show k0_pay27 (k0_pay26 (k0_pay22 (st 3).m (E.arg8.view.readAt (Elt F) (slot8 0 3).toLoadRect f8)) (trip_k0_t1.sl.v691 E.i E.arg2 E.arg3 E.arg5 E.arg8 E.X2 E.X3 E.X5 k) (E.arg4.view.readAt (Elt F) (Rect.unit (s := S9x1024x256) (k0_off39 E.i k) S1x128x256.size (k0_off39_inb E.i k)).toLoadRect E.X4) (E.arg7.view.readCov (trip_k0_t1.sl.HW_arg7_11 E.i E.arg2 E.arg3 E.arg4 E.arg5 E.arg7 E.arg8 E.X2 E.X3 E.X4 E.X5 k (tup st) f7 f8) (slot7 3).toLoadRect)) = _
  rw [cura3 E k st f7 f8 hA hS, cur3, hS, v_eq E (2 * k.val + 1) 3 (o39 E.i k)]; rfl

theorem cura4 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_12 E.i E.arg2 E.arg3 E.arg4 E.arg5 E.arg7 E.arg8 E.X2 E.X3 E.X4 E.X5 k (tup st) f7 f8) (slot7 4).toLoadRect = (E.stp (2 * k.val) st 4).a :=
  (rd_cov E.arg7.view (trip_k0_t1.sl.HW_arg7_12 E.i E.arg2 E.arg3 E.arg4 E.arg5 E.arg7 E.arg8 E.X2 E.X3 E.X4 E.X5 k (tup st) f7 f8) 7 (slot7 4) _ rfl rfl).trans (E.a4 k st f7 f8 hA hS)
theorem b4 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v744 E.i E.arg2 E.arg3 E.arg4 E.arg5 E.arg7 E.arg8 E.X2 E.X3 E.X4 E.X5 k (tup st) f7 f8 = (E.stp (2 * k.val + 1) (E.stp (2 * k.val) st) 4).a := by
  show k0_pay27 (k0_pay26 (k0_pay22 (st 4).m (E.arg8.view.readAt (Elt F) (slot8 0 4).toLoadRect f8)) (trip_k0_t1.sl.v718 E.i E.arg2 E.arg3 E.arg5 E.arg8 E.X2 E.X3 E.X5 k) (E.arg4.view.readAt (Elt F) (Rect.unit (s := S9x1024x256) (k0_off40 E.i k) S1x128x256.size (k0_off40_inb E.i k)).toLoadRect E.X4) (E.arg7.view.readCov (trip_k0_t1.sl.HW_arg7_12 E.i E.arg2 E.arg3 E.arg4 E.arg5 E.arg7 E.arg8 E.X2 E.X3 E.X4 E.X5 k (tup st) f7 f8) (slot7 4).toLoadRect)) = _
  rw [cura4 E k st f7 f8 hA hS, cur4, hS, v_eq E (2 * k.val + 1) 4 (o40 E.i k)]; rfl

theorem cura5 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_13 E.i E.arg2 E.arg3 E.arg4 E.arg5 E.arg7 E.arg8 E.X2 E.X3 E.X4 E.X5 k (tup st) f7 f8) (slot7 5).toLoadRect = (E.stp (2 * k.val) st 5).a :=
  (rd_cov E.arg7.view (trip_k0_t1.sl.HW_arg7_13 E.i E.arg2 E.arg3 E.arg4 E.arg5 E.arg7 E.arg8 E.X2 E.X3 E.X4 E.X5 k (tup st) f7 f8) 7 (slot7 5) _ rfl rfl).trans (E.a5 k st f7 f8 hA hS)
theorem b5 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v771 E.i E.arg2 E.arg3 E.arg4 E.arg5 E.arg7 E.arg8 E.X2 E.X3 E.X4 E.X5 k (tup st) f7 f8 = (E.stp (2 * k.val + 1) (E.stp (2 * k.val) st) 5).a := by
  show k0_pay27 (k0_pay26 (k0_pay22 (st 5).m (E.arg8.view.readAt (Elt F) (slot8 0 5).toLoadRect f8)) (trip_k0_t1.sl.v745 E.i E.arg2 E.arg3 E.arg5 E.arg8 E.X2 E.X3 E.X5 k) (E.arg4.view.readAt (Elt F) (Rect.unit (s := S9x1024x256) (k0_off41 E.i k) S1x128x256.size (k0_off41_inb E.i k)).toLoadRect E.X4) (E.arg7.view.readCov (trip_k0_t1.sl.HW_arg7_13 E.i E.arg2 E.arg3 E.arg4 E.arg5 E.arg7 E.arg8 E.X2 E.X3 E.X4 E.X5 k (tup st) f7 f8) (slot7 5).toLoadRect)) = _
  rw [cura5 E k st f7 f8 hA hS, cur5, hS, v_eq E (2 * k.val + 1) 5 (o41 E.i k)]; rfl

theorem cura6 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_14 E.i E.arg2 E.arg3 E.arg4 E.arg5 E.arg7 E.arg8 E.X2 E.X3 E.X4 E.X5 k (tup st) f7 f8) (slot7 6).toLoadRect = (E.stp (2 * k.val) st 6).a :=
  (rd_cov E.arg7.view (trip_k0_t1.sl.HW_arg7_14 E.i E.arg2 E.arg3 E.arg4 E.arg5 E.arg7 E.arg8 E.X2 E.X3 E.X4 E.X5 k (tup st) f7 f8) 7 (slot7 6) _ rfl rfl).trans (E.a6 k st f7 f8 hA hS)
theorem b6 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    trip_k0_t1.sl.v798 E.i E.arg2 E.arg3 E.arg4 E.arg5 E.arg7 E.arg8 E.X2 E.X3 E.X4 E.X5 k (tup st) f7 f8 = (E.stp (2 * k.val + 1) (E.stp (2 * k.val) st) 6).a := by
  show k0_pay27 (k0_pay26 (k0_pay22 (st 6).m (E.arg8.view.readAt (Elt F) (slot8 0 6).toLoadRect f8)) (trip_k0_t1.sl.v772 E.i E.arg2 E.arg3 E.arg5 E.arg8 E.X2 E.X3 E.X5 k) (E.arg4.view.readAt (Elt F) (Rect.unit (s := S9x1024x256) (k0_off42 E.i k) S1x128x256.size (k0_off42_inb E.i k)).toLoadRect E.X4) (E.arg7.view.readCov (trip_k0_t1.sl.HW_arg7_14 E.i E.arg2 E.arg3 E.arg4 E.arg5 E.arg7 E.arg8 E.X2 E.X3 E.X4 E.X5 k (tup st) f7 f8) (slot7 6).toLoadRect)) = _
  rw [cura6 E k st f7 f8 hA hS, cur6, hS, v_eq E (2 * k.val + 1) 6 (o42 E.i k)]; rfl

theorem cura7 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    E.arg7.view.readCov (trip_k0_t1.sl.HW_arg7_15 E.i E.arg2 E.arg3 E.arg4 E.arg5 E.arg7 E.arg8 E.X2 E.X3 E.X4 E.X5 k (tup st) f7 f8) (slot7 7).toLoadRect = (E.stp (2 * k.val) st 7).a :=
  (rd_cov E.arg7.view (trip_k0_t1.sl.HW_arg7_15 E.i E.arg2 E.arg3 E.arg4 E.arg5 E.arg7 E.arg8 E.X2 E.X3 E.X4 E.X5 k (tup st) f7 f8) 7 (slot7 7) _ rfl rfl).trans (E.a7 k st f7 f8 hA hS)
theorem b7 (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) :
    k0_pay344 (trip_k0_t1.sl.v805 E.i E.arg2 E.arg3 E.arg5 E.arg8 E.X2 E.X3 E.X5 k (tup st) f8) (trip_k0_t1.sl.v817 E.i E.arg2 E.arg3 E.arg4 E.arg5 E.arg8 E.X2 E.X3 E.X4 E.X5 k (tup st) f8) (trip_k0_t1.sl.v819 E.i E.arg2 E.arg3 E.arg4 E.arg5 E.arg7 E.arg8 E.X2 E.X3 E.X4 E.X5 k (tup st) f7 f8) = (E.stp (2 * k.val + 1) (E.stp (2 * k.val) st) 7).a := by
  show k0_pay27 (k0_pay26 (k0_pay22 (st 7).m (E.arg8.view.readAt (Elt F) (slot8 0 7).toLoadRect f8)) (trip_k0_t1.sl.v799 E.i E.arg2 E.arg3 E.arg5 E.arg8 E.X2 E.X3 E.X5 k) (E.arg4.view.readAt (Elt F) (Rect.unit (s := S9x1024x256) (k0_off43 E.i k) S1x128x256.size (k0_off43_inb E.i k)).toLoadRect E.X4) (E.arg7.view.readCov (trip_k0_t1.sl.HW_arg7_15 E.i E.arg2 E.arg3 E.arg4 E.arg5 E.arg7 E.arg8 E.X2 E.X3 E.X4 E.X5 k (tup st) f7 f8) (slot7 7).toLoadRect)) = _
  rw [cura7 E k st f7 f8 hA hS, cur7, hS, v_eq E (2 * k.val + 1) 7 (o43 E.i k)]; rfl

/-- What a trip carries on: two chunks more, -/
theorem tr_carry (E : Env F) (k : Fin (k0_t1_loop E.i).trips) (st : Fin 8 → St F) (f7) (f8) (hS : ∀ h, E.arg8.view.readAt (Elt F) (slot8 0 h).toLoadRect f8 = E.s (2 * k.val) h) :
    (E.tr k).1 (tup st) f7 f8 = tup (E.stp (2 * k.val + 1) (E.stp (2 * k.val) st)) := by
  unfold tr trip_k0_t1
  dsimp only
  rw [m0 E k st f8 hS, m1 E k st f8 hS, m2 E k st f8 hS, m3 E k st f8 hS, m4 E k st f8 hS, m5 E k st f8 hS, m6 E k st f8 hS, m7 E k st f8 hS, l0 E k st f8 hS, l1 E k st f8 hS, l2 E k st f8 hS, l3 E k st f8 hS, l4 E k st f8 hS, l5 E k st f8 hS, l6 E k st f8 hS, l7 E k st f8 hS]
  rfl

/-- what it leaves in the accumulators, -/
theorem tr_acc (E : Env F) (k : Fin (k0_t1_loop E.i).trips) (st : Fin 8 → St F) (f7) (f8) (hA : ∀ h, E.arg7.view.readAt (Elt F) (slot7 h).toLoadRect f7 = (st h).a) (hS : ∀ h, E.arg8.view.readAt (Elt F) (slot8 0 h).toLoadRect f8 = E.s (2 * k.val) h) (h : Fin 8) :
    E.arg7.view.readAt (Elt F) (slot7 h).toLoadRect (E.arg7.view.writes (Elt F) f7 ((E.tr k).2.1 (tup st) f7 f8))
      = (E.stp (2 * k.val + 1) (E.stp (2 * k.val) st) h).a := by
  unfold tr trip_k0_t1
  dsimp only
  match h with
  | 0 => exact (rd_nth E.arg7.view f7 _ 7 (slot7 0) _ rfl rfl).trans (E.b0 k st f7 f8 hA hS)
  | 1 => exact (rd_nth E.arg7.view f7 _ 6 (slot7 1) _ rfl rfl).trans (E.b1 k st f7 f8 hA hS)
  | 2 => exact (rd_nth E.arg7.view f7 _ 5 (slot7 2) _ rfl rfl).trans (E.b2 k st f7 f8 hA hS)
  | 3 => exact (rd_nth E.arg7.view f7 _ 4 (slot7 3) _ rfl rfl).trans (E.b3 k st f7 f8 hA hS)
  | 4 => exact (rd_nth E.arg7.view f7 _ 3 (slot7 4) _ rfl rfl).trans (E.b4 k st f7 f8 hA hS)
  | 5 => exact (rd_nth E.arg7.view f7 _ 2 (slot7 5) _ rfl rfl).trans (E.b5 k st f7 f8 hA hS)
  | 6 => exact (rd_nth E.arg7.view f7 _ 1 (slot7 6) _ rfl rfl).trans (E.b6 k st f7 f8 hA hS)
  | 7 => exact (rd_nth E.arg7.view f7 _ 0 (slot7 7) _ rfl rfl).trans (E.b7 k st f7 f8 hA hS)

/-- and in the scores' first half. -/
theorem tr_nxt (E : Env F) (k : Fin (k0_t1_loop E.i).trips) (st : Fin 8 → St F) (f7) (f8) (h : Fin 8) :
    E.arg8.view.readAt (Elt F) (slot8 0 h).toLoadRect (E.arg8.view.writes (Elt F) f8 ((E.tr k).2.2.1 (tup st) f7 f8))
      = E.s (min (2 * k.val + 2) ((E.i 1).val + 1)) h := by
  unfold tr trip_k0_t1
  dsimp only
  match h with
  | 0 => exact (rd_nth E.arg8.view f8 _ 7 (slot8 0 0) _ rfl rfl).trans (E.nxt0 k)
  | 1 => exact (rd_nth E.arg8.view f8 _ 6 (slot8 0 1) _ rfl rfl).trans (E.nxt1 k)
  | 2 => exact (rd_nth E.arg8.view f8 _ 5 (slot8 0 2) _ rfl rfl).trans (E.nxt2 k)
  | 3 => exact (rd_nth E.arg8.view f8 _ 4 (slot8 0 3) _ rfl rfl).trans (E.nxt3 k)
  | 4 => exact (rd_nth E.arg8.view f8 _ 3 (slot8 0 4) _ rfl rfl).trans (E.nxt4 k)
  | 5 => exact (rd_nth E.arg8.view f8 _ 2 (slot8 0 5) _ rfl rfl).trans (E.nxt5 k)
  | 6 => exact (rd_nth E.arg8.view f8 _ 1 (slot8 0 6) _ rfl rfl).trans (E.nxt6 k)
  | 7 => exact (rd_nth E.arg8.view f8 _ 0 (slot8 0 7) _ rfl rfl).trans (E.nxt7 k)

end Env
end Cert.Proof.Mla

end
-- ==== Proof.Mla.LoopState.lean ====
/- The loop over pairs of chunks: before its `n`-th trip every head's state is that after `2 n` chunks. -/
module

public import proofs.«01_k».proof.Proof.Mla.Trip
public import proofs.«01_k».proof.Proof.Gen.KernelIdeal.Loops
public import Idealize.ShloMosaic.Lib.Claim

@[expose] public section

set_option maxRecDepth 65536
set_option maxHeartbeats 4000000

noncomputable section

namespace Cert.Proof.Mla

open Cert.KernelIdeal Cert.KernelIdeal.Gen
open Idealize.ShloMosaic Idealize.ShloMosaic.TcCoe Idealize.ShloMosaic.Tactic

variable {F : FTy → Type} [FloatOps F] [Named F]

namespace Env

/-- A head's state before any chunk. -/
def st0 : St F where
  m := k0_pay328
  l := k0_pay336
  a := fun _ => Scalar.ofBits .f32 0x00000000#32

/-- Every head's state after `n` chunks. -/
def stN (E : Env F) : ℕ → Fin 8 → St F
  | 0 => fun _ => st0
  | n + 1 => E.stp n (stN E n)

abbrev lp (E : Env F) (G7 : E.arg7.view.ty.Contents (Elt F)) (G8 : E.arg8.view.ty.Contents (Elt F)) (n : ℕ) :=
  st_k0_t1 (F := F) E.𝒱 E.c E.bd E.i E.arg2 E.harg2 E.arg3 E.harg3 E.arg4 E.harg4 E.arg5 E.harg5 E.arg6 E.harg6 E.arg7 E.harg7 E.arg8 E.harg8 E.arg1 E.v0 E.v2 E.v7 E.v17 E.v90 E.X2 E.X3 E.X4 E.X5 G7 G8 (tup (E.stN 0)) n

theorem loop (E : Env F) (G7 : E.arg7.view.ty.Contents (Elt F)) (G8 : E.arg8.view.ty.Contents (Elt F))
    (h7 : ∀ h, E.arg7.view.readAt (Elt F) (slot7 h).toLoadRect G7 = (E.stN 0 h).a)
    (h8 : ∀ h, E.arg8.view.readAt (Elt F) (slot8 0 h).toLoadRect G8 = E.s 0 h) :
    ∀ n ≤ (k0_t1_loop E.i).trips, (E.lp G7 G8 n).1 = tup (E.stN (2 * n))
      ∧ (∀ h, E.arg7.view.readAt (Elt F) (slot7 h).toLoadRect (E.arg7.view.writes (Elt F) G7 (E.lp G7 G8 n).2.1) = (E.stN (2 * n) h).a)
      ∧ (∀ h, E.arg8.view.readAt (Elt F) (slot8 0 h).toLoadRect (E.arg8.view.writes (Elt F) G8 (E.lp G7 G8 n).2.2) = E.s (min (2 * n) ((E.i 1).val + 1)) h) := by
  intro n
  induction n with
  | zero => exact fun _ => ⟨rfl, h7, fun h => by rw [Nat.mul_zero, Nat.zero_min]; exact h8 h⟩
  | succ n ih =>
    intro hn
    obtain ⟨ih1, ih7, ih8⟩ := ih (Nat.le_of_succ_le hn)
    have hlt : 2 * n ≤ (E.i 1).val + 1 := by have := trips_eq E.i; omega
    rw [Nat.min_eq_left hlt] at ih8
    have hs := st_k0_t1_succ (F := F) E.𝒱 E.c E.bd E.i E.arg2 E.harg2 E.arg3 E.harg3 E.arg4 E.harg4 E.arg5 E.harg5 E.arg6 E.harg6 E.arg7 E.harg7 E.arg8 E.harg8 E.arg1 E.v0 E.v2 E.v7 E.v17 E.v90 E.X2 E.X3 E.X4 E.X5 G7 G8 (tup (E.stN 0)) ⟨n, hn⟩
    simp only [lp] at ih1 ih7 ih8 ⊢
    rw [hs, show 2 * (n + 1) = 2 * n + 2 from rfl]
    dsimp only [tripR_k0_t1, tripL_k0_t1]
    rw [ih1, View.writes_append, View.writes_append]
    exact ⟨tr_carry E ⟨n, hn⟩ (E.stN (2 * n)) _ _ ih8, tr_acc E ⟨n, hn⟩ (E.stN (2 * n)) _ _ ih7 ih8, tr_nxt E ⟨n, hn⟩ (E.stN (2 * n)) _ _⟩

/-- After the loop: what a later load of an accumulator reads, -/
theorem after7 (E : Env F) (H7 : List (View.Piece (Elt F) S8x128x256 .f32)) (G8 : E.arg8.view.ty.Contents (Elt F))
    (h7 : ∀ h, E.arg7.view.readAt (Elt F) (slot7 h).toLoadRect (E.arg7.view.writes (Elt F) E.arg7.view.junk H7) = (E.stN 0 h).a)
    (h8 : ∀ h, E.arg8.view.readAt (Elt F) (slot8 0 h).toLoadRect G8 = E.s 0 h) (h : Fin 8) :
    E.arg7.view.readCov ([] ++ ((E.lp (E.arg7.view.writes (Elt F) E.arg7.view.junk H7) G8 (k0_t1_loop E.i).trips).2.1 ++ H7)) (slot7 h).toLoadRect
      = (E.stN (2 * (k0_t1_loop E.i).trips) h).a := by
  refine Eq.trans ?_ ((E.loop _ G8 h7 h8 _ le_rfl).2.1 h)
  rw [← View.writes_append, List.nil_append]; rfl

/-- and one of the scores. -/
theorem after8 (E : Env F) (f8 : E.arg8.view.ty.Contents (Elt F)) (H8 : List (View.Piece (Elt F) S2x8x256x256 .f32)) (G7 : E.arg7.view.ty.Contents (Elt F))
    (h7 : ∀ h, E.arg7.view.readAt (Elt F) (slot7 h).toLoadRect G7 = (E.stN 0 h).a)
    (h8 : ∀ f, ∀ h, E.arg8.view.readAt (Elt F) (slot8 0 h).toLoadRect (E.arg8.view.writes (Elt F) f H8) = E.s 0 h)
    (hc : ∀ h, ∃ w, (⟨slot8 0 h, w⟩ : View.Piece (Elt F) S2x8x256x256 .f32) ∈ H8) (h : Fin 8) :
    E.arg8.view.readCov ([] ++ ((E.lp G7 (E.arg8.view.writes (Elt F) f8 H8) (k0_t1_loop E.i).trips).2.2 ++ H8)) (slot8 0 h).toLoadRect
      = E.s (min (2 * (k0_t1_loop E.i).trips) ((E.i 1).val + 1)) h := by
  refine Eq.trans ?_ ((E.loop G7 _ h7 (h8 f8) _ le_rfl).2.2 h)
  rw [List.nil_append, ← View.writes_append]
  refine (View.readAt_writes_of_cover _ _ _ _ fun j => ?_).symm
  obtain ⟨w, hw⟩ := hc h
  refine ⟨_, List.mem_append_right _ hw, ?_⟩
  rw [← Rect.map_emb_univ]
  exact Finset.mem_map_of_mem _ (Finset.mem_univ j)

end Env
end Cert.Proof.Mla

end
-- ==== Proof.Mla.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384
set_option maxHeartbeats 4000000

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option warn.classDefReducibility false in
/-- The body at a query block whose number of chunks is odd, run: what it writes into its output block is the run's own find. -/
def run_odd (c : Dev nD) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole) (hodd : k0_cond1 i = 1#1)
    (X2 : BufTy.Contents (Elt F) arg2.view.ty) (X3 : BufTy.Contents (Elt F) arg3.view.ty) (X4 : BufTy.Contents (Elt F) arg4.view.ty) (X5 : BufTy.Contents (Elt F) arg5.view.ty) :
    { L : BufTy.Contents (Elt F) arg7.view.ty → BufTy.Contents (Elt F) arg8.view.ty → List (View.Piece (Elt F) S256x1024 .bf16) // ∀ (E : Set ℕ) (f6 : BufTy.Contents (Elt F) arg6.view.ty) (f7 : BufTy.Contents (Elt F) arg7.view.ty) (f8 : BufTy.Contents (Elt F) arg8.view.ty) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) f6 (L f7 f8))) ∗ (∃ g, (arg7.view.loc (c : Thread nD τ) ↦[arg7.view.set]{fullShare} g)) ∗ (∃ g, (arg8.view.loc (c : Thread nD τ) ↦[arg8.view.set]{fullShare} g))) -∗ K ⟨⟩))
      ⊢ wp frame (wpE (defs₀ (F := F)) Variants.none c none) E (cc0_attn_mla i arg2 harg2 arg3 harg3 arg4 harg4 arg5 harg5 arg6 harg6 arg7 harg7 arg8 harg8) K } := by
  refine ⟨?_, fun E f6 f7 f8 K => ?run⟩
  case run =>
    simp only [cc0_attn_mla_eq_skeleton]; unfold cc0_attn_mla_skel
    iintro ⟨H2, H3, H4, H5, H6, H7, H8, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

set_option warn.classDefReducibility false in
/-- The body at a query block whose number of chunks is even, run: what it writes into its output block is the run's own find. -/
def run_even (c : Dev nD) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole) (hodd : ¬ k0_cond1 i = 1#1)
    (X2 : BufTy.Contents (Elt F) arg2.view.ty) (X3 : BufTy.Contents (Elt F) arg3.view.ty) (X4 : BufTy.Contents (Elt F) arg4.view.ty) (X5 : BufTy.Contents (Elt F) arg5.view.ty) :
    { L : BufTy.Contents (Elt F) arg7.view.ty → BufTy.Contents (Elt F) arg8.view.ty → List (View.Piece (Elt F) S256x1024 .bf16) // ∀ (E : Set ℕ) (f6 : BufTy.Contents (Elt F) arg6.view.ty) (f7 : BufTy.Contents (Elt F) arg7.view.ty) (f8 : BufTy.Contents (Elt F) arg8.view.ty) (K : PUnit → sProp 𝕄),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) f6 (L f7 f8))) ∗ (∃ g, (arg7.view.loc (c : Thread nD τ) ↦[arg7.view.set]{fullShare} g)) ∗ (∃ g, (arg8.view.loc (c : Thread nD τ) ↦[arg8.view.set]{fullShare} g))) -∗ K ⟨⟩))
      ⊢ wp frame (wpE (defs₀ (F := F)) Variants.none c none) E (cc0_attn_mla i arg2 harg2 arg3 harg3 arg4 harg4 arg5 harg5 arg6 harg6 arg7 harg7 arg8 harg8) K } := by
  refine ⟨?_, fun E f6 f7 f8 K => ?run⟩
  case run =>
    simp only [cc0_attn_mla_eq_skeleton]; unfold cc0_attn_mla_skel
    iintro ⟨H2, H3, H4, H5, H6, H7, H8, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

end Cert.Proof.Mla

end
-- ==== Proof.Mla.RunValue.lean ====
/- The body's output block: each head's state after the query block's chunks, its accumulator divided by its sum and transposed. -/
module

public import proofs.«01_k».proof.Proof.Mla.LoopState
public import proofs.«01_k».proof.Proof.Gen.KernelIdeal.Loops
public import proofs.«01_k».proof.Proof.Mla.Run

@[expose] public section

set_option maxRecDepth 65536
set_option maxHeartbeats 4000000

noncomputable section

namespace Cert.Proof.Mla

open Cert.KernelIdeal Cert.KernelIdeal.Gen
open Idealize.ShloMosaic Idealize.ShloMosaic.TcCoe Idealize.ShloMosaic.Tactic

variable {F : FTy → Type} [FloatOps F] [Named F]

theorem rd_skip {sig : RefSig} {κ : Kind} {sp : Space} {s : Shape} {e : EltTy} {Val : EltTy → Type} [∀ e, Nonempty (Val e)]
    (v : View sig κ sp s e) (P L : List (View.Piece Val s e)) (r : LoadRect s) (hd : LoadRect.disjAll (P.map Sigma.fst) r = true) :
    v.readCov (P ++ L) r = v.readCov L r := by
  show v.readAt Val r (v.writes Val v.junk (P ++ L)) = v.readAt Val r (v.writes Val v.junk L)
  rw [View.writes_append]
  exact View.readAt_writes_of_forall_not_mem v _ P r (LoadRect.forall_not_mem_of_disjAll P r hd)

/-- A head's result: its accumulator over its sum, a row per query. -/
def St.out (s : St F) : FVec F S256x128 .bf16 := k0_pay1 (k0_pay353 s.l s.a)

variable (c : Dev nD) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole) (X2 : BufTy.Contents (Elt F) arg2.view.ty) (X3 : BufTy.Contents (Elt F) arg3.view.ty) (X4 : BufTy.Contents (Elt F) arg4.view.ty) (X5 : BufTy.Contents (Elt F) arg5.view.ty) (f8 : BufTy.Contents (Elt F) arg8.view.ty)

abbrev env : Env F :=
  ⟨Variants.none, c, none, i, arg2, harg2, arg3, harg3, arg4, harg4, arg5, harg5, arg6, harg6, arg7, harg7, arg8, harg8, BitVec.ofNat 32 (i 1).val, run_odd.sl.v0 i, run_odd.sl.v2 i, run_odd.sl.v7 i, run_odd.sl.v17 i arg5 X5, run_odd.sl.v90 arg3 X3, X2, X3, X4, X5⟩

theorem init7 (f : arg7.view.ty.Contents (Elt F)) (h : Fin 8) :
    arg7.view.readAt (Elt F) (slot7 h).toLoadRect (arg7.view.writes (Elt F) f run_odd.sl.H7_1) = fun _ => Scalar.ofBits .f32 0x00000000#32 := by
  refine View.readAt_writes_const_of_hit arg7.view f _ _ 0 (Rect.unit (s := S8x128x256) ![0, 0, 0] S8x128x256.size inb_S8x128x256_S8x128x256_0_0_0) _ rfl ?_
  match h with
  | 0 | 1 | 2 | 3 | 4 | 5 | 6 | 7 => rfl

/-- The scores of the first chunk, as the run writes them. -/
abbrev H8 : List (View.Piece (Elt F) S2x8x256x256 .f32) :=
  [⟨Rect.unit (s := S2x8x256x256) ![0, 7, 0, 0] S1x1x256x256.size inb_S2x8x256x256_S1x1x256x256_0_7_0_0, k0_pay327 (run_odd.sl.v17 i arg5 X5) (run_odd.sl.v90 arg3 X3) (arg2.view.readAt (Elt F) (Rect.unit (s := S256x2048) ![0, 1792] S256x256.size inb_S256x2048_S256x256_0_1792).toLoadRect X2)⟩,
   ⟨slot8 0 6, run_odd.sl.v87 i arg2 arg3 arg5 X2 X3 X5⟩,
   ⟨slot8 0 5, run_odd.sl.v77 i arg2 arg3 arg5 X2 X3 X5⟩,
   ⟨slot8 0 4, run_odd.sl.v67 i arg2 arg3 arg5 X2 X3 X5⟩,
   ⟨slot8 0 3, run_odd.sl.v57 i arg2 arg3 arg5 X2 X3 X5⟩,
   ⟨slot8 0 2, run_odd.sl.v47 i arg2 arg3 arg5 X2 X3 X5⟩,
   ⟨slot8 0 1, run_odd.sl.v37 i arg2 arg3 arg5 X2 X3 X5⟩,
   ⟨slot8 0 0, run_odd.sl.v27 i arg2 arg3 arg5 X2 X3 X5⟩]

theorem init8 (f : arg8.view.ty.Contents (Elt F)) (h : Fin 8) :
    arg8.view.readAt (Elt F) (slot8 0 h).toLoadRect (arg8.view.writes (Elt F) f (H8 i arg2 arg3 arg5 X2 X3 X5)) = (env c i arg2 harg2 arg3 harg3 arg4 harg4 arg5 harg5 arg6 harg6 arg7 harg7 arg8 harg8 X2 X3 X4 X5).s 0 h := by
  match h with
  | 0 => exact (rd_nth arg8.view f _ 7 (slot8 0 0) _ rfl rfl).trans ((env c i arg2 harg2 arg3 harg3 arg4 harg4 arg5 harg5 arg6 harg6 arg7 harg7 arg8 harg8 X2 X3 X4 X5).s_eq 0 0 (o1 i) o2 _ _)
  | 1 => exact (rd_nth arg8.view f _ 6 (slot8 0 1) _ rfl rfl).trans ((env c i arg2 harg2 arg3 harg3 arg4 harg4 arg5 harg5 arg6 harg6 arg7 harg7 arg8 harg8 X2 X3 X4 X5).s_eq 0 1 (o1 i) o3 _ _)
  | 2 => exact (rd_nth arg8.view f _ 5 (slot8 0 2) _ rfl rfl).trans ((env c i arg2 harg2 arg3 harg3 arg4 harg4 arg5 harg5 arg6 harg6 arg7 harg7 arg8 harg8 X2 X3 X4 X5).s_eq 0 2 (o1 i) o4 _ _)
  | 3 => exact (rd_nth arg8.view f _ 4 (slot8 0 3) _ rfl rfl).trans ((env c i arg2 harg2 arg3 harg3 arg4 harg4 arg5 harg5 arg6 harg6 arg7 harg7 arg8 harg8 X2 X3 X4 X5).s_eq 0 3 (o1 i) o5 _ _)
  | 4 => exact (rd_nth arg8.view f _ 3 (slot8 0 4) _ rfl rfl).trans ((env c i arg2 harg2 arg3 harg3 arg4 harg4 arg5 harg5 arg6 harg6 arg7 harg7 arg8 harg8 X2 X3 X4 X5).s_eq 0 4 (o1 i) o6 _ _)
  | 5 => exact (rd_nth arg8.view f _ 2 (slot8 0 5) _ rfl rfl).trans ((env c i arg2 harg2 arg3 harg3 arg4 harg4 arg5 harg5 arg6 harg6 arg7 harg7 arg8 harg8 X2 X3 X4 X5).s_eq 0 5 (o1 i) o7 _ _)
  | 6 => exact (rd_nth arg8.view f _ 1 (slot8 0 6) _ rfl rfl).trans ((env c i arg2 harg2 arg3 harg3 arg4 harg4 arg5 harg5 arg6 harg6 arg7 harg7 arg8 harg8 X2 X3 X4 X5).s_eq 0 6 (o1 i) o8 _ _)
  | 7 => exact (rd_nth arg8.view f _ 0 (slot8 0 7) _ rfl rfl).trans ((env c i arg2 harg2 arg3 harg3 arg4 harg4 arg5 harg5 arg6 harg6 arg7 harg7 arg8 harg8 X2 X3 X4 X5).s_eq 0 7 (o1 i) o9 _ _)

theorem init8_mem (h : Fin 8) : ∃ w, (⟨slot8 0 h, w⟩ : View.Piece (Elt F) S2x8x256x256 .f32) ∈ (H8 i arg2 arg3 arg5 X2 X3 X5) := by
  match h with
  | 0 => exact ⟨_, List.mem_of_getElem? (i := 7) rfl⟩
  | 1 => exact ⟨_, List.mem_of_getElem? (i := 6) rfl⟩
  | 2 => exact ⟨_, List.mem_of_getElem? (i := 5) rfl⟩
  | 3 => exact ⟨_, List.mem_of_getElem? (i := 4) rfl⟩
  | 4 => exact ⟨_, List.mem_of_getElem? (i := 3) rfl⟩
  | 5 => exact ⟨_, List.mem_of_getElem? (i := 2) rfl⟩
  | 6 => exact ⟨_, List.mem_of_getElem? (i := 1) rfl⟩
  | 7 => exact ⟨_, List.mem_of_getElem? (i := 0) rfl⟩

theorem carry : ((env c i arg2 harg2 arg3 harg3 arg4 harg4 arg5 harg5 arg6 harg6 arg7 harg7 arg8 harg8 X2 X3 X4 X5).lp (arg7.view.writes (Elt F) arg7.view.junk run_odd.sl.H7_1) (arg8.view.writes (Elt F) f8 (H8 i arg2 arg3 arg5 X2 X3 X5)) (k0_t1_loop i).trips).1
    = tup ((env c i arg2 harg2 arg3 harg3 arg4 harg4 arg5 harg5 arg6 harg6 arg7 harg7 arg8 harg8 X2 X3 X4 X5).stN (2 * (k0_t1_loop i).trips)) :=
  ((env c i arg2 harg2 arg3 harg3 arg4 harg4 arg5 harg5 arg6 harg6 arg7 harg7 arg8 harg8 X2 X3 X4 X5).loop _ _ (init7 arg7 _) (init8 c i arg2 harg2 arg3 harg3 arg4 harg4 arg5 harg5 arg6 harg6 arg7 harg7 arg8 harg8 X2 X3 X4 X5 f8) _ le_rfl).1

theorem left7 (h : Fin 8) : arg7.view.readCov ([] ++ (((env c i arg2 harg2 arg3 harg3 arg4 harg4 arg5 harg5 arg6 harg6 arg7 harg7 arg8 harg8 X2 X3 X4 X5).lp (arg7.view.writes (Elt F) arg7.view.junk run_odd.sl.H7_1) (arg8.view.writes (Elt F) f8 (H8 i arg2 arg3 arg5 X2 X3 X5)) (k0_t1_loop i).trips).2.1 ++ run_odd.sl.H7_1)) (slot7 h).toLoadRect
    = ((env c i arg2 harg2 arg3 harg3 arg4 harg4 arg5 harg5 arg6 harg6 arg7 harg7 arg8 harg8 X2 X3 X4 X5).stN (2 * (k0_t1_loop i).trips) h).a :=
  (env c i arg2 harg2 arg3 harg3 arg4 harg4 arg5 harg5 arg6 harg6 arg7 harg7 arg8 harg8 X2 X3 X4 X5).after7 _ _ (init7 arg7 _) (init8 c i arg2 harg2 arg3 harg3 arg4 harg4 arg5 harg5 arg6 harg6 arg7 harg7 arg8 harg8 X2 X3 X4 X5 f8) h

theorem left8 (h : Fin 8) : arg8.view.readCov ([] ++ (((env c i arg2 harg2 arg3 harg3 arg4 harg4 arg5 harg5 arg6 harg6 arg7 harg7 arg8 harg8 X2 X3 X4 X5).lp (arg7.view.writes (Elt F) arg7.view.junk run_odd.sl.H7_1) (arg8.view.writes (Elt F) f8 (H8 i arg2 arg3 arg5 X2 X3 X5)) (k0_t1_loop i).trips).2.2 ++ (H8 i arg2 arg3 arg5 X2 X3 X5))) (slot8 0 h).toLoadRect
    = (env c i arg2 harg2 arg3 harg3 arg4 harg4 arg5 harg5 arg6 harg6 arg7 harg7 arg8 harg8 X2 X3 X4 X5).s (min (2 * (k0_t1_loop i).trips) ((i 1).val + 1)) h :=
  (env c i arg2 harg2 arg3 harg3 arg4 harg4 arg5 harg5 arg6 harg6 arg7 harg7 arg8 harg8 X2 X3 X4 X5).after8 f8 _ _ (init7 arg7 _) (init8 c i arg2 harg2 arg3 harg3 arg4 harg4 arg5 harg5 arg6 harg6 arg7 harg7 arg8 harg8 X2 X3 X4 X5) (init8_mem i arg2 arg3 arg5 X2 X3 X5) h

theorem hz : Scf.trips (k0_t2_loop i).lb (k0_t2_loop i).ub (k0_t2_loop i).st = 0 := trips2_eq i

theorem odd_m0 : run_odd.sl.r_1 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 0).m := by
  unfold run_odd.sl.r_1; rw [hz i]; exact congrArg (fun p => p.1) (carry c i arg2 harg2 arg3 harg3 arg4 harg4 arg5 harg5 arg6 harg6 arg7 harg7 arg8 harg8 X2 X3 X4 X5 f8)
theorem odd_l0 : run_odd.sl.r_9 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 0).l := by
  unfold run_odd.sl.r_9; rw [hz i]; exact congrArg (fun p => p.2.2.2.2.2.2.2.2.1) (carry c i arg2 harg2 arg3 harg3 arg4 harg4 arg5 harg5 arg6 harg6 arg7 harg7 arg8 harg8 X2 X3 X4 X5 f8)

theorem odd_m1 : run_odd.sl.r_2 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 1).m := by
  unfold run_odd.sl.r_2; rw [hz i]; exact congrArg (fun p => p.2.1) (carry c i arg2 harg2 arg3 harg3 arg4 harg4 arg5 harg5 arg6 harg6 arg7 harg7 arg8 harg8 X2 X3 X4 X5 f8)
theorem odd_l1 : run_odd.sl.r_10 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 1).l := by
  unfold run_odd.sl.r_10; rw [hz i]; exact congrArg (fun p => p.2.2.2.2.2.2.2.2.2.1) (carry c i arg2 harg2 arg3 harg3 arg4 harg4 arg5 harg5 arg6 harg6 arg7 harg7 arg8 harg8 X2 X3 X4 X5 f8)

theorem odd_m2 : run_odd.sl.r_3 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 2).m := by
  unfold run_odd.sl.r_3; rw [hz i]; exact congrArg (fun p => p.2.2.1) (carry c i arg2 harg2 arg3 harg3 arg4 harg4 arg5 harg5 arg6 harg6 arg7 harg7 arg8 harg8 X2 X3 X4 X5 f8)
theorem odd_l2 : run_odd.sl.r_11 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 2).l := by
  unfold run_odd.sl.r_11; rw [hz i]; exact congrArg (fun p => p.2.2.2.2.2.2.2.2.2.2.1) (carry c i arg2 harg2 arg3 harg3 arg4 harg4 arg5 harg5 arg6 harg6 arg7 harg7 arg8 harg8 X2 X3 X4 X5 f8)

theorem odd_m3 : run_odd.sl.r_4 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 3).m := by
  unfold run_odd.sl.r_4; rw [hz i]; exact congrArg (fun p => p.2.2.2.1) (carry c i arg2 harg2 arg3 harg3 arg4 harg4 arg5 harg5 arg6 harg6 arg7 harg7 arg8 harg8 X2 X3 X4 X5 f8)
theorem odd_l3 : run_odd.sl.r_12 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 3).l := by
  unfold run_odd.sl.r_12; rw [hz i]; exact congrArg (fun p => p.2.2.2.2.2.2.2.2.2.2.2.1) (carry c i arg2 harg2 arg3 harg3 arg4 harg4 arg5 harg5 arg6 harg6 arg7 harg7 arg8 harg8 X2 X3 X4 X5 f8)

theorem odd_m4 : run_odd.sl.r_5 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 4).m := by
  unfold run_odd.sl.r_5; rw [hz i]; exact congrArg (fun p => p.2.2.2.2.1) (carry c i arg2 harg2 arg3 harg3 arg4 harg4 arg5 harg5 arg6 harg6 arg7 harg7 arg8 harg8 X2 X3 X4 X5 f8)
theorem odd_l4 : run_odd.sl.r_13 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 4).l := by
  unfold run_odd.sl.r_13; rw [hz i]; exact congrArg (fun p => p.2.2.2.2.2.2.2.2.2.2.2.2.1) (carry c i arg2 harg2 arg3 harg3 arg4 harg4 arg5 harg5 arg6 harg6 arg7 harg7 arg8 harg8 X2 X3 X4 X5 f8)

theorem odd_m5 : run_odd.sl.r_6 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 5).m := by
  unfold run_odd.sl.r_6; rw [hz i]; exact congrArg (fun p => p.2.2.2.2.2.1) (carry c i arg2 harg2 arg3 harg3 arg4 harg4 arg5 harg5 arg6 harg6 arg7 harg7 arg8 harg8 X2 X3 X4 X5 f8)
theorem odd_l5 : run_odd.sl.r_14 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 5).l := by
  unfold run_odd.sl.r_14; rw [hz i]; exact congrArg (fun p => p.2.2.2.2.2.2.2.2.2.2.2.2.2.1) (carry c i arg2 harg2 arg3 harg3 arg4 harg4 arg5 harg5 arg6 harg6 arg7 harg7 arg8 harg8 X2 X3 X4 X5 f8)

theorem odd_m6 : run_odd.sl.r_7 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 6).m := by
  unfold run_odd.sl.r_7; rw [hz i]; exact congrArg (fun p => p.2.2.2.2.2.2.1) (carry c i arg2 harg2 arg3 harg3 arg4 harg4 arg5 harg5 arg6 harg6 arg7 harg7 arg8 harg8 X2 X3 X4 X5 f8)
theorem odd_l6 : run_odd.sl.r_15 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 6).l := by
  unfold run_odd.sl.r_15; rw [hz i]; exact congrArg (fun p => p.2.2.2.2.2.2.2.2.2.2.2.2.2.2.1) (carry c i arg2 harg2 arg3 harg3 arg4 harg4 arg5 harg5 arg6 harg6 arg7 harg7 arg8 harg8 X2 X3 X4 X5 f8)

theorem odd_m7 : run_odd.sl.r_8 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 7).m := by
  unfold run_odd.sl.r_8; rw [hz i]; exact congrArg (fun p => p.2.2.2.2.2.2.2.1) (carry c i arg2 harg2 arg3 harg3 arg4 harg4 arg5 harg5 arg6 harg6 arg7 harg7 arg8 harg8 X2 X3 X4 X5 f8)
theorem odd_l7 : run_odd.sl.r_16 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 7).l := by
  unfold run_odd.sl.r_16; rw [hz i]; exact congrArg (fun p => p.2.2.2.2.2.2.2.2.2.2.2.2.2.2.2) (carry c i arg2 harg2 arg3 harg3 arg4 harg4 arg5 harg5 arg6 harg6 arg7 harg7 arg8 harg8 X2 X3 X4 X5 f8)

theorem even_m0 : run_even.sl.r_1 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 0).m := by
  unfold run_even.sl.r_1; rw [hz i]; exact congrArg (fun p => p.1) (carry c i arg2 harg2 arg3 harg3 arg4 harg4 arg5 harg5 arg6 harg6 arg7 harg7 arg8 harg8 X2 X3 X4 X5 f8)
theorem even_l0 : run_even.sl.r_9 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 0).l := by
  unfold run_even.sl.r_9; rw [hz i]; exact congrArg (fun p => p.2.2.2.2.2.2.2.2.1) (carry c i arg2 harg2 arg3 harg3 arg4 harg4 arg5 harg5 arg6 harg6 arg7 harg7 arg8 harg8 X2 X3 X4 X5 f8)

theorem even_m1 : run_even.sl.r_2 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 1).m := by
  unfold run_even.sl.r_2; rw [hz i]; exact congrArg (fun p => p.2.1) (carry c i arg2 harg2 arg3 harg3 arg4 harg4 arg5 harg5 arg6 harg6 arg7 harg7 arg8 harg8 X2 X3 X4 X5 f8)
theorem even_l1 : run_even.sl.r_10 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 1).l := by
  unfold run_even.sl.r_10; rw [hz i]; exact congrArg (fun p => p.2.2.2.2.2.2.2.2.2.1) (carry c i arg2 harg2 arg3 harg3 arg4 harg4 arg5 harg5 arg6 harg6 arg7 harg7 arg8 harg8 X2 X3 X4 X5 f8)

theorem even_m2 : run_even.sl.r_3 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 2).m := by
  unfold run_even.sl.r_3; rw [hz i]; exact congrArg (fun p => p.2.2.1) (carry c i arg2 harg2 arg3 harg3 arg4 harg4 arg5 harg5 arg6 harg6 arg7 harg7 arg8 harg8 X2 X3 X4 X5 f8)
theorem even_l2 : run_even.sl.r_11 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 2).l := by
  unfold run_even.sl.r_11; rw [hz i]; exact congrArg (fun p => p.2.2.2.2.2.2.2.2.2.2.1) (carry c i arg2 harg2 arg3 harg3 arg4 harg4 arg5 harg5 arg6 harg6 arg7 harg7 arg8 harg8 X2 X3 X4 X5 f8)

theorem even_m3 : run_even.sl.r_4 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 3).m := by
  unfold run_even.sl.r_4; rw [hz i]; exact congrArg (fun p => p.2.2.2.1) (carry c i arg2 harg2 arg3 harg3 arg4 harg4 arg5 harg5 arg6 harg6 arg7 harg7 arg8 harg8 X2 X3 X4 X5 f8)
theorem even_l3 : run_even.sl.r_12 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 3).l := by
  unfold run_even.sl.r_12; rw [hz i]; exact congrArg (fun p => p.2.2.2.2.2.2.2.2.2.2.2.1) (carry c i arg2 harg2 arg3 harg3 arg4 harg4 arg5 harg5 arg6 harg6 arg7 harg7 arg8 harg8 X2 X3 X4 X5 f8)

theorem even_m4 : run_even.sl.r_5 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 4).m := by
  unfold run_even.sl.r_5; rw [hz i]; exact congrArg (fun p => p.2.2.2.2.1) (carry c i arg2 harg2 arg3 harg3 arg4 harg4 arg5 harg5 arg6 harg6 arg7 harg7 arg8 harg8 X2 X3 X4 X5 f8)
theorem even_l4 : run_even.sl.r_13 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 4).l := by
  unfold run_even.sl.r_13; rw [hz i]; exact congrArg (fun p => p.2.2.2.2.2.2.2.2.2.2.2.2.1) (carry c i arg2 harg2 arg3 harg3 arg4 harg4 arg5 harg5 arg6 harg6 arg7 harg7 arg8 harg8 X2 X3 X4 X5 f8)

theorem even_m5 : run_even.sl.r_6 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 5).m := by
  unfold run_even.sl.r_6; rw [hz i]; exact congrArg (fun p => p.2.2.2.2.2.1) (carry c i arg2 harg2 arg3 harg3 arg4 harg4 arg5 harg5 arg6 harg6 arg7 harg7 arg8 harg8 X2 X3 X4 X5 f8)
theorem even_l5 : run_even.sl.r_14 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 5).l := by
  unfold run_even.sl.r_14; rw [hz i]; exact congrArg (fun p => p.2.2.2.2.2.2.2.2.2.2.2.2.2.1) (carry c i arg2 harg2 arg3 harg3 arg4 harg4 arg5 harg5 arg6 harg6 arg7 harg7 arg8 harg8 X2 X3 X4 X5 f8)

theorem even_m6 : run_even.sl.r_7 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 6).m := by
  unfold run_even.sl.r_7; rw [hz i]; exact congrArg (fun p => p.2.2.2.2.2.2.1) (carry c i arg2 harg2 arg3 harg3 arg4 harg4 arg5 harg5 arg6 harg6 arg7 harg7 arg8 harg8 X2 X3 X4 X5 f8)
theorem even_l6 : run_even.sl.r_15 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 6).l := by
  unfold run_even.sl.r_15; rw [hz i]; exact congrArg (fun p => p.2.2.2.2.2.2.2.2.2.2.2.2.2.2.1) (carry c i arg2 harg2 arg3 harg3 arg4 harg4 arg5 harg5 arg6 harg6 arg7 harg7 arg8 harg8 X2 X3 X4 X5 f8)

theorem even_m7 : run_even.sl.r_8 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 7).m := by
  unfold run_even.sl.r_8; rw [hz i]; exact congrArg (fun p => p.2.2.2.2.2.2.2.1) (carry c i arg2 harg2 arg3 harg3 arg4 harg4 arg5 harg5 arg6 harg6 arg7 harg7 arg8 harg8 X2 X3 X4 X5 f8)
theorem even_l7 : run_even.sl.r_16 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN (2 * (k0_t1_loop i).trips) 7).l := by
  unfold run_even.sl.r_16; rw [hz i]; exact congrArg (fun p => p.2.2.2.2.2.2.2.2.2.2.2.2.2.2.2) (carry c i arg2 harg2 arg3 harg3 arg4 harg4 arg5 harg5 arg6 harg6 arg7 harg7 arg8 harg8 X2 X3 X4 X5 f8)

theorem trips_odd (hodd : k0_cond1 i = 1#1) : 2 * (k0_t1_loop i).trips = (i 1).val + 1 := by
  have := trips_eq i; have := (cond_eq i).1 hodd; omega
theorem trips_even (hodd : ¬ k0_cond1 i = 1#1) : 2 * (k0_t1_loop i).trips = (i 1).val + 2 := by
  have := trips_eq i; have := mt (cond_eq i).2 hodd; omega

theorem odd_s0 (hodd : k0_cond1 i = 1#1) : run_odd.sl.v186 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 0 := by
  unfold run_odd.sl.v186; rw [hz i]; refine (left8 c i arg2 harg2 arg3 harg3 arg4 harg4 arg5 harg5 arg6 harg6 arg7 harg7 arg8 harg8 X2 X3 X4 X5 f8 0).trans ?_
  rw [trips_odd i hodd, Nat.min_self]

theorem odd_s1 (hodd : k0_cond1 i = 1#1) : run_odd.sl.v213 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 1 := by
  unfold run_odd.sl.v213; rw [hz i]; refine (left8 c i arg2 harg2 arg3 harg3 arg4 harg4 arg5 harg5 arg6 harg6 arg7 harg7 arg8 harg8 X2 X3 X4 X5 f8 1).trans ?_
  rw [trips_odd i hodd, Nat.min_self]

theorem odd_s2 (hodd : k0_cond1 i = 1#1) : run_odd.sl.v240 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 2 := by
  unfold run_odd.sl.v240; rw [hz i]; refine (left8 c i arg2 harg2 arg3 harg3 arg4 harg4 arg5 harg5 arg6 harg6 arg7 harg7 arg8 harg8 X2 X3 X4 X5 f8 2).trans ?_
  rw [trips_odd i hodd, Nat.min_self]

theorem odd_s3 (hodd : k0_cond1 i = 1#1) : run_odd.sl.v267 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 3 := by
  unfold run_odd.sl.v267; rw [hz i]; refine (left8 c i arg2 harg2 arg3 harg3 arg4 harg4 arg5 harg5 arg6 harg6 arg7 harg7 arg8 harg8 X2 X3 X4 X5 f8 3).trans ?_
  rw [trips_odd i hodd, Nat.min_self]

theorem odd_s4 (hodd : k0_cond1 i = 1#1) : run_odd.sl.v294 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 4 := by
  unfold run_odd.sl.v294; rw [hz i]; refine (left8 c i arg2 harg2 arg3 harg3 arg4 harg4 arg5 harg5 arg6 harg6 arg7 harg7 arg8 harg8 X2 X3 X4 X5 f8 4).trans ?_
  rw [trips_odd i hodd, Nat.min_self]

theorem odd_s5 (hodd : k0_cond1 i = 1#1) : run_odd.sl.v321 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 5 := by
  unfold run_odd.sl.v321; rw [hz i]; refine (left8 c i arg2 harg2 arg3 harg3 arg4 harg4 arg5 harg5 arg6 harg6 arg7 harg7 arg8 harg8 X2 X3 X4 X5 f8 5).trans ?_
  rw [trips_odd i hodd, Nat.min_self]

theorem odd_s6 (hodd : k0_cond1 i = 1#1) : run_odd.sl.v348 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 6 := by
  unfold run_odd.sl.v348; rw [hz i]; refine (left8 c i arg2 harg2 arg3 harg3 arg4 harg4 arg5 harg5 arg6 harg6 arg7 harg7 arg8 harg8 X2 X3 X4 X5 f8 6).trans ?_
  rw [trips_odd i hodd, Nat.min_self]

theorem odd_s7 (hodd : k0_cond1 i = 1#1) : run_odd.sl.v375 c i arg2 harg2 arg3 harg3 arg4 harg4 arg5 harg5 arg6 harg6 arg7 harg7 arg8 harg8 X2 X3 X4 X5 f8 = (env c i arg2 harg2 arg3 harg3 arg4 harg4 arg5 harg5 arg6 harg6 arg7 harg7 arg8 harg8 X2 X3 X4 X5).s ((i 1).val + 1) 7 := by
  unfold run_odd.sl.v375; rw [hz i]; refine (left8 c i arg2 harg2 arg3 harg3 arg4 harg4 arg5 harg5 arg6 harg6 arg7 harg7 arg8 harg8 X2 X3 X4 X5 f8 7).trans ?_
  rw [trips_odd i hodd, Nat.min_self]

end Cert.Proof.Mla

end
-- ==== Proof.Mla.RunOuts.lean ====
/- The last chunk of an odd number, taken by itself, and what the body writes: each head's state after the query block's chunks, its accumulator divided by its sum and transposed. -/
module

public import proofs.«01_k».proof.Proof.Mla.RunValue
public import proofs.«01_k».proof.Proof.Gen.KernelIdeal.Loops
public import proofs.«01_k».proof.Proof.Mla.Run

@[expose] public section

set_option maxRecDepth 65536
set_option maxHeartbeats 4000000

noncomputable section

namespace Cert.Proof.Mla

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole) (X2 : BufTy.Contents (Elt F) arg2.view.ty) (X3 : BufTy.Contents (Elt F) arg3.view.ty) (X4 : BufTy.Contents (Elt F) arg4.view.ty) (X5 : BufTy.Contents (Elt F) arg5.view.ty) (f8 : BufTy.Contents (Elt F) arg8.view.ty)

theorem rd_skip1 {sig : RefSig} {κ : Kind} {sp : Space} {s : Shape} {e : EltTy} {Val : EltTy → Type} [∀ e, Nonempty (Val e)]
    (v : View sig κ sp s e) (p : View.Piece Val s e) (L : List (View.Piece Val s e)) (r : LoadRect s) (hd : LoadRect.disjAll [p.1] r = true) :
    v.readCov (p :: L) r = v.readCov L r := rd_skip v [p] L r hd

theorem skip1 (hodd : k0_cond1 i = 1#1) (h : Fin 8) (hd : LoadRect.disjAll [slot7 0] (slot7 h).toLoadRect = true) :
    arg7.view.readCov (run_odd.sl.H7_1_1 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  rw [← trips_odd i hodd]
  unfold run_odd.sl.H7_1_1
  rw [rd_skip1 arg7.view _ _ _ hd, hz i]
  exact left7 c i arg2 harg2 arg3 harg3 arg4 harg4 arg5 harg5 arg6 harg6 arg7 harg7 arg8 harg8 X2 X3 X4 X5 f8 h

theorem skip2 (hodd : k0_cond1 i = 1#1) (h : Fin 8) (hd0 : LoadRect.disjAll [slot7 0] (slot7 h).toLoadRect = true) (hd1 : LoadRect.disjAll [slot7 1] (slot7 h).toLoadRect = true) :
    arg7.view.readCov (run_odd.sl.H7_2 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  unfold run_odd.sl.H7_2
  rw [rd_skip1 arg7.view _ _ _ hd1]
  exact skip1 c i arg2 harg2 arg3 harg3 arg4 harg4 arg5 harg5 arg6 harg6 arg7 harg7 arg8 harg8 X2 X3 X4 X5 f8 hodd h hd0

theorem skip3 (hodd : k0_cond1 i = 1#1) (h : Fin 8) (hd0 : LoadRect.disjAll [slot7 0] (slot7 h).toLoadRect = true) (hd1 : LoadRect.disjAll [slot7 1] (slot7 h).toLoadRect = true) (hd2 : LoadRect.disjAll [slot7 2] (slot7 h).toLoadRect = true) :
    arg7.view.readCov (run_odd.sl.H7_3 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  unfold run_odd.sl.H7_3
  rw [rd_skip1 arg7.view _ _ _ hd2]
  exact skip2 c i arg2 harg2 arg3 harg3 arg4 harg4 arg5 harg5 arg6 harg6 arg7 harg7 arg8 harg8 X2 X3 X4 X5 f8 hodd h hd0 hd1

theorem skip4 (hodd : k0_cond1 i = 1#1) (h : Fin 8) (hd0 : LoadRect.disjAll [slot7 0] (slot7 h).toLoadRect = true) (hd1 : LoadRect.disjAll [slot7 1] (slot7 h).toLoadRect = true) (hd2 : LoadRect.disjAll [slot7 2] (slot7 h).toLoadRect = true) (hd3 : LoadRect.disjAll [slot7 3] (slot7 h).toLoadRect = true) :
    arg7.view.readCov (run_odd.sl.H7_4 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  unfold run_odd.sl.H7_4
  rw [rd_skip1 arg7.view _ _ _ hd3]
  exact skip3 c i arg2 harg2 arg3 harg3 arg4 harg4 arg5 harg5 arg6 harg6 arg7 harg7 arg8 harg8 X2 X3 X4 X5 f8 hodd h hd0 hd1 hd2

theorem skip5 (hodd : k0_cond1 i = 1#1) (h : Fin 8) (hd0 : LoadRect.disjAll [slot7 0] (slot7 h).toLoadRect = true) (hd1 : LoadRect.disjAll [slot7 1] (slot7 h).toLoadRect = true) (hd2 : LoadRect.disjAll [slot7 2] (slot7 h).toLoadRect = true) (hd3 : LoadRect.disjAll [slot7 3] (slot7 h).toLoadRect = true) (hd4 : LoadRect.disjAll [slot7 4] (slot7 h).toLoadRect = true) :
    arg7.view.readCov (run_odd.sl.H7_5 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  unfold run_odd.sl.H7_5
  rw [rd_skip1 arg7.view _ _ _ hd4]
  exact skip4 c i arg2 harg2 arg3 harg3 arg4 harg4 arg5 harg5 arg6 harg6 arg7 harg7 arg8 harg8 X2 X3 X4 X5 f8 hodd h hd0 hd1 hd2 hd3

theorem skip6 (hodd : k0_cond1 i = 1#1) (h : Fin 8) (hd0 : LoadRect.disjAll [slot7 0] (slot7 h).toLoadRect = true) (hd1 : LoadRect.disjAll [slot7 1] (slot7 h).toLoadRect = true) (hd2 : LoadRect.disjAll [slot7 2] (slot7 h).toLoadRect = true) (hd3 : LoadRect.disjAll [slot7 3] (slot7 h).toLoadRect = true) (hd4 : LoadRect.disjAll [slot7 4] (slot7 h).toLoadRect = true) (hd5 : LoadRect.disjAll [slot7 5] (slot7 h).toLoadRect = true) :
    arg7.view.readCov (run_odd.sl.H7_6 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  unfold run_odd.sl.H7_6
  rw [rd_skip1 arg7.view _ _ _ hd5]
  exact skip5 c i arg2 harg2 arg3 harg3 arg4 harg4 arg5 harg5 arg6 harg6 arg7 harg7 arg8 harg8 X2 X3 X4 X5 f8 hodd h hd0 hd1 hd2 hd3 hd4

theorem skip7 (hodd : k0_cond1 i = 1#1) (h : Fin 8) (hd0 : LoadRect.disjAll [slot7 0] (slot7 h).toLoadRect = true) (hd1 : LoadRect.disjAll [slot7 1] (slot7 h).toLoadRect = true) (hd2 : LoadRect.disjAll [slot7 2] (slot7 h).toLoadRect = true) (hd3 : LoadRect.disjAll [slot7 3] (slot7 h).toLoadRect = true) (hd4 : LoadRect.disjAll [slot7 4] (slot7 h).toLoadRect = true) (hd5 : LoadRect.disjAll [slot7 5] (slot7 h).toLoadRect = true) (hd6 : LoadRect.disjAll [slot7 6] (slot7 h).toLoadRect = true) :
    arg7.view.readCov (run_odd.sl.H7_7 c i arg2 harg2 arg3 harg3 arg4 harg4 arg5 harg5 arg6 harg6 arg7 harg7 arg8 harg8 hodd X2 X3 X4 X5 f8) (slot7 h).toLoadRect = ((env c i arg2 harg2 arg3 harg3 arg4 harg4 arg5 harg5 arg6 harg6 arg7 harg7 arg8 harg8 X2 X3 X4 X5).stN ((i 1).val + 1) h).a := by
  unfold run_odd.sl.H7_7
  rw [rd_skip1 arg7.view _ _ _ hd6]
  exact skip6 c i arg2 harg2 arg3 harg3 arg4 harg4 arg5 harg5 arg6 harg6 arg7 harg7 arg8 harg8 X2 X3 X4 X5 f8 hodd h hd0 hd1 hd2 hd3 hd4 hd5
theorem odd_acc0 (hodd : k0_cond1 i = 1#1) : run_odd.sl.v205 c i arg2 harg2 arg3 harg3 arg4 harg4 arg5 harg5 arg6 harg6 arg7 harg7 arg8 harg8 X2 X3 X4 X5 f8 = ((env c i arg2 harg2 arg3 harg3 arg4 harg4 arg5 harg5 arg6 harg6 arg7 harg7 arg8 harg8 X2 X3 X4 X5).stN ((i 1).val + 1) 0).a := by
  rw [← trips_odd i hodd]
  unfold run_odd.sl.v205; rw [hz i]; exact left7 c i arg2 harg2 arg3 harg3 arg4 harg4 arg5 harg5 arg6 harg6 arg7 harg7 arg8 harg8 X2 X3 X4 X5 f8 0
theorem odd_acc1 (hodd : k0_cond1 i = 1#1) : run_odd.sl.v232 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 1).a := by
  exact skip1 c i arg2 harg2 arg3 harg3 arg4 harg4 arg5 harg5 arg6 harg6 arg7 harg7 arg8 harg8 X2 X3 X4 X5 f8 hodd 1 rfl
theorem odd_acc2 (hodd : k0_cond1 i = 1#1) : run_odd.sl.v259 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 2).a := by
  exact skip2 c i arg2 harg2 arg3 harg3 arg4 harg4 arg5 harg5 arg6 harg6 arg7 harg7 arg8 harg8 X2 X3 X4 X5 f8 hodd 2 rfl rfl
theorem odd_acc3 (hodd : k0_cond1 i = 1#1) : run_odd.sl.v286 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 3).a := by
  exact skip3 c i arg2 harg2 arg3 harg3 arg4 harg4 arg5 harg5 arg6 harg6 arg7 harg7 arg8 harg8 X2 X3 X4 X5 f8 hodd 3 rfl rfl rfl
theorem odd_acc4 (hodd : k0_cond1 i = 1#1) : run_odd.sl.v313 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 4).a := by
  exact skip4 c i arg2 harg2 arg3 harg3 arg4 harg4 arg5 harg5 arg6 harg6 arg7 harg7 arg8 harg8 X2 X3 X4 X5 f8 hodd 4 rfl rfl rfl rfl
theorem odd_acc5 (hodd : k0_cond1 i = 1#1) : run_odd.sl.v340 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 5).a := by
  exact skip5 c i arg2 harg2 arg3 harg3 arg4 harg4 arg5 harg5 arg6 harg6 arg7 harg7 arg8 harg8 X2 X3 X4 X5 f8 hodd 5 rfl rfl rfl rfl rfl
theorem odd_acc6 (hodd : k0_cond1 i = 1#1) : run_odd.sl.v367 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 6).a := by
  exact skip6 c i arg2 harg2 arg3 harg3 arg4 harg4 arg5 harg5 arg6 harg6 arg7 harg7 arg8 harg8 X2 X3 X4 X5 f8 hodd 6 rfl rfl rfl rfl rfl rfl
theorem odd_acc7 (hodd : k0_cond1 i = 1#1) : run_odd.sl.v394 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 1) 7).a := by
  exact skip7 c i arg2 harg2 arg3 harg3 arg4 harg4 arg5 harg5 arg6 harg6 arg7 harg7 arg8 harg8 X2 X3 X4 X5 f8 hodd 7 rfl rfl rfl rfl rfl rfl rfl

theorem odd_a0 (hodd : k0_cond1 i = 1#1) : run_odd.sl.v212 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 0).a := by
  show k0_pay27 (k0_pay26 (run_odd.sl.r_1 c i arg2 harg2 arg3 harg3 arg4 harg4 arg5 harg5 arg6 harg6 arg7 harg7 arg8 harg8 X2 X3 X4 X5 f8) (run_odd.sl.v186 c i arg2 harg2 arg3 harg3 arg4 harg4 arg5 harg5 arg6 harg6 arg7 harg7 arg8 harg8 X2 X3 X4 X5 f8) (arg4.view.readAt (Elt F) (Rect.unit (s := S9x1024x256) (k0_off78 i) S1x128x256.size (k0_off78_inb i hodd)).toLoadRect X4) (run_odd.sl.v205 c i arg2 harg2 arg3 harg3 arg4 harg4 arg5 harg5 arg6 harg6 arg7 harg7 arg8 harg8 X2 X3 X4 X5 f8)) = _
  rw [odd_acc0 c i arg2 harg2 arg3 harg3 arg4 harg4 arg5 harg5 arg6 harg6 arg7 harg7 arg8 harg8 X2 X3 X4 X5 f8 hodd, odd_s0 c i arg2 harg2 arg3 harg3 arg4 harg4 arg5 harg5 arg6 harg6 arg7 harg7 arg8 harg8 X2 X3 X4 X5 f8 hodd, odd_m0 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 0 (o78 i hodd), trips_odd i hodd]
  rfl

theorem odd_o0 (hodd : k0_cond1 i = 1#1) : k0_pay1 (run_odd.sl.v130 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 0).out := by
  show k0_pay1 (k0_pay353 (k0_pay25 (run_odd.sl.r_1 c i arg2 harg2 arg3 harg3 arg4 harg4 arg5 harg5 arg6 harg6 arg7 harg7 arg8 harg8 X2 X3 X4 X5 f8) (run_odd.sl.r_9 c i arg2 harg2 arg3 harg3 arg4 harg4 arg5 harg5 arg6 harg6 arg7 harg7 arg8 harg8 X2 X3 X4 X5 f8) (run_odd.sl.v186 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 0).toLoadRect)) = _
  rw [rd_cov arg7.view (run_odd.sl.H7_8 c i arg2 harg2 arg3 harg3 arg4 harg4 arg5 harg5 arg6 harg6 arg7 harg7 arg8 harg8 hodd X2 X3 X4 X5 f8) 7 (slot7 0) (run_odd.sl.v212 c i arg2 harg2 arg3 harg3 arg4 harg4 arg5 harg5 arg6 harg6 arg7 harg7 arg8 harg8 hodd X2 X3 X4 X5 f8) rfl rfl, odd_a0 c i arg2 harg2 arg3 harg3 arg4 harg4 arg5 harg5 arg6 harg6 arg7 harg7 arg8 harg8 X2 X3 X4 X5 f8 hodd, odd_s0 c i arg2 harg2 arg3 harg3 arg4 harg4 arg5 harg5 arg6 harg6 arg7 harg7 arg8 harg8 X2 X3 X4 X5 f8 hodd, odd_m0 c i arg2 harg2 arg3 harg3 arg4 harg4 arg5 harg5 arg6 harg6 arg7 harg7 arg8 harg8 X2 X3 X4 X5 f8, odd_l0 c i arg2 harg2 arg3 harg3 arg4 harg4 arg5 harg5 arg6 harg6 arg7 harg7 arg8 harg8 X2 X3 X4 X5 f8, trips_odd i hodd]
  rfl

theorem odd_a1 (hodd : k0_cond1 i = 1#1) : run_odd.sl.v239 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 1).a := by
  show k0_pay27 (k0_pay26 (run_odd.sl.r_2 c i arg2 harg2 arg3 harg3 arg4 harg4 arg5 harg5 arg6 harg6 arg7 harg7 arg8 harg8 X2 X3 X4 X5 f8) (run_odd.sl.v213 c i arg2 harg2 arg3 harg3 arg4 harg4 arg5 harg5 arg6 harg6 arg7 harg7 arg8 harg8 X2 X3 X4 X5 f8) (arg4.view.readAt (Elt F) (Rect.unit (s := S9x1024x256) (k0_off79 i) S1x128x256.size (k0_off79_inb i hodd)).toLoadRect X4) (run_odd.sl.v232 c i arg2 harg2 arg3 harg3 arg4 harg4 arg5 harg5 arg6 harg6 arg7 harg7 arg8 harg8 hodd X2 X3 X4 X5 f8)) = _
  rw [odd_acc1 c i arg2 harg2 arg3 harg3 arg4 harg4 arg5 harg5 arg6 harg6 arg7 harg7 arg8 harg8 X2 X3 X4 X5 f8 hodd, odd_s1 c i arg2 harg2 arg3 harg3 arg4 harg4 arg5 harg5 arg6 harg6 arg7 harg7 arg8 harg8 X2 X3 X4 X5 f8 hodd, odd_m1 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 1 (o79 i hodd), trips_odd i hodd]
  rfl

theorem odd_o1 (hodd : k0_cond1 i = 1#1) : k0_pay2 (run_odd.sl.v134 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 1).out := by
  show k0_pay1 (k0_pay353 (k0_pay25 (run_odd.sl.r_2 c i arg2 harg2 arg3 harg3 arg4 harg4 arg5 harg5 arg6 harg6 arg7 harg7 arg8 harg8 X2 X3 X4 X5 f8) (run_odd.sl.r_10 c i arg2 harg2 arg3 harg3 arg4 harg4 arg5 harg5 arg6 harg6 arg7 harg7 arg8 harg8 X2 X3 X4 X5 f8) (run_odd.sl.v213 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 1).toLoadRect)) = _
  rw [rd_cov arg7.view (run_odd.sl.H7_8 c i arg2 harg2 arg3 harg3 arg4 harg4 arg5 harg5 arg6 harg6 arg7 harg7 arg8 harg8 hodd X2 X3 X4 X5 f8) 6 (slot7 1) (run_odd.sl.v239 c i arg2 harg2 arg3 harg3 arg4 harg4 arg5 harg5 arg6 harg6 arg7 harg7 arg8 harg8 hodd X2 X3 X4 X5 f8) rfl rfl, odd_a1 c i arg2 harg2 arg3 harg3 arg4 harg4 arg5 harg5 arg6 harg6 arg7 harg7 arg8 harg8 X2 X3 X4 X5 f8 hodd, odd_s1 c i arg2 harg2 arg3 harg3 arg4 harg4 arg5 harg5 arg6 harg6 arg7 harg7 arg8 harg8 X2 X3 X4 X5 f8 hodd, odd_m1 c i arg2 harg2 arg3 harg3 arg4 harg4 arg5 harg5 arg6 harg6 arg7 harg7 arg8 harg8 X2 X3 X4 X5 f8, odd_l1 c i arg2 harg2 arg3 harg3 arg4 harg4 arg5 harg5 arg6 harg6 arg7 harg7 arg8 harg8 X2 X3 X4 X5 f8, trips_odd i hodd]
  rfl

theorem odd_a2 (hodd : k0_cond1 i = 1#1) : run_odd.sl.v266 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 2).a := by
  show k0_pay27 (k0_pay26 (run_odd.sl.r_3 c i arg2 harg2 arg3 harg3 arg4 harg4 arg5 harg5 arg6 harg6 arg7 harg7 arg8 harg8 X2 X3 X4 X5 f8) (run_odd.sl.v240 c i arg2 harg2 arg3 harg3 arg4 harg4 arg5 harg5 arg6 harg6 arg7 harg7 arg8 harg8 X2 X3 X4 X5 f8) (arg4.view.readAt (Elt F) (Rect.unit (s := S9x1024x256) (k0_off80 i) S1x128x256.size (k0_off80_inb i hodd)).toLoadRect X4) (run_odd.sl.v259 c i arg2 harg2 arg3 harg3 arg4 harg4 arg5 harg5 arg6 harg6 arg7 harg7 arg8 harg8 hodd X2 X3 X4 X5 f8)) = _
  rw [odd_acc2 c i arg2 harg2 arg3 harg3 arg4 harg4 arg5 harg5 arg6 harg6 arg7 harg7 arg8 harg8 X2 X3 X4 X5 f8 hodd, odd_s2 c i arg2 harg2 arg3 harg3 arg4 harg4 arg5 harg5 arg6 harg6 arg7 harg7 arg8 harg8 X2 X3 X4 X5 f8 hodd, odd_m2 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 2 (o80 i hodd), trips_odd i hodd]
  rfl

theorem odd_o2 (hodd : k0_cond1 i = 1#1) : k0_pay3 (run_odd.sl.v138 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 2).out := by
  show k0_pay1 (k0_pay353 (k0_pay25 (run_odd.sl.r_3 c i arg2 harg2 arg3 harg3 arg4 harg4 arg5 harg5 arg6 harg6 arg7 harg7 arg8 harg8 X2 X3 X4 X5 f8) (run_odd.sl.r_11 c i arg2 harg2 arg3 harg3 arg4 harg4 arg5 harg5 arg6 harg6 arg7 harg7 arg8 harg8 X2 X3 X4 X5 f8) (run_odd.sl.v240 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 2).toLoadRect)) = _
  rw [rd_cov arg7.view (run_odd.sl.H7_8 c i arg2 harg2 arg3 harg3 arg4 harg4 arg5 harg5 arg6 harg6 arg7 harg7 arg8 harg8 hodd X2 X3 X4 X5 f8) 5 (slot7 2) (run_odd.sl.v266 c i arg2 harg2 arg3 harg3 arg4 harg4 arg5 harg5 arg6 harg6 arg7 harg7 arg8 harg8 hodd X2 X3 X4 X5 f8) rfl rfl, odd_a2 c i arg2 harg2 arg3 harg3 arg4 harg4 arg5 harg5 arg6 harg6 arg7 harg7 arg8 harg8 X2 X3 X4 X5 f8 hodd, odd_s2 c i arg2 harg2 arg3 harg3 arg4 harg4 arg5 harg5 arg6 harg6 arg7 harg7 arg8 harg8 X2 X3 X4 X5 f8 hodd, odd_m2 c i arg2 harg2 arg3 harg3 arg4 harg4 arg5 harg5 arg6 harg6 arg7 harg7 arg8 harg8 X2 X3 X4 X5 f8, odd_l2 c i arg2 harg2 arg3 harg3 arg4 harg4 arg5 harg5 arg6 harg6 arg7 harg7 arg8 harg8 X2 X3 X4 X5 f8, trips_odd i hodd]
  rfl

theorem odd_a3 (hodd : k0_cond1 i = 1#1) : run_odd.sl.v293 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 3).a := by
  show k0_pay27 (k0_pay26 (run_odd.sl.r_4 c i arg2 harg2 arg3 harg3 arg4 harg4 arg5 harg5 arg6 harg6 arg7 harg7 arg8 harg8 X2 X3 X4 X5 f8) (run_odd.sl.v267 c i arg2 harg2 arg3 harg3 arg4 harg4 arg5 harg5 arg6 harg6 arg7 harg7 arg8 harg8 X2 X3 X4 X5 f8) (arg4.view.readAt (Elt F) (Rect.unit (s := S9x1024x256) (k0_off81 i) S1x128x256.size (k0_off81_inb i hodd)).toLoadRect X4) (run_odd.sl.v286 c i arg2 harg2 arg3 harg3 arg4 harg4 arg5 harg5 arg6 harg6 arg7 harg7 arg8 harg8 hodd X2 X3 X4 X5 f8)) = _
  rw [odd_acc3 c i arg2 harg2 arg3 harg3 arg4 harg4 arg5 harg5 arg6 harg6 arg7 harg7 arg8 harg8 X2 X3 X4 X5 f8 hodd, odd_s3 c i arg2 harg2 arg3 harg3 arg4 harg4 arg5 harg5 arg6 harg6 arg7 harg7 arg8 harg8 X2 X3 X4 X5 f8 hodd, odd_m3 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 3 (o81 i hodd), trips_odd i hodd]
  rfl

theorem odd_o3 (hodd : k0_cond1 i = 1#1) : k0_pay4 (run_odd.sl.v142 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 3).out := by
  show k0_pay1 (k0_pay353 (k0_pay25 (run_odd.sl.r_4 c i arg2 harg2 arg3 harg3 arg4 harg4 arg5 harg5 arg6 harg6 arg7 harg7 arg8 harg8 X2 X3 X4 X5 f8) (run_odd.sl.r_12 c i arg2 harg2 arg3 harg3 arg4 harg4 arg5 harg5 arg6 harg6 arg7 harg7 arg8 harg8 X2 X3 X4 X5 f8) (run_odd.sl.v267 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 3).toLoadRect)) = _
  rw [rd_cov arg7.view (run_odd.sl.H7_8 c i arg2 harg2 arg3 harg3 arg4 harg4 arg5 harg5 arg6 harg6 arg7 harg7 arg8 harg8 hodd X2 X3 X4 X5 f8) 4 (slot7 3) (run_odd.sl.v293 c i arg2 harg2 arg3 harg3 arg4 harg4 arg5 harg5 arg6 harg6 arg7 harg7 arg8 harg8 hodd X2 X3 X4 X5 f8) rfl rfl, odd_a3 c i arg2 harg2 arg3 harg3 arg4 harg4 arg5 harg5 arg6 harg6 arg7 harg7 arg8 harg8 X2 X3 X4 X5 f8 hodd, odd_s3 c i arg2 harg2 arg3 harg3 arg4 harg4 arg5 harg5 arg6 harg6 arg7 harg7 arg8 harg8 X2 X3 X4 X5 f8 hodd, odd_m3 c i arg2 harg2 arg3 harg3 arg4 harg4 arg5 harg5 arg6 harg6 arg7 harg7 arg8 harg8 X2 X3 X4 X5 f8, odd_l3 c i arg2 harg2 arg3 harg3 arg4 harg4 arg5 harg5 arg6 harg6 arg7 harg7 arg8 harg8 X2 X3 X4 X5 f8, trips_odd i hodd]
  rfl

theorem odd_a4 (hodd : k0_cond1 i = 1#1) : run_odd.sl.v320 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 4).a := by
  show k0_pay27 (k0_pay26 (run_odd.sl.r_5 c i arg2 harg2 arg3 harg3 arg4 harg4 arg5 harg5 arg6 harg6 arg7 harg7 arg8 harg8 X2 X3 X4 X5 f8) (run_odd.sl.v294 c i arg2 harg2 arg3 harg3 arg4 harg4 arg5 harg5 arg6 harg6 arg7 harg7 arg8 harg8 X2 X3 X4 X5 f8) (arg4.view.readAt (Elt F) (Rect.unit (s := S9x1024x256) (k0_off82 i) S1x128x256.size (k0_off82_inb i hodd)).toLoadRect X4) (run_odd.sl.v313 c i arg2 harg2 arg3 harg3 arg4 harg4 arg5 harg5 arg6 harg6 arg7 harg7 arg8 harg8 hodd X2 X3 X4 X5 f8)) = _
  rw [odd_acc4 c i arg2 harg2 arg3 harg3 arg4 harg4 arg5 harg5 arg6 harg6 arg7 harg7 arg8 harg8 X2 X3 X4 X5 f8 hodd, odd_s4 c i arg2 harg2 arg3 harg3 arg4 harg4 arg5 harg5 arg6 harg6 arg7 harg7 arg8 harg8 X2 X3 X4 X5 f8 hodd, odd_m4 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 4 (o82 i hodd), trips_odd i hodd]
  rfl

theorem odd_o4 (hodd : k0_cond1 i = 1#1) : k0_pay5 (run_odd.sl.v146 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 4).out := by
  show k0_pay1 (k0_pay353 (k0_pay25 (run_odd.sl.r_5 c i arg2 harg2 arg3 harg3 arg4 harg4 arg5 harg5 arg6 harg6 arg7 harg7 arg8 harg8 X2 X3 X4 X5 f8) (run_odd.sl.r_13 c i arg2 harg2 arg3 harg3 arg4 harg4 arg5 harg5 arg6 harg6 arg7 harg7 arg8 harg8 X2 X3 X4 X5 f8) (run_odd.sl.v294 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 4).toLoadRect)) = _
  rw [rd_cov arg7.view (run_odd.sl.H7_8 c i arg2 harg2 arg3 harg3 arg4 harg4 arg5 harg5 arg6 harg6 arg7 harg7 arg8 harg8 hodd X2 X3 X4 X5 f8) 3 (slot7 4) (run_odd.sl.v320 c i arg2 harg2 arg3 harg3 arg4 harg4 arg5 harg5 arg6 harg6 arg7 harg7 arg8 harg8 hodd X2 X3 X4 X5 f8) rfl rfl, odd_a4 c i arg2 harg2 arg3 harg3 arg4 harg4 arg5 harg5 arg6 harg6 arg7 harg7 arg8 harg8 X2 X3 X4 X5 f8 hodd, odd_s4 c i arg2 harg2 arg3 harg3 arg4 harg4 arg5 harg5 arg6 harg6 arg7 harg7 arg8 harg8 X2 X3 X4 X5 f8 hodd, odd_m4 c i arg2 harg2 arg3 harg3 arg4 harg4 arg5 harg5 arg6 harg6 arg7 harg7 arg8 harg8 X2 X3 X4 X5 f8, odd_l4 c i arg2 harg2 arg3 harg3 arg4 harg4 arg5 harg5 arg6 harg6 arg7 harg7 arg8 harg8 X2 X3 X4 X5 f8, trips_odd i hodd]
  rfl

theorem odd_a5 (hodd : k0_cond1 i = 1#1) : run_odd.sl.v347 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 5).a := by
  show k0_pay27 (k0_pay26 (run_odd.sl.r_6 c i arg2 harg2 arg3 harg3 arg4 harg4 arg5 harg5 arg6 harg6 arg7 harg7 arg8 harg8 X2 X3 X4 X5 f8) (run_odd.sl.v321 c i arg2 harg2 arg3 harg3 arg4 harg4 arg5 harg5 arg6 harg6 arg7 harg7 arg8 harg8 X2 X3 X4 X5 f8) (arg4.view.readAt (Elt F) (Rect.unit (s := S9x1024x256) (k0_off83 i) S1x128x256.size (k0_off83_inb i hodd)).toLoadRect X4) (run_odd.sl.v340 c i arg2 harg2 arg3 harg3 arg4 harg4 arg5 harg5 arg6 harg6 arg7 harg7 arg8 harg8 hodd X2 X3 X4 X5 f8)) = _
  rw [odd_acc5 c i arg2 harg2 arg3 harg3 arg4 harg4 arg5 harg5 arg6 harg6 arg7 harg7 arg8 harg8 X2 X3 X4 X5 f8 hodd, odd_s5 c i arg2 harg2 arg3 harg3 arg4 harg4 arg5 harg5 arg6 harg6 arg7 harg7 arg8 harg8 X2 X3 X4 X5 f8 hodd, odd_m5 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 5 (o83 i hodd), trips_odd i hodd]
  rfl

theorem odd_o5 (hodd : k0_cond1 i = 1#1) : k0_pay6 (run_odd.sl.v150 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 5).out := by
  show k0_pay1 (k0_pay353 (k0_pay25 (run_odd.sl.r_6 c i arg2 harg2 arg3 harg3 arg4 harg4 arg5 harg5 arg6 harg6 arg7 harg7 arg8 harg8 X2 X3 X4 X5 f8) (run_odd.sl.r_14 c i arg2 harg2 arg3 harg3 arg4 harg4 arg5 harg5 arg6 harg6 arg7 harg7 arg8 harg8 X2 X3 X4 X5 f8) (run_odd.sl.v321 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 5).toLoadRect)) = _
  rw [rd_cov arg7.view (run_odd.sl.H7_8 c i arg2 harg2 arg3 harg3 arg4 harg4 arg5 harg5 arg6 harg6 arg7 harg7 arg8 harg8 hodd X2 X3 X4 X5 f8) 2 (slot7 5) (run_odd.sl.v347 c i arg2 harg2 arg3 harg3 arg4 harg4 arg5 harg5 arg6 harg6 arg7 harg7 arg8 harg8 hodd X2 X3 X4 X5 f8) rfl rfl, odd_a5 c i arg2 harg2 arg3 harg3 arg4 harg4 arg5 harg5 arg6 harg6 arg7 harg7 arg8 harg8 X2 X3 X4 X5 f8 hodd, odd_s5 c i arg2 harg2 arg3 harg3 arg4 harg4 arg5 harg5 arg6 harg6 arg7 harg7 arg8 harg8 X2 X3 X4 X5 f8 hodd, odd_m5 c i arg2 harg2 arg3 harg3 arg4 harg4 arg5 harg5 arg6 harg6 arg7 harg7 arg8 harg8 X2 X3 X4 X5 f8, odd_l5 c i arg2 harg2 arg3 harg3 arg4 harg4 arg5 harg5 arg6 harg6 arg7 harg7 arg8 harg8 X2 X3 X4 X5 f8, trips_odd i hodd]
  rfl

theorem odd_a6 (hodd : k0_cond1 i = 1#1) : run_odd.sl.v374 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 6).a := by
  show k0_pay27 (k0_pay26 (run_odd.sl.r_7 c i arg2 harg2 arg3 harg3 arg4 harg4 arg5 harg5 arg6 harg6 arg7 harg7 arg8 harg8 X2 X3 X4 X5 f8) (run_odd.sl.v348 c i arg2 harg2 arg3 harg3 arg4 harg4 arg5 harg5 arg6 harg6 arg7 harg7 arg8 harg8 X2 X3 X4 X5 f8) (arg4.view.readAt (Elt F) (Rect.unit (s := S9x1024x256) (k0_off84 i) S1x128x256.size (k0_off84_inb i hodd)).toLoadRect X4) (run_odd.sl.v367 c i arg2 harg2 arg3 harg3 arg4 harg4 arg5 harg5 arg6 harg6 arg7 harg7 arg8 harg8 hodd X2 X3 X4 X5 f8)) = _
  rw [odd_acc6 c i arg2 harg2 arg3 harg3 arg4 harg4 arg5 harg5 arg6 harg6 arg7 harg7 arg8 harg8 X2 X3 X4 X5 f8 hodd, odd_s6 c i arg2 harg2 arg3 harg3 arg4 harg4 arg5 harg5 arg6 harg6 arg7 harg7 arg8 harg8 X2 X3 X4 X5 f8 hodd, odd_m6 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 6 (o84 i hodd), trips_odd i hodd]
  rfl

theorem odd_o6 (hodd : k0_cond1 i = 1#1) : k0_pay7 (run_odd.sl.v154 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 6).out := by
  show k0_pay1 (k0_pay353 (k0_pay25 (run_odd.sl.r_7 c i arg2 harg2 arg3 harg3 arg4 harg4 arg5 harg5 arg6 harg6 arg7 harg7 arg8 harg8 X2 X3 X4 X5 f8) (run_odd.sl.r_15 c i arg2 harg2 arg3 harg3 arg4 harg4 arg5 harg5 arg6 harg6 arg7 harg7 arg8 harg8 X2 X3 X4 X5 f8) (run_odd.sl.v348 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 6).toLoadRect)) = _
  rw [rd_cov arg7.view (run_odd.sl.H7_8 c i arg2 harg2 arg3 harg3 arg4 harg4 arg5 harg5 arg6 harg6 arg7 harg7 arg8 harg8 hodd X2 X3 X4 X5 f8) 1 (slot7 6) (run_odd.sl.v374 c i arg2 harg2 arg3 harg3 arg4 harg4 arg5 harg5 arg6 harg6 arg7 harg7 arg8 harg8 hodd X2 X3 X4 X5 f8) rfl rfl, odd_a6 c i arg2 harg2 arg3 harg3 arg4 harg4 arg5 harg5 arg6 harg6 arg7 harg7 arg8 harg8 X2 X3 X4 X5 f8 hodd, odd_s6 c i arg2 harg2 arg3 harg3 arg4 harg4 arg5 harg5 arg6 harg6 arg7 harg7 arg8 harg8 X2 X3 X4 X5 f8 hodd, odd_m6 c i arg2 harg2 arg3 harg3 arg4 harg4 arg5 harg5 arg6 harg6 arg7 harg7 arg8 harg8 X2 X3 X4 X5 f8, odd_l6 c i arg2 harg2 arg3 harg3 arg4 harg4 arg5 harg5 arg6 harg6 arg7 harg7 arg8 harg8 X2 X3 X4 X5 f8, trips_odd i hodd]
  rfl

theorem odd_a7 (hodd : k0_cond1 i = 1#1) : run_odd.sl.v401 c i arg2 harg2 arg3 harg3 arg4 harg4 arg5 harg5 arg6 harg6 arg7 harg7 arg8 harg8 hodd X2 X3 X4 X5 f8 = ((env c i arg2 harg2 arg3 harg3 arg4 harg4 arg5 harg5 arg6 harg6 arg7 harg7 arg8 harg8 X2 X3 X4 X5).stN ((i 1).val + 2) 7).a := by
  show k0_pay27 (k0_pay26 (run_odd.sl.r_8 c i arg2 harg2 arg3 harg3 arg4 harg4 arg5 harg5 arg6 harg6 arg7 harg7 arg8 harg8 X2 X3 X4 X5 f8) (run_odd.sl.v375 c i arg2 harg2 arg3 harg3 arg4 harg4 arg5 harg5 arg6 harg6 arg7 harg7 arg8 harg8 X2 X3 X4 X5 f8) (arg4.view.readAt (Elt F) (Rect.unit (s := S9x1024x256) (k0_off85 i) S1x128x256.size (k0_off85_inb i hodd)).toLoadRect X4) (run_odd.sl.v394 c i arg2 harg2 arg3 harg3 arg4 harg4 arg5 harg5 arg6 harg6 arg7 harg7 arg8 harg8 hodd X2 X3 X4 X5 f8)) = _
  rw [odd_acc7 c i arg2 harg2 arg3 harg3 arg4 harg4 arg5 harg5 arg6 harg6 arg7 harg7 arg8 harg8 X2 X3 X4 X5 f8 hodd, odd_s7 c i arg2 harg2 arg3 harg3 arg4 harg4 arg5 harg5 arg6 harg6 arg7 harg7 arg8 harg8 X2 X3 X4 X5 f8 hodd, odd_m7 c i arg2 harg2 arg3 harg3 arg4 harg4 arg5 harg5 arg6 harg6 arg7 harg7 arg8 harg8 X2 X3 X4 X5 f8, (env c i arg2 harg2 arg3 harg3 arg4 harg4 arg5 harg5 arg6 harg6 arg7 harg7 arg8 harg8 X2 X3 X4 X5).v_eq ((i 1).val + 1) 7 (o85 i hodd), trips_odd i hodd]
  rfl

theorem odd_o7 (hodd : k0_cond1 i = 1#1) : k0_pay8 (k0_pay25 (run_odd.sl.r_8 c i arg2 harg2 arg3 harg3 arg4 harg4 arg5 harg5 arg6 harg6 arg7 harg7 arg8 harg8 X2 X3 X4 X5 f8) (run_odd.sl.r_16 c i arg2 harg2 arg3 harg3 arg4 harg4 arg5 harg5 arg6 harg6 arg7 harg7 arg8 harg8 X2 X3 X4 X5 f8) (run_odd.sl.v375 c i arg2 harg2 arg3 harg3 arg4 harg4 arg5 harg5 arg6 harg6 arg7 harg7 arg8 harg8 X2 X3 X4 X5 f8)) (run_odd.sl.v156 c i arg2 harg2 arg3 harg3 arg4 harg4 arg5 harg5 arg6 harg6 arg7 harg7 arg8 harg8 hodd X2 X3 X4 X5 f8) = ((env c i arg2 harg2 arg3 harg3 arg4 harg4 arg5 harg5 arg6 harg6 arg7 harg7 arg8 harg8 X2 X3 X4 X5).stN ((i 1).val + 2) 7).out := by
  show k0_pay1 (k0_pay353 (k0_pay25 (run_odd.sl.r_8 c i arg2 harg2 arg3 harg3 arg4 harg4 arg5 harg5 arg6 harg6 arg7 harg7 arg8 harg8 X2 X3 X4 X5 f8) (run_odd.sl.r_16 c i arg2 harg2 arg3 harg3 arg4 harg4 arg5 harg5 arg6 harg6 arg7 harg7 arg8 harg8 X2 X3 X4 X5 f8) (run_odd.sl.v375 c i arg2 harg2 arg3 harg3 arg4 harg4 arg5 harg5 arg6 harg6 arg7 harg7 arg8 harg8 X2 X3 X4 X5 f8)) (arg7.view.readCov (run_odd.sl.H7_8 c i arg2 harg2 arg3 harg3 arg4 harg4 arg5 harg5 arg6 harg6 arg7 harg7 arg8 harg8 hodd X2 X3 X4 X5 f8) (slot7 7).toLoadRect)) = _
  rw [rd_cov arg7.view (run_odd.sl.H7_8 c i arg2 harg2 arg3 harg3 arg4 harg4 arg5 harg5 arg6 harg6 arg7 harg7 arg8 harg8 hodd X2 X3 X4 X5 f8) 0 (slot7 7) (run_odd.sl.v401 c i arg2 harg2 arg3 harg3 arg4 harg4 arg5 harg5 arg6 harg6 arg7 harg7 arg8 harg8 hodd X2 X3 X4 X5 f8) rfl rfl, odd_a7 c i arg2 harg2 arg3 harg3 arg4 harg4 arg5 harg5 arg6 harg6 arg7 harg7 arg8 harg8 X2 X3 X4 X5 f8 hodd, odd_s7 c i arg2 harg2 arg3 harg3 arg4 harg4 arg5 harg5 arg6 harg6 arg7 harg7 arg8 harg8 X2 X3 X4 X5 f8 hodd, odd_m7 c i arg2 harg2 arg3 harg3 arg4 harg4 arg5 harg5 arg6 harg6 arg7 harg7 arg8 harg8 X2 X3 X4 X5 f8, odd_l7 c i arg2 harg2 arg3 harg3 arg4 harg4 arg5 harg5 arg6 harg6 arg7 harg7 arg8 harg8 X2 X3 X4 X5 f8, trips_odd i hodd]
  rfl

theorem even_o0 (hodd : ¬ k0_cond1 i = 1#1) : k0_pay1 (run_even.sl.v130 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 0).out := by
  show k0_pay1 (k0_pay353 (run_even.sl.r_9 c i arg2 harg2 arg3 harg3 arg4 harg4 arg5 harg5 arg6 harg6 arg7 harg7 arg8 harg8 X2 X3 X4 X5 f8) (run_even.sl.v127 c i arg2 harg2 arg3 harg3 arg4 harg4 arg5 harg5 arg6 harg6 arg7 harg7 arg8 harg8 X2 X3 X4 X5 f8)) = _
  rw [even_l0 c i arg2 harg2 arg3 harg3 arg4 harg4 arg5 harg5 arg6 harg6 arg7 harg7 arg8 harg8 X2 X3 X4 X5 f8]; unfold run_even.sl.v127; rw [hz i]
  refine (congrArg (fun a => k0_pay1 (k0_pay353 _ a)) (left7 c i arg2 harg2 arg3 harg3 arg4 harg4 arg5 harg5 arg6 harg6 arg7 harg7 arg8 harg8 X2 X3 X4 X5 f8 0)).trans ?_
  rw [trips_even i hodd]
  rfl

theorem even_o1 (hodd : ¬ k0_cond1 i = 1#1) : k0_pay2 (run_even.sl.v134 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 1).out := by
  show k0_pay1 (k0_pay353 (run_even.sl.r_10 c i arg2 harg2 arg3 harg3 arg4 harg4 arg5 harg5 arg6 harg6 arg7 harg7 arg8 harg8 X2 X3 X4 X5 f8) (run_even.sl.v131 c i arg2 harg2 arg3 harg3 arg4 harg4 arg5 harg5 arg6 harg6 arg7 harg7 arg8 harg8 X2 X3 X4 X5 f8)) = _
  rw [even_l1 c i arg2 harg2 arg3 harg3 arg4 harg4 arg5 harg5 arg6 harg6 arg7 harg7 arg8 harg8 X2 X3 X4 X5 f8]; unfold run_even.sl.v131; rw [hz i]
  refine (congrArg (fun a => k0_pay1 (k0_pay353 _ a)) (left7 c i arg2 harg2 arg3 harg3 arg4 harg4 arg5 harg5 arg6 harg6 arg7 harg7 arg8 harg8 X2 X3 X4 X5 f8 1)).trans ?_
  rw [trips_even i hodd]
  rfl

theorem even_o2 (hodd : ¬ k0_cond1 i = 1#1) : k0_pay3 (run_even.sl.v138 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 2).out := by
  show k0_pay1 (k0_pay353 (run_even.sl.r_11 c i arg2 harg2 arg3 harg3 arg4 harg4 arg5 harg5 arg6 harg6 arg7 harg7 arg8 harg8 X2 X3 X4 X5 f8) (run_even.sl.v135 c i arg2 harg2 arg3 harg3 arg4 harg4 arg5 harg5 arg6 harg6 arg7 harg7 arg8 harg8 X2 X3 X4 X5 f8)) = _
  rw [even_l2 c i arg2 harg2 arg3 harg3 arg4 harg4 arg5 harg5 arg6 harg6 arg7 harg7 arg8 harg8 X2 X3 X4 X5 f8]; unfold run_even.sl.v135; rw [hz i]
  refine (congrArg (fun a => k0_pay1 (k0_pay353 _ a)) (left7 c i arg2 harg2 arg3 harg3 arg4 harg4 arg5 harg5 arg6 harg6 arg7 harg7 arg8 harg8 X2 X3 X4 X5 f8 2)).trans ?_
  rw [trips_even i hodd]
  rfl

theorem even_o3 (hodd : ¬ k0_cond1 i = 1#1) : k0_pay4 (run_even.sl.v142 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 3).out := by
  show k0_pay1 (k0_pay353 (run_even.sl.r_12 c i arg2 harg2 arg3 harg3 arg4 harg4 arg5 harg5 arg6 harg6 arg7 harg7 arg8 harg8 X2 X3 X4 X5 f8) (run_even.sl.v139 c i arg2 harg2 arg3 harg3 arg4 harg4 arg5 harg5 arg6 harg6 arg7 harg7 arg8 harg8 X2 X3 X4 X5 f8)) = _
  rw [even_l3 c i arg2 harg2 arg3 harg3 arg4 harg4 arg5 harg5 arg6 harg6 arg7 harg7 arg8 harg8 X2 X3 X4 X5 f8]; unfold run_even.sl.v139; rw [hz i]
  refine (congrArg (fun a => k0_pay1 (k0_pay353 _ a)) (left7 c i arg2 harg2 arg3 harg3 arg4 harg4 arg5 harg5 arg6 harg6 arg7 harg7 arg8 harg8 X2 X3 X4 X5 f8 3)).trans ?_
  rw [trips_even i hodd]
  rfl

theorem even_o4 (hodd : ¬ k0_cond1 i = 1#1) : k0_pay5 (run_even.sl.v146 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 4).out := by
  show k0_pay1 (k0_pay353 (run_even.sl.r_13 c i arg2 harg2 arg3 harg3 arg4 harg4 arg5 harg5 arg6 harg6 arg7 harg7 arg8 harg8 X2 X3 X4 X5 f8) (run_even.sl.v143 c i arg2 harg2 arg3 harg3 arg4 harg4 arg5 harg5 arg6 harg6 arg7 harg7 arg8 harg8 X2 X3 X4 X5 f8)) = _
  rw [even_l4 c i arg2 harg2 arg3 harg3 arg4 harg4 arg5 harg5 arg6 harg6 arg7 harg7 arg8 harg8 X2 X3 X4 X5 f8]; unfold run_even.sl.v143; rw [hz i]
  refine (congrArg (fun a => k0_pay1 (k0_pay353 _ a)) (left7 c i arg2 harg2 arg3 harg3 arg4 harg4 arg5 harg5 arg6 harg6 arg7 harg7 arg8 harg8 X2 X3 X4 X5 f8 4)).trans ?_
  rw [trips_even i hodd]
  rfl

theorem even_o5 (hodd : ¬ k0_cond1 i = 1#1) : k0_pay6 (run_even.sl.v150 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 5).out := by
  show k0_pay1 (k0_pay353 (run_even.sl.r_14 c i arg2 harg2 arg3 harg3 arg4 harg4 arg5 harg5 arg6 harg6 arg7 harg7 arg8 harg8 X2 X3 X4 X5 f8) (run_even.sl.v147 c i arg2 harg2 arg3 harg3 arg4 harg4 arg5 harg5 arg6 harg6 arg7 harg7 arg8 harg8 X2 X3 X4 X5 f8)) = _
  rw [even_l5 c i arg2 harg2 arg3 harg3 arg4 harg4 arg5 harg5 arg6 harg6 arg7 harg7 arg8 harg8 X2 X3 X4 X5 f8]; unfold run_even.sl.v147; rw [hz i]
  refine (congrArg (fun a => k0_pay1 (k0_pay353 _ a)) (left7 c i arg2 harg2 arg3 harg3 arg4 harg4 arg5 harg5 arg6 harg6 arg7 harg7 arg8 harg8 X2 X3 X4 X5 f8 5)).trans ?_
  rw [trips_even i hodd]
  rfl

theorem even_o6 (hodd : ¬ k0_cond1 i = 1#1) : k0_pay7 (run_even.sl.v154 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 6).out := by
  show k0_pay1 (k0_pay353 (run_even.sl.r_15 c i arg2 harg2 arg3 harg3 arg4 harg4 arg5 harg5 arg6 harg6 arg7 harg7 arg8 harg8 X2 X3 X4 X5 f8) (run_even.sl.v151 c i arg2 harg2 arg3 harg3 arg4 harg4 arg5 harg5 arg6 harg6 arg7 harg7 arg8 harg8 X2 X3 X4 X5 f8)) = _
  rw [even_l6 c i arg2 harg2 arg3 harg3 arg4 harg4 arg5 harg5 arg6 harg6 arg7 harg7 arg8 harg8 X2 X3 X4 X5 f8]; unfold run_even.sl.v151; rw [hz i]
  refine (congrArg (fun a => k0_pay1 (k0_pay353 _ a)) (left7 c i arg2 harg2 arg3 harg3 arg4 harg4 arg5 harg5 arg6 harg6 arg7 harg7 arg8 harg8 X2 X3 X4 X5 f8 6)).trans ?_
  rw [trips_even i hodd]
  rfl

theorem even_o7 (hodd : ¬ k0_cond1 i = 1#1) : k0_pay8 (run_even.sl.r_16 c i arg2 harg2 arg3 harg3 arg4 harg4 arg5 harg5 arg6 harg6 arg7 harg7 arg8 harg8 X2 X3 X4 X5 f8) (run_even.sl.v156 c i arg2 harg2 arg3 harg3 arg4 harg4 arg5 harg5 arg6 harg6 arg7 harg7 arg8 harg8 X2 X3 X4 X5 f8) = ((env c i arg2 harg2 arg3 harg3 arg4 harg4 arg5 harg5 arg6 harg6 arg7 harg7 arg8 harg8 X2 X3 X4 X5).stN ((i 1).val + 2) 7).out := by
  show k0_pay1 (k0_pay353 (run_even.sl.r_16 c i arg2 harg2 arg3 harg3 arg4 harg4 arg5 harg5 arg6 harg6 arg7 harg7 arg8 harg8 X2 X3 X4 X5 f8) (run_even.sl.v155 c i arg2 harg2 arg3 harg3 arg4 harg4 arg5 harg5 arg6 harg6 arg7 harg7 arg8 harg8 X2 X3 X4 X5 f8)) = _
  rw [even_l7 c i arg2 harg2 arg3 harg3 arg4 harg4 arg5 harg5 arg6 harg6 arg7 harg7 arg8 harg8 X2 X3 X4 X5 f8]; unfold run_even.sl.v155; rw [hz i]
  refine (congrArg (fun a => k0_pay1 (k0_pay353 _ a)) (left7 c i arg2 harg2 arg3 harg3 arg4 harg4 arg5 harg5 arg6 harg6 arg7 harg7 arg8 harg8 X2 X3 X4 X5 f8 7)).trans ?_
  rw [trips_even i hodd]
  rfl

/-- What the body writes into its output block. -/
abbrev outs : List (View.Piece (Elt F) S256x1024 .bf16) :=
  [⟨Rect.unit (s := S256x1024) ![0, 896] S256x128.size inb_S256x1024_S256x128_0_896, ((env c i arg2 harg2 arg3 harg3 arg4 harg4 arg5 harg5 arg6 harg6 arg7 harg7 arg8 harg8 X2 X3 X4 X5).stN ((i 1).val + 2) 7).out⟩,
   ⟨Rect.unit (s := S256x1024) ![0, 768] S256x128.size inb_S256x1024_S256x128_0_768, ((env c i arg2 harg2 arg3 harg3 arg4 harg4 arg5 harg5 arg6 harg6 arg7 harg7 arg8 harg8 X2 X3 X4 X5).stN ((i 1).val + 2) 6).out⟩,
   ⟨Rect.unit (s := S256x1024) ![0, 640] S256x128.size inb_S256x1024_S256x128_0_640, ((env c i arg2 harg2 arg3 harg3 arg4 harg4 arg5 harg5 arg6 harg6 arg7 harg7 arg8 harg8 X2 X3 X4 X5).stN ((i 1).val + 2) 5).out⟩,
   ⟨Rect.unit (s := S256x1024) ![0, 512] S256x128.size inb_S256x1024_S256x128_0_512, ((env c i arg2 harg2 arg3 harg3 arg4 harg4 arg5 harg5 arg6 harg6 arg7 harg7 arg8 harg8 X2 X3 X4 X5).stN ((i 1).val + 2) 4).out⟩,
   ⟨Rect.unit (s := S256x1024) ![0, 384] S256x128.size inb_S256x1024_S256x128_0_384, ((env c i arg2 harg2 arg3 harg3 arg4 harg4 arg5 harg5 arg6 harg6 arg7 harg7 arg8 harg8 X2 X3 X4 X5).stN ((i 1).val + 2) 3).out⟩,
   ⟨Rect.unit (s := S256x1024) ![0, 256] S256x128.size inb_S256x1024_S256x128_0_256, ((env c i arg2 harg2 arg3 harg3 arg4 harg4 arg5 harg5 arg6 harg6 arg7 harg7 arg8 harg8 X2 X3 X4 X5).stN ((i 1).val + 2) 2).out⟩,
   ⟨Rect.unit (s := S256x1024) ![0, 128] S256x128.size inb_S256x1024_S256x128_0_128, ((env c i arg2 harg2 arg3 harg3 arg4 harg4 arg5 harg5 arg6 harg6 arg7 harg7 arg8 harg8 X2 X3 X4 X5).stN ((i 1).val + 2) 1).out⟩,
   ⟨Rect.unit (s := S256x1024) ![0, 0] S256x128.size inb_S256x1024_S256x128_0_0, ((env c i arg2 harg2 arg3 harg3 arg4 harg4 arg5 harg5 arg6 harg6 arg7 harg7 arg8 harg8 X2 X3 X4 X5).stN ((i 1).val + 2) 0).out⟩]

theorem odd_outs (hodd : k0_cond1 i = 1#1) (f7) : (run_odd c i arg2 harg2 arg3 harg3 arg4 harg4 arg5 harg5 arg6 harg6 arg7 harg7 arg8 harg8 hodd X2 X3 X4 X5).1 f7 f8 = outs c i arg2 harg2 arg3 harg3 arg4 harg4 arg5 harg5 arg6 harg6 arg7 harg7 arg8 harg8 X2 X3 X4 X5 := by
  unfold run_odd outs
  dsimp only
  rw [← odd_o0 c i arg2 harg2 arg3 harg3 arg4 harg4 arg5 harg5 arg6 harg6 arg7 harg7 arg8 harg8 X2 X3 X4 X5 f8 hodd, ← odd_o1 c i arg2 harg2 arg3 harg3 arg4 harg4 arg5 harg5 arg6 harg6 arg7 harg7 arg8 harg8 X2 X3 X4 X5 f8 hodd, ← odd_o2 c i arg2 harg2 arg3 harg3 arg4 harg4 arg5 harg5 arg6 harg6 arg7 harg7 arg8 harg8 X2 X3 X4 X5 f8 hodd, ← odd_o3 c i arg2 harg2 arg3 harg3 arg4 harg4 arg5 harg5 arg6 harg6 arg7 harg7 arg8 harg8 X2 X3 X4 X5 f8 hodd, ← odd_o4 c i arg2 harg2 arg3 harg3 arg4 harg4 arg5 harg5 arg6 harg6 arg7 harg7 arg8 harg8 X2 X3 X4 X5 f8 hodd, ← odd_o5 c i arg2 harg2 arg3 harg3 arg4 harg4 arg5 harg5 arg6 harg6 arg7 harg7 arg8 harg8 X2 X3 X4 X5 f8 hodd, ← odd_o6 c i arg2 harg2 arg3 harg3 arg4 harg4 arg5 harg5 arg6 harg6 arg7 harg7 arg8 harg8 X2 X3 X4 X5 f8 hodd, ← odd_o7 c i arg2 harg2 arg3 harg3 arg4 harg4 arg5 harg5 arg6 harg6 arg7 harg7 arg8 harg8 X2 X3 X4 X5 f8 hodd]
  all_goals rfl
theorem even_outs (hodd : ¬ k0_cond1 i = 1#1) (f7) : (run_even c i arg2 harg2 arg3 harg3 arg4 harg4 arg5 harg5 arg6 harg6 arg7 harg7 arg8 harg8 hodd X2 X3 X4 X5).1 f7 f8 = outs c i arg2 harg2 arg3 harg3 arg4 harg4 arg5 harg5 arg6 harg6 arg7 harg7 arg8 harg8 X2 X3 X4 X5 := by
  unfold run_even outs
  dsimp only
  rw [← even_o0 c i arg2 harg2 arg3 harg3 arg4 harg4 arg5 harg5 arg6 harg6 arg7 harg7 arg8 harg8 X2 X3 X4 X5 f8 hodd, ← even_o1 c i arg2 harg2 arg3 harg3 arg4 harg4 arg5 harg5 arg6 harg6 arg7 harg7 arg8 harg8 X2 X3 X4 X5 f8 hodd, ← even_o2 c i arg2 harg2 arg3 harg3 arg4 harg4 arg5 harg5 arg6 harg6 arg7 harg7 arg8 harg8 X2 X3 X4 X5 f8 hodd, ← even_o3 c i arg2 harg2 arg3 harg3 arg4 harg4 arg5 harg5 arg6 harg6 arg7 harg7 arg8 harg8 X2 X3 X4 X5 f8 hodd, ← even_o4 c i arg2 harg2 arg3 harg3 arg4 harg4 arg5 harg5 arg6 harg6 arg7 harg7 arg8 harg8 X2 X3 X4 X5 f8 hodd, ← even_o5 c i arg2 harg2 arg3 harg3 arg4 harg4 arg5 harg5 arg6 harg6 arg7 harg7 arg8 harg8 X2 X3 X4 X5 f8 hodd, ← even_o6 c i arg2 harg2 arg3 harg3 arg4 harg4 arg5 harg5 arg6 harg6 arg7 harg7 arg8 harg8 X2 X3 X4 X5 f8 hodd, ← even_o7 c i arg2 harg2 arg3 harg3 arg4 harg4 arg5 harg5 arg6 harg6 arg7 harg7 arg8 harg8 X2 X3 X4 X5 f8 hodd]
  all_goals rfl

end Cert.Proof.Mla

end
-- ==== Proof.Mla.NamedRun.lean ====
/- The run of the latent attention's program, its output array named: the frame and what each grid point writes. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Mla.RunOuts
public import Idealize.ShloMosaic.Lib.Claim

@[expose] public section

set_option maxRecDepth 65536
set_option maxHeartbeats 4000000

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body leaves in the output block -/

/-- Every head's state after `n` chunks of query block `i`. -/
def SN (x2 : Vec F S256x2048 .bf16) (x3 : Vec F S2304x2048 .bf16) (x4 : Vec F S9x1024x256 .bf16) (x5 : Vec F S4x256x256 .f32) (i : ℕ) : ℕ → Fin 8 → St F
  | 0 => fun _ => Env.st0
  | n + 1 => fun h => (SN x2 x3 x4 x5 i n h).step (sc x2 x3 x5 i n h) (vch x4 (chunk n) h)

theorem stN_eq (E : Env F) (n : ℕ) : E.stN n = SN E.x2 E.x3 E.x4 E.x5 (E.i 1).val n := by
  induction n with
  | zero => rfl
  | succ n ih => unfold Env.stN SN Env.stp; rw [ih]

/-- The output block: a head's results in its 128 columns. -/
abbrev outPieces (x2 : Vec F S256x2048 .bf16) (x3 : Vec F S2304x2048 .bf16) (x4 : Vec F S9x1024x256 .bf16) (x5 : Vec F S4x256x256 .f32) (i : ℕ) : List (View.Piece (Elt F) S256x1024 .bf16) :=
  [⟨Rect.unit (s := S256x1024) ![0, 896] S256x128.size inb_S256x1024_S256x128_0_896, (SN x2 x3 x4 x5 i (i + 2) 7).out⟩,
   ⟨Rect.unit (s := S256x1024) ![0, 768] S256x128.size inb_S256x1024_S256x128_0_768, (SN x2 x3 x4 x5 i (i + 2) 6).out⟩,
   ⟨Rect.unit (s := S256x1024) ![0, 640] S256x128.size inb_S256x1024_S256x128_0_640, (SN x2 x3 x4 x5 i (i + 2) 5).out⟩,
   ⟨Rect.unit (s := S256x1024) ![0, 512] S256x128.size inb_S256x1024_S256x128_0_512, (SN x2 x3 x4 x5 i (i + 2) 4).out⟩,
   ⟨Rect.unit (s := S256x1024) ![0, 384] S256x128.size inb_S256x1024_S256x128_0_384, (SN x2 x3 x4 x5 i (i + 2) 3).out⟩,
   ⟨Rect.unit (s := S256x1024) ![0, 256] S256x128.size inb_S256x1024_S256x128_0_256, (SN x2 x3 x4 x5 i (i + 2) 2).out⟩,
   ⟨Rect.unit (s := S256x1024) ![0, 128] S256x128.size inb_S256x1024_S256x128_0_128, (SN x2 x3 x4 x5 i (i + 2) 1).out⟩,
   ⟨Rect.unit (s := S256x1024) ![0, 0] S256x128.size inb_S256x1024_S256x128_0_0, (SN x2 x3 x4 x5 i (i + 2) 0).out⟩]

def outBlk (x2 : Vec F S256x2048 .bf16) (x3 : Vec F S2304x2048 .bf16) (x4 : Vec F S9x1024x256 .bf16) (x5 : Vec F S4x256x256 .f32) (i : ℕ) : Vec F S256x1024 .bf16 :=
  View.canon (outPieces x2 x3 x4 x5 i)

theorem cover_out (x2 : Vec F S256x2048 .bf16) (x3 : Vec F S2304x2048 .bf16) (x4 : Vec F S9x1024x256 .bf16) (x5 : Vec F S4x256x256 .f32) (i : ℕ) (y : S256x1024.Idx) :
    ∃ pc ∈ outPieces x2 x3 x4 x5 i, y ∈ pc.1.set :=
  View.cover_of_tiled (outPieces x2 x3 x4 x5 i) S256x128.size (by rfl) y

theorem outs_eq (c : Dev nD) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole) (X2 : BufTy.Contents (Elt F) arg2.view.ty) (X3 : BufTy.Contents (Elt F) arg3.view.ty) (X4 : BufTy.Contents (Elt F) arg4.view.ty) (X5 : BufTy.Contents (Elt F) arg5.view.ty) :
    outs c i arg2 harg2 arg3 harg3 arg4 harg4 arg5 harg5 arg6 harg6 arg7 harg7 arg8 harg8 X2 X3 X4 X5 = outPieces (arg2.view.read (Elt F) X2) (arg3.view.read (Elt F) X3) (arg4.view.read (Elt F) X4) (arg5.view.read (Elt F) X5) (i 1).val := by
  unfold outs outPieces
  simp only [stN_eq]
  rfl

theorem sound_kernel (c : Dev nD) (E : Set ℕ) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole)
    (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) (f8 : BufTy.Contents (Elt F) arg8.view.ty) (K : PUnit → sProp 𝕄) :
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ owns (c : Thread nD τ) arg6 fullShare (outBlk (arg2.view.read (Elt F) X2) (arg3.view.read (Elt F) X3) (arg4.view.read (Elt F) X4) (arg5.view.read (Elt F) X5) (i 1).val) ∗ (∃ g, (arg7.view.loc (c : Thread nD τ) ↦[arg7.view.set]{fullShare} g)) ∗ (∃ g, (arg8.view.loc (c : Thread nD τ) ↦[arg8.view.set]{fullShare} g))) -∗ K ⟨⟩))
      ⊢ wp frame (wpE (defs₀ (F := F)) Variants.none c none) E (cc0_attn_mla i arg2 harg2 arg3 harg3 arg4 harg4 arg5 harg5 arg6 harg6 arg7 harg7 arg8 harg8) K := by
  by_cases hodd : k0_cond1 i = 1#1
  · iintro ⟨H2, H3, H4, H5, H6, H7, H8, Hk⟩
    iapply ((run_odd (F := F) c i arg2 harg2 arg3 harg3 arg4 harg4 arg5 harg5 arg6 harg6 arg7 harg7 arg8 harg8 hodd X2 X3 X4 X5).2 E f6 f7 f8 K)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, H8⟩
    iapply Hk
    isplitl [H2]; · iexact H2
    isplitl [H3]; · iexact H3
    isplitl [H4]; · iexact H4
    isplitl [H5]; · iexact H5
    isplitl [H6]
    · unfold owns
      iexists _; isplitr
      swap; · iexact H6
      ipureintro
      rw [odd_outs c i arg2 harg2 arg3 harg3 arg4 harg4 arg5 harg5 arg6 harg6 arg7 harg7 arg8 harg8 X2 X3 X4 X5 f8 hodd f7, outs_eq]
      exact View.read_writes_eq_canon _ _ _ (cover_out _ _ _ _ _)
    isplitl [H7]; · iexact H7
    iexact H8
  · iintro ⟨H2, H3, H4, H5, H6, H7, H8, Hk⟩
    iapply ((run_even (F := F) c i arg2 harg2 arg3 harg3 arg4 harg4 arg5 harg5 arg6 harg6 arg7 harg7 arg8 harg8 hodd X2 X3 X4 X5).2 E f6 f7 f8 K)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, H8⟩
    iapply Hk
    isplitl [H2]; · iexact H2
    isplitl [H3]; · iexact H3
    isplitl [H4]; · iexact H4
    isplitl [H5]; · iexact H5
    isplitl [H6]
    · unfold owns
      iexists _; isplitr
      swap; · iexact H6
      ipureintro
      rw [even_outs c i arg2 harg2 arg3 harg3 arg4 harg4 arg5 harg5 arg6 harg6 arg7 harg7 arg8 harg8 X2 X3 X4 X5 f8 hodd f7, outs_eq]
      exact View.read_writes_eq_canon _ _ _ (cover_out _ _ _ _ _)
    isplitl [H7]; · iexact H7
    iexact H8

/-- Holding a whole scratch buffer is holding its whole view. -/
theorem scr_eq (c : Dev nD) (b : Ref sig .tc) (f : Buf (Elt F) ((c : Thread nD τ).loc b)) :
    (iprop((Memref.whole b).view.loc (c : Thread nD τ) ↦[(Memref.whole b).view.set]{fullShare} f) : sProp 𝕄)
      = iprop(((c : Thread nD τ).loc b) ↦{fullShare} f) := by
  have h : (Memref.whole b).view.set = Finset.univ := by rw [Memref.view_whole, View.set_whole]
  rw [h]

theorem scr_in (c : Dev nD) (b : Ref sig .tc) (f : Buf (Elt F) ((c : Thread nD τ).loc b)) :
    (iprop(((c : Thread nD τ).loc b) ↦{fullShare} f) : sProp 𝕄)
      ⊢ iprop((Memref.whole b).view.loc (c : Thread nD τ) ↦[(Memref.whole b).view.set]{fullShare} f) := by
  rw [scr_eq]

theorem scr_out (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  iintro ⟨%f, H⟩
  iexists f
  rw [← scr_eq]; iexact H

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t) (grid0.coords t 1).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk (iblk m c 0 t) (iblk m c 1 t) (iblk m c 2 t) (iblk m c 3 t) (grid0.coords t 1).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA
  rw [scopedRest0_eq]
  unfold owns
  iintro ⟨⟨⟨⟨%g7, S7⟩, ⟨%g8, S8⟩⟩, Hρ⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  iapply (sound_kernel c Set.univ _ _ _ _ _ _ _ _ _ _ _ _ _ _ _ f0 f1 f2 f3 f4 g7 g8 _)
  isplitl [H0]; · iexact H0
  isplitl [H1]; · iexact H1
  isplitl [H2]; · iexact H2
  isplitl [H3]; · iexact H3
  isplitl [H4]; · iexact H4
  isplitl [S7]
  · iapply (scr_in c cc0_scratch0 g7); iexact S7
  isplitl [S8]
  · iapply (scr_in c cc0_scratch1 g8); iexact S8
  iintro ⟨H0, H1, H2, H3, H4, S7, S8⟩
  isplitl [S7 S8 Hρ]
  · isplitl [S7 S8]
    · isplitl [S7]
      · iapply (scr_out c cc0_scratch0); iexact S7
      · iapply (scr_out c cc0_scratch1); iexact S8
    · iexact Hρ
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  rw [← hf0, ← hf1, ← hf2, ← hf3]
  unfold owns
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Mla

end
-- ==== Proof.Mla.StepValue.lean ====
/- What one chunk's step computes over the reals, element by element. -/
module

public import proofs.«01_k».proof.Proof.Mla.NamedRun
public import Idealize.ShloMosaic.Lib.Pipeline.ValueKit
public import Idealize.ShloMosaic.Lib.Pointwise

@[expose] public section

set_option maxRecDepth 16384

noncomputable section

namespace Cert.Proof.Mla

open Cert.KernelIdeal Cert.KernelIdeal.Gen
open Idealize.ShloMosaic Idealize.ShloMosaic.TcCoe

/-- The pattern of minus infinity is the least extended real. -/
theorem ofBits_neg_inf : Ideal.ofBits .f32 0xFF800000#32 = (⊥ : EReal) := by
  simp [Ideal.ofBits, Ideal.ieee]

/-- A score: key times query over the padded head width, and the bias. -/
theorem sc_at (x2 : Vec Ideal S256x2048 .bf16) (x3 : Vec Ideal S2304x2048 .bf16) (x5 : Vec Ideal S4x256x256 .f32) (i c : ℕ) (h : Fin 8) (k q : Fin 256) :
    sc x2 x3 x5 i c h (ix4 0 0 k q)
      = (∑ e : Fin 256, (show EReal from x3 (ix2 ⟨256 * (chunk c).val + k.val, by omega⟩ ⟨256 * h.val + e.val, by omega⟩))
          * (show EReal from x2 (ix2 q ⟨256 * h.val + e.val, by omega⟩))) + (show EReal from x5 (ix3 (kind i c) k q)) := by
  unfold sc kch qh bch
  pointwise [k0_pay10, k0_pay9]

theorem vch_at (x4 : Vec Ideal S9x1024x256 .bf16) (d : Fin 9) (h : Fin 8) (e : Fin 128) (k : Fin 256) :
    vch x4 d h (ix3 0 e k) = x4 (ix3 d ⟨128 * h.val + e.val, by omega⟩ k) := by
  unfold vch
  pointwise []

theorem step_m (s : St Ideal) (w : FVec Ideal S1x1x256x256 .f32) (v : FVec Ideal S1x128x256 .bf16) (q : Fin 256) :
    (s.step w v).m (ix2 0 q) = max (s.m (ix2 0 q)) (Finset.univ.fold max (⊥ : EReal) fun k : Fin 256 => w (ix4 0 0 k q)) := by
  pointwise [St.step, k0_pay22, k0_pay21]
  rw [ofBits_neg_inf]

theorem step_l (s : St Ideal) (w : FVec Ideal S1x1x256x256 .f32) (v : FVec Ideal S1x128x256 .bf16) (q : Fin 256) :
    (s.step w v).l (ix2 0 q) = Ideal.exp2 (s.m (ix2 0 q) - (s.step w v).m (ix2 0 q)) * s.l (ix2 0 q)
      + ∑ k : Fin 256, Ideal.exp2 (w (ix4 0 0 k q) - (s.step w v).m (ix2 0 q)) := by
  pointwise [St.step, k0_pay25, k0_pay24, k0_pay23, k0_pay21]
  rfl

theorem step_a (s : St Ideal) (w : FVec Ideal S1x1x256x256 .f32) (v : FVec Ideal S1x128x256 .bf16) (e : Fin 128) (q : Fin 256) :
    (s.step w v).a (ix3 0 e q) = Ideal.exp2 (s.m (ix2 0 q) - (s.step w v).m (ix2 0 q)) * s.a (ix3 0 e q)
      + ∑ k : Fin 256, v (ix3 0 e k) * Ideal.exp2 (w (ix4 0 0 k q) - (s.step w v).m (ix2 0 q)) := by
  pointwise [St.step, k0_pay27, k0_pay26, k0_pay24, k0_pay23, k0_pay21]
  rfl

theorem out_at (s : St Ideal) (q : Fin 256) (e : Fin 128) :
    s.out (ix2 q e) = Ideal.div (s.a (ix3 0 e q)) (s.l (ix2 0 q)) := by
  pointwise [St.out, k0_pay1, k0_pay353]

theorem st0_at (q : Fin 256) : (Env.st0 : St Ideal).m (ix2 0 q) = (⊥ : EReal) ∧ (Env.st0 : St Ideal).l (ix2 0 q) = (0 : EReal) ∧
    ∀ e : Fin 128, (Env.st0 : St Ideal).a (ix3 0 e q) = (0 : EReal) := by
  refine ⟨?_, ?_, fun e => ?_⟩
  · pointwise [Env.st0, k0_pay328]
    exact IdealRules.named_const.ideal_named_scalar _ _ _ _ rfl
  · pointwise [Env.st0, k0_pay336]
  · pointwise [Env.st0]

end Cert.Proof.Mla

end
-- ==== Proof.Mla.Softmax.lean ====
/- The running softmax over the reals: after each chunk the running sum and the accumulator are the sums over the keys
   seen so far, both scaled by two to the minus running maximum; the quotient does not depend on it. -/
module

public import Idealize.ShloMosaic.PureOps.Ideal
public import Mathlib.Analysis.SpecialFunctions.Pow.Real
public import Mathlib.Tactic.FieldSimp
public import Mathlib.Data.EReal.Inv

@[expose] public section

noncomputable section

namespace Cert.Proof.Mla

open Idealize.ShloMosaic
open scoped BigOperators

/-! ## Sums of extended reals under a real factor -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem mul_add_coe {c : ℝ} (hc : 0 ≤ c) (x y : EReal) : (c : EReal) * (x + y) = c * x + c * y :=
  EReal.left_distrib_of_nonneg_of_ne_top (by exact_mod_cast hc) (EReal.coe_ne_top c) x y

theorem mul_sum_coe {ι : Type} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, mul_add_coe hc, ih]

/-! ## The largest of a family of reals and minus infinities -/

theorem fold_max_cases {ι : Type} (s : Finset ι) (w : ι → EReal) (hw : ∀ k ∈ s, w k = ⊥ ∨ ∃ r : ℝ, w k = r) :
    s.fold max ⊥ w = ⊥ ∨ ∃ r : ℝ, s.fold max ⊥ w = r := by
  classical
  induction s using Finset.induction_on with
  | empty => left; simp
  | insert a s ha ih =>
    rw [Finset.fold_insert ha]
    have h1 := hw a (Finset.mem_insert_self a s)
    have h2 := ih fun k hk => hw k (Finset.mem_insert_of_mem hk)
    rcases max_choice (w a) (s.fold max ⊥ w) with h | h
    · rw [h]; exact h1
    · rw [h]; exact h2

theorem fold_max_real {ι : Type} (s : Finset ι) (w : ι → EReal) (hw : ∀ k ∈ s, w k = ⊥ ∨ ∃ r : ℝ, w k = r) (k₀ : ι) (hk : k₀ ∈ s)
    (r₀ : ℝ) (h₀ : w k₀ = r₀) : ∃ r : ℝ, s.fold max ⊥ w = r := by
  rcases fold_max_cases s w hw with h | h
  · exfalso
    have : w k₀ ≤ s.fold max ⊥ w := (Finset.le_fold_max _).2 (.inr ⟨k₀, hk, le_rfl⟩)
    rw [h, h₀] at this
    exact absurd (le_bot_iff.1 this) (EReal.coe_ne_bot r₀)
  · exact h

/-! ## One query's running state -/

/-- The running maximum is a real, the running sum and the accumulator are `S` and `A` scaled by two to its negative. -/
def Good {δ : Type} (m l : EReal) (a : δ → EReal) (S : ℝ) (A : δ → EReal) : Prop :=
  ∃ M : ℝ, m = M ∧ l = (((2 : ℝ) ^ (-M) * S : ℝ) : EReal) ∧ ∀ e, a e = (((2 : ℝ) ^ (-M) : ℝ) : EReal) * A e

section
variable {δ κ : Type} [Fintype κ]

theorem exp2_score (w : EReal) (s : ℝ) (vis : Prop) [Decidable vis] (hw : w = if vis then (s : EReal) else ⊥) (M : ℝ) :
    Ideal.exp2 (w - M) = (((2 : ℝ) ^ (-M) * (if vis then (2 : ℝ) ^ s else 0) : ℝ) : EReal) := by
  by_cases h : vis
  · rw [hw, if_pos h, if_pos h, ← EReal.coe_sub, Ideal.exp2_coe]
    congr 1
    show (2 : ℝ) ^ (s - M) = _
    rw [← Real.rpow_add (by norm_num)]
    congr 1; ring
  · rw [hw, if_neg h, if_neg h, EReal.bot_sub, Ideal.exp2_bot, mul_zero, EReal.coe_zero]

theorem score_cases (w : κ → EReal) (s : κ → ℝ) (vis : κ → Prop) [DecidablePred vis] (hw : ∀ k, w k = if vis k then (s k : EReal) else ⊥) (k : κ) :
    w k = ⊥ ∨ ∃ r : ℝ, w k = r := by
  by_cases h : vis k
  · right; exact ⟨s k, by rw [hw, if_pos h]⟩
  · left; rw [hw, if_neg h]

theorem sum_exp2 (w : κ → EReal) (s : κ → ℝ) (vis : κ → Prop) [DecidablePred vis] (hw : ∀ k, w k = if vis k then (s k : EReal) else ⊥) (M : ℝ) :
    ∑ k, Ideal.exp2 (w k - M) = (((2 : ℝ) ^ (-M) * ∑ k, (if vis k then (2 : ℝ) ^ s k else 0) : ℝ) : EReal) := by
  rw [Finset.mul_sum, coe_sum]
  exact Finset.sum_congr rfl fun k _ => exp2_score (w k) (s k) (vis k) (hw k) M

theorem sum_mul_exp2 (w : κ → EReal) (s : κ → ℝ) (vis : κ → Prop) [DecidablePred vis] (hw : ∀ k, w k = if vis k then (s k : EReal) else ⊥) (M : ℝ) (v : κ → EReal) :
    ∑ k, v k * Ideal.exp2 (w k - M) = (((2 : ℝ) ^ (-M) : ℝ) : EReal) * ∑ k, ((if vis k then (2 : ℝ) ^ s k else 0 : ℝ) : EReal) * v k := by
  rw [mul_sum_coe (by positivity)]
  refine Finset.sum_congr rfl fun k _ => ?_
  rw [exp2_score (w k) (s k) (vis k) (hw k) M, EReal.coe_mul, mul_comm, mul_assoc]

/-- The first chunk, from minus infinity and zeros. -/
theorem good_first (w : κ → EReal) (s : κ → ℝ) (vis : κ → Prop) [DecidablePred vis] (hw : ∀ k, w k = if vis k then (s k : EReal) else ⊥)
    (k₀ : κ) (h₀ : vis k₀) (v : δ → κ → EReal) (m l m' l' : EReal) (a a' : δ → EReal) (hm : m = ⊥) (hl : l = 0) (ha : ∀ e, a e = 0)
    (hm' : m' = max m (Finset.univ.fold max ⊥ w)) (hl' : l' = Ideal.exp2 (m - m') * l + ∑ k, Ideal.exp2 (w k - m'))
    (ha' : ∀ e, a' e = Ideal.exp2 (m - m') * a e + ∑ k, v e k * Ideal.exp2 (w k - m')) :
    Good m' l' a' (∑ k, if vis k then (2 : ℝ) ^ s k else 0) (fun e => ∑ k, ((if vis k then (2 : ℝ) ^ s k else 0 : ℝ) : EReal) * v e k) := by
  obtain ⟨M, hM⟩ := fold_max_real Finset.univ w (fun k _ => score_cases w s vis hw k) k₀ (Finset.mem_univ _) (s k₀) (by rw [hw, if_pos h₀])
  have e' : m' = M := by rw [hm', hm, hM, max_eq_right bot_le]
  refine ⟨M, e', ?_, fun e => ?_⟩
  · rw [hl', hl, mul_zero, zero_add, e', sum_exp2 w s vis hw M]
  · rw [ha', ha, mul_zero, zero_add, e', sum_mul_exp2 w s vis hw M (v e)]

/-- A later chunk. -/
theorem good_step (w : κ → EReal) (s : κ → ℝ) (vis : κ → Prop) [DecidablePred vis] (hw : ∀ k, w k = if vis k then (s k : EReal) else ⊥)
    (v : δ → κ → EReal) (m l m' l' : EReal) (a a' : δ → EReal) (S : ℝ) (A : δ → EReal) (hg : Good m l a S A)
    (hm' : m' = max m (Finset.univ.fold max ⊥ w)) (hl' : l' = Ideal.exp2 (m - m') * l + ∑ k, Ideal.exp2 (w k - m'))
    (ha' : ∀ e, a' e = Ideal.exp2 (m - m') * a e + ∑ k, v e k * Ideal.exp2 (w k - m')) :
    Good m' l' a' (S + ∑ k, if vis k then (2 : ℝ) ^ s k else 0)
      (fun e => A e + ∑ k, ((if vis k then (2 : ℝ) ^ s k else 0 : ℝ) : EReal) * v e k) := by
  obtain ⟨M, hM, hl, ha⟩ := hg
  have : ∃ M' : ℝ, m' = M' := by
    rw [hm', hM]
    rcases fold_max_cases Finset.univ w (fun k _ => score_cases w s vis hw k) with h | ⟨r, h⟩
    · exact ⟨M, by rw [h, max_eq_left bot_le]⟩
    · exact ⟨max M r, by rw [h]; exact (EReal.coe_strictMono.monotone.map_max).symm⟩
  obtain ⟨M', e'⟩ := this
  have hα : Ideal.exp2 (m - m') = (((2 : ℝ) ^ (M - M') : ℝ) : EReal) := by
    rw [hM, e', ← EReal.coe_sub, Ideal.exp2_coe]; rfl
  have hc : (2 : ℝ) ^ (M - M') * (2 : ℝ) ^ (-M) = (2 : ℝ) ^ (-M') := by
    rw [← Real.rpow_add (by norm_num)]; congr 1; ring
  refine ⟨M', e', ?_, fun e => ?_⟩
  · rw [hl', hα, hl, e', sum_exp2 w s vis hw M', ← EReal.coe_mul, ← EReal.coe_add]
    congr 1
    rw [← mul_assoc, hc]; ring
  · rw [ha', hα, ha, e', sum_mul_exp2 w s vis hw M' (v e), ← mul_assoc, ← EReal.coe_mul, hc, mul_add_coe (by positivity)]

end

/-- The quotient at the end does not depend on the maximum. -/
theorem good_div {δ : Type} (m l : EReal) (a : δ → EReal) (S : ℝ) (A : δ → EReal) (hg : Good m l a S A) (hS : 0 < S) (e : δ) :
    Ideal.div (a e) l = A e * ((S⁻¹ : ℝ) : EReal) := by
  obtain ⟨M, hM, hl, ha⟩ := hg
  have hp : (0 : ℝ) < (2 : ℝ) ^ (-M) := by positivity
  have h0 : (2 : ℝ) ^ (-M) * S ≠ 0 := (mul_pos hp hS).ne'
  unfold Ideal.div
  rw [hl, if_neg (by exact_mod_cast h0), ha, ← EReal.coe_inv, mul_assoc, mul_comm, mul_assoc, ← EReal.coe_mul]
  congr 2
  field_simp

/-! ## The softmax written plainly -/

section
variable {κ : Type} [Fintype κ]

theorem plain_exp (w : EReal) (s : ℝ) (vis : Prop) [Decidable vis] (hw : w = if vis then (s : EReal) else ⊥) (M : ℝ) :
    Ideal.exp (w - M) = ((Real.exp (-M) * (if vis then Real.exp s else 0) : ℝ) : EReal) := by
  by_cases h : vis
  · rw [hw, if_pos h, if_pos h, ← EReal.coe_sub, Ideal.exp_coe, ← Real.exp_add]
    congr 2; ring
  · rw [hw, if_neg h, if_neg h, EReal.bot_sub, Ideal.exp_bot, mul_zero, EReal.coe_zero]

/-- The plain softmax's weighted sum of values. -/
theorem plain_softmax (w : κ → EReal) (s : κ → ℝ) (vis : κ → Prop) [DecidablePred vis] (hw : ∀ k, w k = if vis k then (s k : EReal) else ⊥)
    (k₀ : κ) (h₀ : vis k₀) (v : κ → EReal) (M : EReal) (hM : M = max ⊥ (Finset.univ.fold max ⊥ w)) :
    ∑ k, v k * Ideal.div (Ideal.exp (w k - M)) (0 + ∑ j, Ideal.exp (w j - M))
      = (∑ k, ((if vis k then Real.exp (s k) else 0 : ℝ) : EReal) * v k) * (((∑ k, if vis k then Real.exp (s k) else 0)⁻¹ : ℝ) : EReal) := by
  obtain ⟨r, hr⟩ := fold_max_real Finset.univ w (fun k _ => score_cases w s vis hw k) k₀ (Finset.mem_univ _) (s k₀) (by rw [hw, if_pos h₀])
  rw [hr, max_eq_right bot_le] at hM
  subst hM
  have hS : 0 < ∑ k, (if vis k then Real.exp (s k) else 0) := by
    refine Finset.sum_pos' (fun k _ => ?_) ⟨k₀, Finset.mem_univ _, ?_⟩
    · split_ifs <;> positivity
    · rw [if_pos h₀]; positivity
  have hL : (0 : EReal) + ∑ j, Ideal.exp (w j - r) = ((Real.exp (-r) * ∑ k, (if vis k then Real.exp (s k) else 0) : ℝ) : EReal) := by
    rw [zero_add, Finset.mul_sum, coe_sum]
    exact Finset.sum_congr rfl fun k _ => plain_exp (w k) (s k) (vis k) (hw k) r
  have hp : (0 : ℝ) < Real.exp (-r) := by positivity
  rw [hL, mul_comm (∑ k, ((if vis k then Real.exp (s k) else 0 : ℝ) : EReal) * v k), mul_sum_coe (inv_nonneg.2 hS.le)]
  refine Finset.sum_congr rfl fun k _ => ?_
  unfold Ideal.div
  rw [if_neg (by exact_mod_cast (mul_pos hp hS).ne'), plain_exp (w k) (s k) (vis k) (hw k) r, ← EReal.coe_inv, ← EReal.coe_mul, ← mul_assoc,
    ← EReal.coe_mul, mul_comm]
  congr 2
  field_simp

end

end Cert.Proof.Mla

end
-- ==== Proof.Mla.Chain.lean ====
/- The chunks of one query's row in their order: the meta tokens first, then the sequence's, up to the diagonal.
   The quotient at the end is the sum over all positions that a causal softmax takes. -/
module

public import proofs.«01_k».proof.Proof.Mla.Softmax

@[expose] public section

noncomputable section

namespace Cert.Proof.Mla

open Idealize.ShloMosaic
open scoped BigOperators

/-- The score's scale over the reals, in base e. -/
def nat (d : ℝ) : ℝ := d / Real.sqrt 192
/-- and in base two. -/
def two (d : ℝ) : ℝ := d / Real.sqrt 192 / Real.log 2

theorem two_pow (d : ℝ) : (2 : ℝ) ^ two d = Real.exp (nat d) := by
  rw [Real.rpow_def_of_pos (by norm_num)]
  congr 1
  unfold two nat
  rw [mul_div_assoc']
  exact mul_div_cancel_left₀ _ (Real.log_pos (by norm_num)).ne'

/-- The weight of position `p` for the query at position `P`: nothing past the query. -/
def wt (dot : ℕ → ℝ) (P p : ℕ) : ℝ := if p ≤ P then Real.exp (nat (dot p)) else 0

theorem sum_fin_range {M : Type} [AddCommMonoid M] (f : ℕ → M) (n : ℕ) : ∑ k : Fin n, f k.val = ∑ k ∈ Finset.range n, f k :=
  Fin.sum_univ_eq_sum_range f n

/-- The first chunk's sum runs over the meta tokens alone. -/
theorem sum_first {M : Type} [AddCommMonoid M] (g : Fin 256 → M) (f : ℕ → M) (h1 : ∀ k : Fin 256, k.val < 16 → g k = f k.val)
    (h0 : ∀ k : Fin 256, ¬ k.val < 16 → g k = 0) : ∑ k, g k = ∑ p ∈ Finset.range 16, f p := by
  have e : ∀ k : Fin 256, g k = (fun n => if n < 16 then f n else 0) k.val := fun k => by
    by_cases h : k.val < 16
    · simp only [if_pos h]; exact h1 k h
    · simp only [if_neg h]; exact h0 k h
  rw [Finset.sum_congr rfl fun k _ => e k, sum_fin_range (fun n => if n < 16 then f n else 0)]
  rw [← Finset.sum_subset (s₁ := Finset.range 16) (s₂ := Finset.range 256) (fun x hx => by
    rw [Finset.mem_range] at hx ⊢; omega) (fun x _ hx => by
    rw [Finset.mem_range] at hx; exact if_neg hx)]
  exact Finset.sum_congr rfl fun p hp => if_pos (Finset.mem_range.1 hp)

theorem sum_next {M : Type} [AddCommMonoid M] (g : Fin 256 → M) (f : ℕ → M) (b : ℕ) (h : ∀ k : Fin 256, g k = f (b + k.val)) :
    ∑ p ∈ Finset.range b, f p + ∑ k, g k = ∑ p ∈ Finset.range (b + 256), f p := by
  rw [Finset.sum_congr rfl fun k _ => h k, sum_fin_range (fun k => f (b + k)), Finset.sum_range_add]

/-- Every chunk taken: the query's row. -/
theorem chain (i q : ℕ) (hq : q < 256) (dot : ℕ → ℝ) (Vn : Fin 128 → ℕ → EReal)
    (m l : ℕ → EReal) (a : ℕ → Fin 128 → EReal) (w : ℕ → Fin 256 → EReal) (v : ℕ → Fin 128 → Fin 256 → EReal)
    (hm0 : m 0 = ⊥) (hl0 : l 0 = 0) (ha0 : ∀ e, a 0 e = 0)
    (hm : ∀ n, m (n + 1) = max (m n) (Finset.univ.fold max ⊥ (w n)))
    (hl : ∀ n, l (n + 1) = Ideal.exp2 (m n - m (n + 1)) * l n + ∑ k, Ideal.exp2 (w n k - m (n + 1)))
    (ha : ∀ n e, a (n + 1) e = Ideal.exp2 (m n - m (n + 1)) * a n e + ∑ k, v n e k * Ideal.exp2 (w n k - m (n + 1)))
    (hw0 : ∀ k, w 0 k = if k.val < 16 then ((two (dot k.val) : ℝ) : EReal) else ⊥)
    (hwn : ∀ n, n < i + 1 → ∀ k, w (n + 1) k = if 16 + 256 * n + k.val ≤ 16 + 256 * i + q then ((two (dot (16 + 256 * n + k.val)) : ℝ) : EReal) else ⊥)
    (hv0 : ∀ e k, k.val < 16 → v 0 e k = Vn e k.val) (hvn : ∀ n, n < i + 1 → ∀ e k, v (n + 1) e k = Vn e (16 + 256 * n + k.val)) (e : Fin 128) :
    Ideal.div (a (i + 2) e) (l (i + 2))
      = (∑ p ∈ Finset.range (16 + 256 * (i + 1)), ((wt dot (16 + 256 * i + q) p : ℝ) : EReal) * Vn e p)
        * (((∑ p ∈ Finset.range (16 + 256 * (i + 1)), wt dot (16 + 256 * i + q) p)⁻¹ : ℝ) : EReal) := by
  have key : ∀ n, n ≤ i + 1 → Good (m (n + 1)) (l (n + 1)) (a (n + 1)) (∑ p ∈ Finset.range (16 + 256 * n), wt dot (16 + 256 * i + q) p)
      (fun e => ∑ p ∈ Finset.range (16 + 256 * n), ((wt dot (16 + 256 * i + q) p : ℝ) : EReal) * Vn e p) := by
    intro n
    induction n with
    | zero =>
      intro _
      have h := good_first (w 0) (fun k => two (dot k.val)) (fun k => k.val < 16) hw0 ⟨0, by omega⟩ (by norm_num) (v 0) (m 0) (l 0) (m 1) (l 1) (a 0) (a 1)
        hm0 hl0 ha0 (hm 0) (hl 0) (ha 0)
      have e1 : (∑ k : Fin 256, if k.val < 16 then (2 : ℝ) ^ two (dot k.val) else 0) = ∑ p ∈ Finset.range 16, wt dot (16 + 256 * i + q) p :=
        sum_first _ _ (fun k hk => by rw [if_pos hk, two_pow, wt, if_pos (by omega)]) (fun k hk => if_neg hk)
      have e2 : ∀ e, (∑ k : Fin 256, ((if k.val < 16 then (2 : ℝ) ^ two (dot k.val) else 0 : ℝ) : EReal) * v 0 e k)
          = ∑ p ∈ Finset.range 16, ((wt dot (16 + 256 * i + q) p : ℝ) : EReal) * Vn e p := fun e =>
        sum_first _ _ (fun k hk => by rw [if_pos hk, two_pow, wt, if_pos (by omega), hv0 e k hk]) (fun k hk => by rw [if_neg hk, EReal.coe_zero, zero_mul])
      rw [e1, funext e2] at h
      exact h
    | succ n ih =>
      intro hn
      have h := good_step (w (n + 1)) (fun k => two (dot (16 + 256 * n + k.val))) (fun k => 16 + 256 * n + k.val ≤ 16 + 256 * i + q) (hwn n (by omega))
        (v (n + 1)) (m (n + 1)) (l (n + 1)) (m (n + 2)) (l (n + 2)) (a (n + 1)) (a (n + 2)) _ _ (ih (by omega)) (hm (n + 1)) (hl (n + 1)) (ha (n + 1))
      have e1 := sum_next (fun k : Fin 256 => if 16 + 256 * n + k.val ≤ 16 + 256 * i + q then (2 : ℝ) ^ two (dot (16 + 256 * n + k.val)) else 0)
        (wt dot (16 + 256 * i + q)) (16 + 256 * n) (fun k => by rw [two_pow]; rfl)
      have e2 := fun e => sum_next (fun k : Fin 256 => ((if 16 + 256 * n + k.val ≤ 16 + 256 * i + q then (2 : ℝ) ^ two (dot (16 + 256 * n + k.val)) else 0 : ℝ) : EReal) * v (n + 1) e k)
        (fun p => ((wt dot (16 + 256 * i + q) p : ℝ) : EReal) * Vn e p) (16 + 256 * n) (fun k => by rw [two_pow, hvn n (by omega)]; rfl)
      rw [e1, funext e2] at h
      exact h
  refine good_div _ _ _ _ _ (key (i + 1) le_rfl) ?_ e
  refine Finset.sum_pos' (fun p _ => ?_) ⟨0, Finset.mem_range.2 (by omega), ?_⟩
  · unfold wt; split_ifs <;> positivity
  · rw [wt, if_pos (by omega)]; positivity

/-- The positions past the query weigh nothing: the sum over all of them. -/
theorem sum_all {M : Type} [AddCommMonoid M] (f : ℕ → M) (n N : ℕ) (hn : n ≤ N) (h0 : ∀ p, n ≤ p → f p = 0) :
    ∑ p ∈ Finset.range n, f p = ∑ p : Fin N, f p.val := by
  rw [sum_fin_range f]
  exact Finset.sum_subset (fun x hx => by rw [Finset.mem_range] at hx ⊢; omega) fun x _ hx => h0 x (by rw [Finset.mem_range] at hx; omega)

/-- A contraction over a padded axis of finite factors. -/
theorem sum_pad (f : Fin 256 → EReal) (g : Fin 192 → ℝ) (h1 : ∀ x : Fin 192, f ⟨x.val, by omega⟩ = (g x : EReal)) (h0 : ∀ x : Fin 256, 192 ≤ x.val → f x = 0) :
    ∑ x, f x = ((∑ x, g x : ℝ) : EReal) := by
  rw [coe_sum]
  have : ∑ x : Fin (192 + 64), f x = _ := Fin.sum_univ_add _
  rw [show (∑ x : Fin 256, f x) = ∑ x : Fin (192 + 64), f x from rfl, this,
    Finset.sum_eq_zero (s := (Finset.univ : Finset (Fin 64))) (fun x _ => h0 _ (by simp)), add_zero]
  exact Finset.sum_congr rfl fun x _ => h1 x

end Cert.Proof.Mla

end
-- ==== Proof.Mla.Consts.lean ====
/- The constants of the two programs over the reals, and comparisons of small indices. -/
module

public import Idealize.ShloMosaic.Lib.Pipeline.ValueKit
public import Idealize.ShloMosaic.Lib.Pointwise

@[expose] public section

noncomputable section

namespace Cert.Proof.Mla

open Idealize.ShloMosaic

theorem sitofp_zero : (FloatOps.sitofp FTy.f32 (0#32) : Ideal .f32) = (0 : EReal) := by
  show ((((0#32 : BitVec 32).toInt : ℝ)) : EReal) = 0
  simp

/-- The square root of the head width. -/
theorem sqrt_width : Ideal.sqrt (Ideal.ofBits .f32 0x43400000#32) = ((Real.sqrt 192 : ℝ) : EReal) := by
  have : Ideal.ofBits .f32 0x43400000#32 = ((192 : ℝ) : EReal) := by
    simp [Ideal.ofBits, Ideal.ieee, -EReal.coe_mul]; norm_num
  rw [this, Ideal.sqrt_coe, if_neg (by norm_num)]

/-- The logarithm of two. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe, if_neg (by norm_num)]

/-- An index into four axes from its coordinates' values. -/
theorem ix4_ext {n0 n1 n2 n3 : ℕ} {a a' : Fin n0} {b b' : Fin n1} {c c' : Fin n2} {d d' : Fin n3} (h0 : a.val = a'.val) (h1 : b.val = b'.val) (h2 : c.val = c'.val) (h3 : d.val = d'.val) :
    (ix4 a b c d : (⟨4, ![n0, n1, n2, n3]⟩ : Shape).Idx) = ix4 a' b' c' d' := by
  rw [Fin.ext h0, Fin.ext h1, Fin.ext h2, Fin.ext h3]

end Cert.Proof.Mla

end
-- ==== Proof.Mla.Target.lean ====
/- What both programs compute for one query, head and value coordinate, over the reals. -/
module

public import proofs.«01_k».proof.Proof.Mla.Chain
public import proofs.«01_k».proof.Proof.Mla.Consts

@[expose] public section

noncomputable section

namespace Cert.Proof.Mla

open Idealize.ShloMosaic
open scoped BigOperators

/-- The shape of the queries and of the keys: batch, position, head, coordinate; -/
abbrev SQ : Shape := ⟨4, ![16, 2176, 8, 192]⟩
/-- and of the values. -/
abbrev SV : Shape := ⟨4, ![16, 2176, 8, 128]⟩

/-- An element as a real, by its position. -/
def rd (X : FVec Ideal SQ .f32) (b : Fin 16) (h : Fin 8) (p : ℕ) (x : Fin 192) : ℝ :=
  if hp : p < 2176 then EReal.toReal (X (ix4 b ⟨p, hp⟩ h x)) else 0

/-- The product of the query at position `P` with the key at position `p`. -/
def dotp (X Y : FVec Ideal SQ .f32) (b : Fin 16) (h : Fin 8) (P p : ℕ) : ℝ := ∑ x : Fin 192, rd X b h P x * rd Y b h p x

/-- The causal attention of the query at position `P`. -/
def att (X Y : FVec Ideal SQ .f32) (Z : FVec Ideal SV .f32) (b : Fin 16) (h : Fin 8) (P : ℕ) (e : Fin 128) : EReal :=
  (∑ p : Fin 2176, ((wt (dotp X Y b h P) P p.val : ℝ) : EReal) * Z (ix4 b p h e)) * (((∑ p : Fin 2176, wt (dotp X Y b h P) P p.val)⁻¹ : ℝ) : EReal)

/-- Every element of the array is a real number. -/
def Reals (X : FVec Ideal SQ .f32) : Prop := ∀ i, X i = ((EReal.toReal (X i) : ℝ) : EReal)

theorem rd_eq (X : FVec Ideal SQ .f32) (hX : Reals X) (b : Fin 16) (h : Fin 8) (p : Fin 2176) (x : Fin 192) : X (ix4 b p h x) = ((rd X b h p.val x : ℝ) : EReal) := by
  rw [rd, dif_pos p.isLt]
  exact hX _

theorem div_real (a : ℝ) {y : ℝ} (h : y ≠ 0) : Ideal.div (a : EReal) (y : EReal) = ((a / y : ℝ) : EReal) := by
  rw [Ideal.div_coe h, ← EReal.coe_mul, mul_one_div]

theorem sqrt_ne : Real.sqrt 192 ≠ 0 := (Real.sqrt_pos.2 (by norm_num)).ne'
theorem log_ne : Real.log 2 ≠ 0 := (Real.log_pos (by norm_num)).ne'

theorem toInt_lt (n : ℕ) (h : n < 4096) : (BitVec.ofNat 32 n).toInt = (n : ℤ) := by
  rw [BitVec.toInt_ofNat', Int.bmod_eq_of_le (by omega) (by omega)]

theorem sle_nat (k q : ℕ) (hk : k < 4096) (hq : q < 4096) : IntOp.cmpi CmpIPredicate.sle (BitVec.ofNat 32 k) (BitVec.ofNat 32 q) = if k ≤ q then 1#1 else 0#1 := by
  simp only [IntOp.cmpi, BitVec.sle, toInt_lt k hk, toInt_lt q hq]
  by_cases h : k ≤ q <;> simp [h]

end Cert.Proof.Mla

end
-- ==== Proof.Mla.Entry.lean ====
/- The arrays the kernel's windows read, as the host operations leave them, element by element. -/
module

public import proofs.«01_k».proof.Proof.Mla.StepValue
public import proofs.«01_k».proof.Proof.Mla.Consts
public import Idealize.ShloMosaic.Lib.StableHlo.ReadAt

@[expose] public section

set_option maxRecDepth 16384

noncomputable section

namespace Cert.Proof.Mla

open Cert.KernelIdeal Cert.KernelIdeal.Gen
open Idealize.ShloMosaic Idealize.ShloMosaic.TcCoe Idealize.ShloMosaic.StableHlo

variable (m : (ℓ : Loc nD τ sig) → Buf (Elt Ideal) ℓ)

set_option maxHeartbeats 1600000 in
theorem raw_q (c : Dev nD) (r : Fin 36864) (e : Fin 2048) : V m c main_v13 (ix2 r e) = (if _h : r.val % 2304 < 2048 then (if _h : e.val / 256 < 8 ∧ e.val % 256 < 192 then Ideal.div (Ideal.div ((m ((c : Thread nD τ).loc main_arg0)) (ix4 ⟨r.val / 2304, by omega⟩ ⟨16 + r.val % 2304, by omega⟩ ⟨e.val / 256, by omega⟩ ⟨e.val % 256, by omega⟩)) (Ideal.sqrt (Ideal.ofBits .f32 0x43400000#32))) (Ideal.log (Ideal.ofBits .f32 0x40000000#32)) else (FloatOps.sitofp FTy.f32 (0#32) : Ideal .f32)) else if _h : r.val % 2304 - 2048 < 16 then (if _h : e.val / 256 < 8 ∧ e.val % 256 < 192 then Ideal.div (Ideal.div ((m ((c : Thread nD τ).loc main_arg0)) (ix4 ⟨r.val / 2304, by omega⟩ ⟨r.val % 2304 - 2048, by omega⟩ ⟨e.val / 256, by omega⟩ ⟨e.val % 256, by omega⟩)) (Ideal.sqrt (Ideal.ofBits .f32 0x43400000#32))) (Ideal.log (Ideal.ofBits .f32 0x40000000#32)) else (FloatOps.sitofp FTy.f32 (0#32) : Ideal .f32)) else (0 : EReal)) := by
  after_reads_at
  try simp only [id_eq]
  try pointwise []
  repeat after_reads_at

set_option maxHeartbeats 1600000 in
theorem raw_k (c : Dev nD) (r : Fin 36864) (e : Fin 2048) : V m c main_v21 (ix2 r e) = (if _h : r.val % 2304 < 2048 then (if _h : e.val / 256 < 8 ∧ e.val % 256 < 192 then (m ((c : Thread nD τ).loc main_arg1)) (ix4 ⟨r.val / 2304, by omega⟩ ⟨16 + r.val % 2304, by omega⟩ ⟨e.val / 256, by omega⟩ ⟨e.val % 256, by omega⟩) else (FloatOps.sitofp FTy.f32 (0#32) : Ideal .f32)) else if _h : r.val % 2304 - 2048 < 16 then (if _h : e.val / 256 < 8 ∧ e.val % 256 < 192 then (m ((c : Thread nD τ).loc main_arg1)) (ix4 ⟨r.val / 2304, by omega⟩ ⟨r.val % 2304 - 2048, by omega⟩ ⟨e.val / 256, by omega⟩ ⟨e.val % 256, by omega⟩) else (FloatOps.sitofp FTy.f32 (0#32) : Ideal .f32)) else (0 : EReal)) := by
  after_reads_at
  try simp only [id_eq]
  try pointwise []
  repeat after_reads_at

set_option maxHeartbeats 1600000 in
theorem raw_v (c : Dev nD) (b : Fin 144) (e : Fin 1024) (k : Fin 256) : V m c main_v30 (ix3 b e k) = (if _h : (b.val * 256 + k.val) % 2304 < 2048 then (m ((c : Thread nD τ).loc main_arg2)) (ix4 ⟨(b.val * 256 + k.val) / 2304, by omega⟩ ⟨16 + (b.val * 256 + k.val) % 2304, by omega⟩ ⟨e.val / 128, by omega⟩ ⟨e.val % 128, by omega⟩) else if _h : (b.val * 256 + k.val) % 2304 - 2048 < 16 then (m ((c : Thread nD τ).loc main_arg2)) (ix4 ⟨(b.val * 256 + k.val) / 2304, by omega⟩ ⟨(b.val * 256 + k.val) % 2304 - 2048, by omega⟩ ⟨e.val / 128, by omega⟩ ⟨e.val % 128, by omega⟩) else (0 : EReal)) := by
  after_reads_at
  try simp only [id_eq]
  try pointwise []
  repeat after_reads_at

/-- A query element of a token's row: divided by the width's square root and the logarithm of two, the padding zero. -/
theorem entry_q (c : Dev nD) (b : Fin 16) (j : Fin 2048) (h : Fin 8) (x : Fin 256) (r : Fin 36864) (e : Fin 2048) (hr : r.val = 2304 * b.val + j.val) (he : e.val = 256 * h.val + x.val) :
    V m c main_v13 (ix2 r e) = if hx : x.val < 192 then Ideal.div (Ideal.div ((m ((c : Thread nD τ).loc main_arg0)) (ix4 b ⟨16 + j.val, by omega⟩ h ⟨x.val, hx⟩)) ((Real.sqrt 192 : ℝ) : EReal)) ((Real.log 2 : ℝ) : EReal) else (0 : EReal) := by
  have a0 : r.val / 2304 = b.val := by clear he; omega
  have a1 : r.val % 2304 = j.val := by clear he; omega
  have a2 : e.val / 256 = h.val := by clear hr; omega
  have a3 : e.val % 256 = x.val := by clear hr; omega
  clear hr he
  rw [raw_q, dif_pos (show r.val % 2304 < 2048 by rw [a1]; exact j.isLt), sitofp_zero, sqrt_width, log_two]
  by_cases hx : x.val < 192
  · rw [dif_pos (show e.val / 256 < 8 ∧ e.val % 256 < 192 by rw [a2, a3]; exact ⟨h.isLt, hx⟩), dif_pos hx]
    exact congrArg (fun z => Ideal.div (Ideal.div ((m ((c : Thread nD τ).loc main_arg0)) z) _) _) (ix4_ext a0 (congrArg (16 + ·) a1) a2 a3)
  · rw [dif_neg (show ¬ (e.val / 256 < 8 ∧ e.val % 256 < 192) by rw [a2, a3]; exact fun hh => hx hh.2), dif_neg hx]

/-- A key element of a token's row, -/
theorem entry_k (c : Dev nD) (b : Fin 16) (j : Fin 2048) (h : Fin 8) (x : Fin 256) (r : Fin 36864) (e : Fin 2048) (hr : r.val = 2304 * b.val + j.val) (he : e.val = 256 * h.val + x.val) :
    V m c main_v21 (ix2 r e) = if hx : x.val < 192 then (m ((c : Thread nD τ).loc main_arg1)) (ix4 b ⟨16 + j.val, by omega⟩ h ⟨x.val, hx⟩) else (0 : EReal) := by
  have a0 : r.val / 2304 = b.val := by clear he; omega
  have a1 : r.val % 2304 = j.val := by clear he; omega
  have a2 : e.val / 256 = h.val := by clear hr; omega
  have a3 : e.val % 256 = x.val := by clear hr; omega
  clear hr he
  rw [raw_k, dif_pos (show r.val % 2304 < 2048 by rw [a1]; exact j.isLt), sitofp_zero]
  by_cases hx : x.val < 192
  · rw [dif_pos (show e.val / 256 < 8 ∧ e.val % 256 < 192 by rw [a2, a3]; exact ⟨h.isLt, hx⟩), dif_pos hx]
    exact congrArg (m ((c : Thread nD τ).loc main_arg1)) (ix4_ext a0 (congrArg (16 + ·) a1) a2 a3)
  · rw [dif_neg (show ¬ (e.val / 256 < 8 ∧ e.val % 256 < 192) by rw [a2, a3]; exact fun hh => hx hh.2), dif_neg hx]

/-- and of a meta token's. -/
theorem entry_k_meta (c : Dev nD) (b : Fin 16) (j : Fin 16) (h : Fin 8) (x : Fin 256) (r : Fin 36864) (e : Fin 2048) (hr : r.val = 2304 * b.val + (2048 + j.val)) (he : e.val = 256 * h.val + x.val) :
    V m c main_v21 (ix2 r e) = if hx : x.val < 192 then (m ((c : Thread nD τ).loc main_arg1)) (ix4 b ⟨j.val, by omega⟩ h ⟨x.val, hx⟩) else (0 : EReal) := by
  have a0 : r.val / 2304 = b.val := by clear he; omega
  have a1 : r.val % 2304 = 2048 + j.val := by clear he; omega
  have a2 : e.val / 256 = h.val := by clear hr; omega
  have a3 : e.val % 256 = x.val := by clear hr; omega
  clear hr he
  rw [raw_k, dif_neg (show ¬ r.val % 2304 < 2048 by rw [a1]; omega), dif_pos (show r.val % 2304 - 2048 < 16 by rw [a1]; omega), sitofp_zero]
  by_cases hx : x.val < 192
  · rw [dif_pos (show e.val / 256 < 8 ∧ e.val % 256 < 192 by rw [a2, a3]; exact ⟨h.isLt, hx⟩), dif_pos hx]
    exact congrArg (m ((c : Thread nD τ).loc main_arg1)) (ix4_ext a0 ((congrArg (· - 2048) a1).trans (Nat.add_sub_cancel_left ..)) a2 a3)
  · rw [dif_neg (show ¬ (e.val / 256 < 8 ∧ e.val % 256 < 192) by rw [a2, a3]; exact fun hh => hx hh.2), dif_neg hx]

/-- A value element of a token's row, its chunk transposed, -/
theorem entry_v (c : Dev nD) (b : Fin 16) (j : Fin 2048) (h : Fin 8) (x : Fin 128) (r : Fin 144) (e : Fin 1024) (k : Fin 256) (hr : r.val * 256 + k.val = 2304 * b.val + j.val) (he : e.val = 128 * h.val + x.val) :
    V m c main_v30 (ix3 r e k) = (m ((c : Thread nD τ).loc main_arg2)) (ix4 b ⟨16 + j.val, by omega⟩ h x) := by
  have a0 : (r.val * 256 + k.val) / 2304 = b.val := by clear he; omega
  have a1 : (r.val * 256 + k.val) % 2304 = j.val := by clear he; omega
  have a2 : e.val / 128 = h.val := by clear hr; omega
  have a3 : e.val % 128 = x.val := by clear hr; omega
  clear hr he
  rw [raw_v, dif_pos (show (r.val * 256 + k.val) % 2304 < 2048 by rw [a1]; exact j.isLt)]
  exact congrArg (m ((c : Thread nD τ).loc main_arg2)) (ix4_ext a0 (congrArg (16 + ·) a1) a2 a3)

/-- and of a meta token's. -/
theorem entry_v_meta (c : Dev nD) (b : Fin 16) (j : Fin 16) (h : Fin 8) (x : Fin 128) (r : Fin 144) (e : Fin 1024) (k : Fin 256) (hr : r.val * 256 + k.val = 2304 * b.val + (2048 + j.val)) (he : e.val = 128 * h.val + x.val) :
    V m c main_v30 (ix3 r e k) = (m ((c : Thread nD τ).loc main_arg2)) (ix4 b ⟨j.val, by omega⟩ h x) := by
  have a0 : (r.val * 256 + k.val) / 2304 = b.val := by clear he; omega
  have a1 : (r.val * 256 + k.val) % 2304 = 2048 + j.val := by clear he; omega
  have a2 : e.val / 128 = h.val := by clear hr; omega
  have a3 : e.val % 128 = x.val := by clear hr; omega
  clear hr he
  rw [raw_v, dif_neg (show ¬ (r.val * 256 + k.val) % 2304 < 2048 by rw [a1]; omega), dif_pos (show (r.val * 256 + k.val) % 2304 - 2048 < 16 by rw [a1]; omega)]
  exact congrArg (m ((c : Thread nD τ).loc main_arg2)) (ix4_ext a0 ((congrArg (· - 2048) a1).trans (Nat.add_sub_cancel_left ..)) a2 a3)

theorem toInt_small (n : Fin 256) : (BitVec.ofNat 32 n.val).toInt = (n.val : ℤ) := by
  rw [BitVec.toInt_ofNat', Int.bmod_eq_of_le (by omega) (by omega)]

theorem cmp_sle (k q : Fin 256) : IntOp.cmpi CmpIPredicate.sle (BitVec.ofNat 32 k.val) (BitVec.ofNat 32 q.val) = if k.val ≤ q.val then 1#1 else 0#1 := by
  simp only [IntOp.cmpi, BitVec.sle, toInt_small]
  by_cases h : k.val ≤ q.val <;> simp [h]

theorem cmp_slt (k : Fin 256) : IntOp.cmpi CmpIPredicate.slt (BitVec.ofNat 32 k.val) 16#32 = if k.val < 16 then 1#1 else 0#1 := by
  simp only [IntOp.cmpi, BitVec.slt, toInt_small]
  by_cases h : k.val < 16
  · have : (k.val : ℤ) < 16 := by omega
    simp [h, this]
  · have : ¬ (k.val : ℤ) < 16 := by omega
    simp [h, this]

set_option maxHeartbeats 1600000 in
/-- The bias table: nothing where the key is visible, minus infinity elsewhere. -/
theorem entry_bias (c : Dev nD) (b : Fin 4) (hb : b.val ≤ 2) (k : Fin 256) (q : Fin 256) :
    V m c main_v48 (ix3 b k q) = if (b.val = 0 → k.val < 16) ∧ (b.val = 2 → k.val ≤ q.val) then (0 : EReal) else ⊥ := by
  after_reads_at
  try simp only [id_eq]
  try pointwise []
  repeat after_reads_at
  rw [ofBits_neg_inf, cmp_slt, cmp_sle]
  obtain ⟨b, hb4⟩ := b
  have h3 : b = 0 ∨ b = 1 ∨ b = 2 := by have : b ≤ 2 := hb; omega
  rcases h3 with rfl | rfl | rfl
  · by_cases h : k.val < 16 <;> simp [h, Scalar.select]
  · simp [Scalar.select]
  · by_cases h : k.val ≤ q.val <;> simp [h, Scalar.select]

end Cert.Proof.Mla

end
-- ==== Proof.Mla.Blocks.lean ====
/- The windows' blocks at a grid point, as elements of the arrays they are cut from. -/
module

public import proofs.«01_k».proof.Proof.Mla.NamedRun
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe

variable (m : (ℓ : Loc nD τ sig) → Buf (Elt Ideal) ℓ)

/-- The windows' index maps over the grid: the batch and the block of queries. -/
theorem idx : ∀ t : Fin cfg0.N, win0_0.index t = ![(grid0.coords t 0).val * 9 + (grid0.coords t 1).val, 0]
    ∧ win0_1.index t = ![(grid0.coords t 0).val, 0] ∧ win0_2.index t = ![(grid0.coords t 0).val, 0, 0] ∧ win0_3.index t = ![0, 0, 0]
    ∧ win0_4.index t = ![(grid0.coords t 0).val * 8 + (grid0.coords t 1).val, 0]
    ∧ (grid0.coords t 0).val < 16 ∧ (grid0.coords t 1).val < 8 :=
  (by decide +kernel : ∀ t : Fin grid0.N, _)

theorem blk_q (c : Dev nD) (t : Fin cfg0.N) (q : Fin 256) (y : Fin 2048) (r : Fin 36864) (hr : r.val = ((grid0.coords t 0).val * 9 + (grid0.coords t 1).val) * 256 + q.val) :
    iblk m c 0 t (ix2 q y) = V m c main_v13 (ix2 r y) := by
  blk_simp [iblk, idx t]
  blk_ext [idx t]

theorem blk_k (c : Dev nD) (t : Fin cfg0.N) (q : Fin 2304) (y : Fin 2048) (r : Fin 36864) (hr : r.val = (grid0.coords t 0).val * 2304 + q.val) :
    iblk m c 1 t (ix2 q y) = V m c main_v21 (ix2 r y) := by
  blk_simp [iblk, idx t]
  blk_ext [idx t]

theorem blk_v (c : Dev nD) (t : Fin cfg0.N) (d : Fin 9) (e : Fin 1024) (k : Fin 256) (r : Fin 144) (hr : r.val = (grid0.coords t 0).val * 9 + d.val) :
    iblk m c 2 t (ix3 d e k) = V m c main_v30 (ix3 r e k) := by
  blk_simp [iblk, idx t]
  blk_ext [idx t]

theorem blk_bias (c : Dev nD) (t : Fin cfg0.N) (d : Fin 4) (k : Fin 256) (q : Fin 256) :
    iblk m c 3 t (ix3 d k q) = V m c main_v48 (ix3 d k q) := by
  blk_simp [iblk, idx t]
  blk_ext [idx t]

end Cert.Proof.Mla

end
-- ==== Proof.Mla.Plain.lean ====
/- The plain attention at one element: one query's causal softmax over all positions. -/
module

public import proofs.«01_k».proof.Proof.Mla.Target
public import proofs.«01_k».proof.Proof.Mla.Consts
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Proof.MlaPlain

open Cert.ReferenceIdeal Cert.ReferenceIdeal.Gen
open Idealize.ShloMosaic Idealize.ShloMosaic.TcCoe
open Cert.Proof.Mla
open scoped BigOperators

/-- The masked scores, -/
def scoreT (X : FVec Ideal S16x2176x8x192 .f32) (Y : FVec Ideal S16x2176x8x192 .f32) : FVec Ideal S16x8x2176x2176 .f32 :=
  select (broadcastInDim S16x8x2176x2176 ![2, 3] bcast_S2176x2176_S16x8x2176x2176_2_3 (cmpi .sle (broadcastInDim S2176x2176 ![0, 1] bcast_S1x2176_S2176x2176_0_1 (broadcastInDim S1x2176 ![1] bcast_S2176_S1x2176_1 (iotaInDim S2176 32 0))) (broadcastInDim S2176x2176 ![0, 1] bcast_S2176x1_S2176x2176_0_1 (broadcastInDim S2176x1 ![0] bcast_S2176_S2176x1_0 (iotaInDim S2176 32 0))))) (Host.divf (Host.dotGeneral dot_S16x2176x8x192_S16x2176x8x192_S16x8x2176x2176_3_3_1_1_02_02 none X Y) (broadcastInDim S16x8x2176x2176 ![] bcast_S_S16x8x2176x2176 (Host.sqrt (constant S_ .f32 0x43400000#32)))) (broadcastInDim S16x8x2176x2176 ![] bcast_S_S16x8x2176x2176 (id (constant S_ .f32 0xFF800000#32)))
/-- each row's maximum, -/
def maxT (W : FVec Ideal S16x8x2176x2176 .f32) : FVec Ideal S16x8x2176 .f32 :=
  maximumf (broadcastInDim S16x8x2176 ![] bcast_S_S16x8x2176 (constant S_ .f32 0xFF800000#32)) (Host.reduce FloatOps.maximumf W (constant S_ .f32 0xFF800000#32) reducesTo_S16x8x2176x2176_S16x8x2176_d3 h_S_)
/-- the exponentials, -/
def expT (W : FVec Ideal S16x8x2176x2176 .f32) (M : FVec Ideal S16x8x2176 .f32) : FVec Ideal S16x8x2176x2176 .f32 :=
  Host.exp (subf W (broadcastInDim S16x8x2176x2176 ![0, 1, 2, 3] bcast_S16x8x2176x1_S16x8x2176x2176_0_1_2_3 (broadcastInDim S16x8x2176x1 ![0, 1, 2] bcast_S16x8x2176_S16x8x2176x1_0_1_2 M)))
/-- each row's sum, -/
def sumT (E : FVec Ideal S16x8x2176x2176 .f32) : FVec Ideal S16x8x2176 .f32 :=
  Host.reduceAdd E (constant S_ .f32 0x00000000#32) reducesTo_S16x8x2176x2176_S16x8x2176_d3 h_S_
/-- the weights, -/
def wtT (E : FVec Ideal S16x8x2176x2176 .f32) (L : FVec Ideal S16x8x2176 .f32) : FVec Ideal S16x8x2176x2176 .f32 :=
  Host.divf E (broadcastInDim S16x8x2176x2176 ![0, 1, 2, 3] bcast_S16x8x2176x1_S16x8x2176x2176_0_1_2_3 (broadcastInDim S16x8x2176x1 ![0, 1, 2] bcast_S16x8x2176_S16x8x2176x1_0_1_2 L))
/-- and their product with the values, heads side by side, the meta tokens' rows left out. -/
def outT (P : FVec Ideal S16x8x2176x2176 .f32) (Z : FVec Ideal S16x2176x8x128 .f32) : FVec Ideal S32768x1024 .bf16 :=
  truncf .bf16 (shapeCast _ (extractStridedSlice S16x2048x1024 ![0, 16, 0] (shapeCast _ (transpose S16x2176x8x128 [0, 3, 1, 2] (Host.dotGeneral dot_S16x2176x8x128_S16x8x2176x2176_S16x8x128x2176_1_3_3_2_02_01 none Z P) transposes_S16x8x128x2176_S16x2176x8x128_0_3_1_2) shapeCasts_S16x2176x8x128_S16x2176x1024) slices_S16x2176x1024_S16x2048x1024_0_16_0) shapeCasts_S16x2048x1024_S32768x1024) bitsLt_bf16_f32

theorem neg_inf : Ideal.ofBits .f32 0xFF800000#32 = (⊥ : EReal) := by
  simp [Ideal.ofBits, Ideal.ieee]

theorem score_raw (X Y : FVec Ideal S16x2176x8x192 .f32) (b : Fin 16) (h : Fin 8) (P p : Fin 2176) : scoreT X Y (ix4 b h P p)
    = Scalar.select (IntOp.cmpi CmpIPredicate.sle (BitVec.ofNat 32 p.val) (BitVec.ofNat 32 P.val))
      (Ideal.div (∑ x : Fin 192, X (ix4 b P h x) * Y (ix4 b p h x)) (Ideal.sqrt (Ideal.ofBits .f32 0x43400000#32))) (Ideal.ofBits .f32 0xFF800000#32) := by
  pointwise [scoreT]
  rfl

/-- A masked score: the scaled product where the key is not past the query. -/
theorem score_at (X Y : FVec Ideal S16x2176x8x192 .f32) (hX : Reals X) (hY : Reals Y) (b : Fin 16) (h : Fin 8) (P p : Fin 2176) :
    scoreT X Y (ix4 b h P p) = if p.val ≤ P.val then ((nat (dotp X Y b h P.val p.val) : ℝ) : EReal) else ⊥ := by
  rw [score_raw, sle_nat _ _ (by omega) (by omega), neg_inf, sqrt_width]
  have e : (∑ x : Fin 192, X (ix4 b P h x) * Y (ix4 b p h x)) = ((dotp X Y b h P.val p.val : ℝ) : EReal) := by
    rw [dotp, coe_sum]
    exact Finset.sum_congr rfl fun x _ => by rw [rd_eq X hX, rd_eq Y hY, ← EReal.coe_mul]
  by_cases hp : p.val ≤ P.val
  · rw [if_pos hp, if_pos hp, e, div_real _ sqrt_ne]
    rfl
  · rw [if_neg hp, if_neg hp]
    rfl

theorem reduces_last : S16x8x2176x2176.Reduces [3] S16x8x2176 := by decide

/-- A row's maximum, the fold over its keys. -/
theorem max_at (W : FVec Ideal S16x8x2176x2176 .f32) (b : Fin 16) (h : Fin 8) (P : Fin 2176) :
    maxT W (ix3 b h P) = max (⊥ : EReal) (Finset.univ.fold max (⊥ : EReal) fun p : Fin 2176 => W (ix4 b h P p)) := by
  have hl : (W ∘ reduces_last.lift (ix3 b h P)) = fun p : Fin 2176 => W (ix4 b h P p) := by
    funext p
    refine congrArg W (funext fun a => Fin.ext ?_)
    rw [Shape.Reduces.lift_val]
    fin_cases a <;> rfl
  have hr := Host.reduce_eq_fold_single (FloatOps.maximumf (F := Ideal) (φ := .f32)) W (constant S_ .f32 0xFF800000#32) reducesTo_S16x8x2176x2176_S16x8x2176_d3 reduces_last h_S_ (ix3 b h P)
  rw [hl] at hr
  have hc : ∀ i, (constant S_ .f32 0xFF800000#32 : FVec Ideal S_ .f32) i = (⊥ : EReal) := fun _ => neg_inf
  rw [hc] at hr
  have h2 : ∀ (A B : FVec Ideal S16x8x2176 .f32) (i : S16x8x2176.Idx), maximumf A B i = max (A i : EReal) (B i) := fun _ _ _ => rfl
  have h3 : ∀ i, (broadcastInDim S16x8x2176 ![] bcast_S_S16x8x2176 (constant S_ .f32 0xFF800000#32 : FVec Ideal S_ .f32)) i = (⊥ : EReal) := fun i => by
    pointwise []
    exact neg_inf
  rw [maxT, h2, h3, hr]
  rfl

theorem exp_at (W : FVec Ideal S16x8x2176x2176 .f32) (M : FVec Ideal S16x8x2176 .f32) (b : Fin 16) (h : Fin 8) (P p : Fin 2176) : expT W M (ix4 b h P p) = Ideal.exp ((W (ix4 b h P p) : EReal) - M (ix3 b h P)) := by
  pointwise [expT]

theorem sum_at (E : FVec Ideal S16x8x2176x2176 .f32) (b : Fin 16) (h : Fin 8) (P : Fin 2176) : sumT E (ix3 b h P) = ∑ p : Fin 2176, (E (ix4 b h P p) : EReal) := by
  pointwise [sumT]

theorem wt_at (E : FVec Ideal S16x8x2176x2176 .f32) (L : FVec Ideal S16x8x2176 .f32) (b : Fin 16) (h : Fin 8) (P p : Fin 2176) : wtT E L (ix4 b h P p) = Ideal.div (E (ix4 b h P p)) (L (ix3 b h P)) := by
  pointwise [wtT]

theorem out_raw (P : FVec Ideal S16x8x2176x2176 .f32) (Z : FVec Ideal S16x2176x8x128 .f32) (r : Fin 32768) (e : Fin 1024) : outT P Z (ix2 r e)
    = ∑ x : Fin 2176, (Z (ix4 ⟨r.val / 2048, by omega⟩ x ⟨e.val / 128, by omega⟩ ⟨e.val % 128, by omega⟩) : EReal) * P (ix4 ⟨r.val / 2048, by omega⟩ ⟨e.val / 128, by omega⟩ ⟨16 + r.val % 2048, by omega⟩ x) := by
  pointwise [outT]

/-- The reference's term over its three arrays. -/
def REF (X Y : FVec Ideal S16x2176x8x192 .f32) (Z : FVec Ideal S16x2176x8x128 .f32) : FVec Ideal S32768x1024 .bf16 :=
  outT (wtT (expT (scoreT X Y) (maxT (scoreT X Y))) (sumT (expT (scoreT X Y) (maxT (scoreT X Y))))) Z

/-- The reference's element is the plain attention of its query. -/
theorem ref_at (X Y : FVec Ideal S16x2176x8x192 .f32) (Z : FVec Ideal S16x2176x8x128 .f32) (hX : Reals X) (hY : Reals Y) (b : Fin 16) (j : Fin 2048) (h : Fin 8) (x : Fin 128) (r : Fin 32768) (e : Fin 1024)
    (hr : r.val = 2048 * b.val + j.val) (he : e.val = 128 * h.val + x.val) : REF X Y Z (ix2 r e) = att X Y Z b h (16 + j.val) x := by
  have a0 : r.val / 2048 = b.val := by clear he; omega
  have a1 : r.val % 2048 = j.val := by clear he; omega
  have a2 : e.val / 128 = h.val := by clear hr; omega
  have a3 : e.val % 128 = x.val := by clear hr; omega
  clear hr he
  have hP : 16 + j.val < 2176 := by omega
  have h0 := plain_softmax (fun p : Fin 2176 => scoreT X Y (ix4 b h ⟨16 + j.val, hP⟩ p)) (fun p => nat (dotp X Y b h (16 + j.val) p.val)) (fun p => p.val ≤ 16 + j.val)
    (fun p => score_at X Y hX hY b h ⟨16 + j.val, hP⟩ p) ⟨0, by omega⟩ (Nat.zero_le _) (fun p => Z (ix4 b p h x)) _ (max_at (scoreT X Y) b h ⟨16 + j.val, hP⟩)
  rw [REF, out_raw]
  refine Eq.trans (Finset.sum_congr rfl fun p _ => ?_) h0
  refine congrArg₂ (fun x y : EReal => x * y) (congrArg Z (ix4_ext a0 rfl a2 a3)) ?_
  rw [show (ix4 ⟨r.val / 2048, by omega⟩ ⟨e.val / 128, by omega⟩ ⟨16 + r.val % 2048, by omega⟩ p : S16x8x2176x2176.Idx) = ix4 b h ⟨16 + j.val, hP⟩ p from
    ix4_ext a0 a2 (congrArg (16 + ·) a1) rfl, wt_at, sum_at, zero_add]
  simp only [exp_at]

/-- The reference's run leaves this term. -/
theorem res_eq (m : (ℓ : Loc nD τ sig) → Buf (Elt Ideal) ℓ) (c : Dev nD) : Cert.ReferenceIdeal.Value.res_main_v28 m c
    = REF (m ((c.tc : Thread nD τ).loc main_arg0)) (m ((c.tc : Thread nD τ).loc main_arg1)) (m ((c.tc : Thread nD τ).loc main_arg2)) := by
  unfold Cert.ReferenceIdeal.Value.res_main_v28 REF outT wtT sumT expT maxT scoreT
  rfl

end Cert.Proof.MlaPlain

end
-- ==== Proof.Mla.Final.lean ====
/- The kernel's result array is the reference's term: one query's row of the kernel's state, chunk by chunk, whose
   quotient at the end is the plain causal attention; then the rows of every block. -/
module

public import proofs.«01_k».proof.Proof.Mla.StepValue
public import proofs.«01_k».proof.Proof.Mla.Target
public import proofs.«01_k».proof.Proof.Mla.Entry
public import proofs.«01_k».proof.Proof.Mla.Blocks
public import proofs.«01_k».proof.Proof.Mla.Plain

@[expose] public section

set_option maxRecDepth 16384

noncomputable section

namespace Cert.Proof.Mla

open Cert.KernelIdeal Cert.KernelIdeal.Gen
open Idealize.ShloMosaic Idealize.ShloMosaic.TcCoe
open Idealize.ShloMosaic.Pipeline (Dat)
open scoped BigOperators

/-- A key's and a query's padded rows multiplied: the score in base two. -/
theorem dot_block (X Y : FVec Ideal SQ .f32) (hX : Reals X) (hY : Reals Y) (b : Fin 16) (h : Fin 8) (P p : Fin 2176) (f g : Fin 256 → EReal)
    (hf : ∀ x : Fin 256, f x = if hx : x.val < 192 then Y (ix4 b p h ⟨x.val, hx⟩) else (0 : EReal))
    (hg : ∀ x : Fin 256, g x = if hx : x.val < 192 then Ideal.div (Ideal.div (X (ix4 b P h ⟨x.val, hx⟩)) ((Real.sqrt 192 : ℝ) : EReal)) ((Real.log 2 : ℝ) : EReal) else (0 : EReal)) :
    ∑ x, f x * g x = ((two (dotp X Y b h P.val p.val) : ℝ) : EReal) := by
  rw [sum_pad (fun x => f x * g x) (fun x => rd Y b h p.val x * (rd X b h P.val x / Real.sqrt 192 / Real.log 2)) (fun x => ?_) (fun x hx => ?_)]
  · refine congrArg _ ?_
    unfold two dotp
    rw [Finset.sum_div, Finset.sum_div]
    exact Finset.sum_congr rfl fun x _ => by ring
  · have hx : x.val < 192 := x.isLt
    rw [hf, hg, dif_pos hx, dif_pos hx, rd_eq X hX, rd_eq Y hY, div_real _ sqrt_ne, div_real _ log_ne, ← EReal.coe_mul]
  · rw [hf, dif_neg (by omega), zero_mul]

section

variable (x2 : Vec Ideal S256x2048 .bf16) (x3 : Vec Ideal S2304x2048 .bf16) (x4 : Vec Ideal S9x1024x256 .bf16) (x5 : Vec Ideal S4x256x256 .f32)
  (X Y : FVec Ideal SQ .f32) (Z : FVec Ideal SV .f32) (hX : Reals X) (hY : Reals Y) (b : Fin 16) (i : ℕ) (hi : i < 8) (h : Fin 8) (q : Fin 256)
  (H2 : ∀ x : Fin 256, (show EReal from x2 (ix2 q ⟨256 * h.val + x.val, by omega⟩))
    = if hx : x.val < 192 then Ideal.div (Ideal.div (X (ix4 b ⟨16 + (256 * i + q.val), by omega⟩ h ⟨x.val, hx⟩)) ((Real.sqrt 192 : ℝ) : EReal)) ((Real.log 2 : ℝ) : EReal) else (0 : EReal))
  (H3m : ∀ (k : Fin 16) (x : Fin 256), (show EReal from x3 (ix2 ⟨2048 + k.val, by omega⟩ ⟨256 * h.val + x.val, by omega⟩))
    = if hx : x.val < 192 then Y (ix4 b ⟨k.val, by omega⟩ h ⟨x.val, hx⟩) else (0 : EReal))
  (H3 : ∀ (j : Fin 2048) (x : Fin 256), (show EReal from x3 (ix2 ⟨j.val, by omega⟩ ⟨256 * h.val + x.val, by omega⟩))
    = if hx : x.val < 192 then Y (ix4 b ⟨16 + j.val, by omega⟩ h ⟨x.val, hx⟩) else (0 : EReal))
  (H4m : ∀ (k : Fin 16) (e : Fin 128), (show EReal from x4 (ix3 8 ⟨128 * h.val + e.val, by omega⟩ ⟨k.val, by omega⟩)) = Z (ix4 b ⟨k.val, by omega⟩ h e))
  (H4 : ∀ (d : Fin 8) (k : Fin 256) (e : Fin 128), (show EReal from x4 (ix3 ⟨d.val, by omega⟩ ⟨128 * h.val + e.val, by omega⟩ k)) = Z (ix4 b ⟨16 + (256 * d.val + k.val), by omega⟩ h e))
  (H5 : ∀ (d : Fin 4), d.val ≤ 2 → ∀ k : Fin 256, (show EReal from x5 (ix3 d k q)) = if (d.val = 0 → k.val < 16) ∧ (d.val = 2 → k.val ≤ q.val) then (0 : EReal) else ⊥)

include hX hY H2 H3m H5 in
/-- The first chunk's scores: the meta tokens'. -/
theorem sc_first (k : Fin 256) : (show EReal from sc x2 x3 x5 i 0 h (ix4 0 0 k q))
    = if k.val < 16 then ((two (dotp X Y b h (16 + (256 * i + q.val)) k.val) : ℝ) : EReal) else ⊥ := by
  refine (sc_at x2 x3 x5 i 0 h k q).trans ?_
  have hk : kind i 0 = 0 := rfl
  rw [hk, H5 0 (by norm_num) k]
  by_cases h16 : k.val < 16
  · rw [if_pos h16, if_pos ⟨fun _ => h16, fun hh => absurd hh (by norm_num)⟩, add_zero]
    exact dot_block X Y hX hY b h ⟨16 + (256 * i + q.val), by omega⟩ ⟨k.val, by omega⟩ _ _ (fun x => H3m ⟨k.val, h16⟩ x) H2
  · rw [if_neg h16, if_neg (fun hh => h16 (hh.1 rfl)), EReal.add_bot]

include hi hX hY H2 H3 H5 in
/-- A later chunk's. -/
theorem sc_next (n : ℕ) (hn : n < i + 1) (k : Fin 256) : (show EReal from sc x2 x3 x5 i (n + 1) h (ix4 0 0 k q))
    = if 16 + 256 * n + k.val ≤ 16 + (256 * i + q.val) then ((two (dotp X Y b h (16 + (256 * i + q.val)) (16 + 256 * n + k.val)) : ℝ) : EReal) else ⊥ := by
  refine (sc_at x2 x3 x5 i (n + 1) h k q).trans ?_
  have hc : (chunk (n + 1)).val = n := by
    show n % 9 = n
    exact Nat.mod_eq_of_lt (by omega)
  have hk : kind i (n + 1) = if n = i then 2 else 1 := rfl
  have hv : (16 + 256 * n + k.val ≤ 16 + (256 * i + q.val)) ↔ ((kind i (n + 1)).val = 0 → k.val < 16) ∧ ((kind i (n + 1)).val = 2 → k.val ≤ q.val) := by
    rw [hk]
    by_cases hni : n = i
    · rw [if_pos hni, hni]
      exact ⟨fun hh => ⟨fun h0 => absurd h0 (by norm_num), fun _ => by omega⟩, fun hh => by have := hh.2 rfl; omega⟩
    · rw [if_neg hni]
      exact ⟨fun hh => ⟨fun h0 => absurd h0 (by norm_num), fun h0 => absurd h0 (by norm_num)⟩, fun _ => by omega⟩
  rw [H5 (kind i (n + 1)) (by rw [hk]; split_ifs <;> norm_num) k]
  by_cases hvis : 16 + 256 * n + k.val ≤ 16 + (256 * i + q.val)
  · rw [if_pos hvis, if_pos (hv.1 hvis), add_zero]
    refine (dot_block X Y hX hY b h ⟨16 + (256 * i + q.val), by omega⟩ ⟨16 + 256 * n + k.val, by omega⟩ _ _ (fun x => ?_) H2)
    have e1 : (⟨256 * (chunk (n + 1)).val + k.val, by omega⟩ : Fin 2304) = ⟨256 * n + k.val, by omega⟩ := Fin.ext (congrArg (fun z => 256 * z + k.val) hc)
    have e2 : (⟨16 + 256 * n + k.val, by omega⟩ : Fin 2176) = ⟨16 + (256 * n + k.val), by omega⟩ := Fin.ext (by show 16 + 256 * n + k.val = 16 + (256 * n + k.val); omega)
    rw [e1, e2]
    exact H3 ⟨256 * n + k.val, by omega⟩ x
  · rw [if_neg hvis, if_neg (fun hh => hvis (hv.2 hh)), EReal.add_bot]

include hi hX hY H2 H3m H3 H4m H4 H5 in
/-- The row's result. -/
theorem row_out (e : Fin 128) : (show EReal from (SN x2 x3 x4 x5 i (i + 2) h).out (ix2 q e)) = att X Y Z b h (16 + (256 * i + q.val)) e := by
  obtain ⟨s1, s2, s3⟩ := st0_at q
  have hq := q.isLt
  have hN : 16 + 256 * (i + 1) ≤ 2176 := by omega
  have hP : 16 + (256 * i + q.val) = 16 + 256 * i + q.val := by omega
  have hc := chain i q.val hq (dotp X Y b h (16 + (256 * i + q.val))) (fun e p => if hp : p < 2176 then Z (ix4 b ⟨p, hp⟩ h e) else (0 : EReal))
    (fun n => (SN x2 x3 x4 x5 i n h).m (ix2 0 q)) (fun n => (SN x2 x3 x4 x5 i n h).l (ix2 0 q)) (fun n e => (SN x2 x3 x4 x5 i n h).a (ix3 0 e q))
    (fun n k => sc x2 x3 x5 i n h (ix4 0 0 k q)) (fun n e k => vch x4 (chunk n) h (ix3 0 e k))
    s1 s2 s3 (fun n => step_m _ _ _ q) (fun n => step_l _ _ _ q) (fun n e => step_a _ _ _ e q)
    (fun k => sc_first x2 x3 x5 X Y hX hY b i hi h q H2 H3m H5 k)
    (fun n hn k => by rw [← hP]; exact sc_next x2 x3 x5 X Y hX hY b i hi h q H2 H3 H5 n hn k)
    (fun e k hk => by
      rw [dif_pos (by omega)]
      exact (vch_at x4 8 h e k).trans (H4m ⟨k.val, hk⟩ e))
    (fun n hn e k => by
      rw [dif_pos (by omega)]
      have hch : chunk (n + 1) = ⟨n, by omega⟩ := Fin.ext (Nat.mod_eq_of_lt (by omega))
      refine (vch_at x4 (chunk (n + 1)) h e k).trans ?_
      rw [hch]
      refine (H4 ⟨n, by omega⟩ k e).trans (congrArg Z (ix4_ext rfl ?_ rfl rfl))
      show 16 + (256 * n + k.val) = 16 + 256 * n + k.val
      omega) e
  rw [← hP] at hc
  have hz : ∀ p, 16 + 256 * (i + 1) ≤ p → wt (dotp X Y b h (16 + (256 * i + q.val))) (16 + (256 * i + q.val)) p = 0 := fun p hp => if_neg (by omega)
  rw [sum_all _ _ 2176 hN (fun p hp => by rw [hz p hp, EReal.coe_zero, zero_mul]), sum_all _ _ 2176 hN hz] at hc
  refine ((out_at _ q e).trans hc).trans ?_
  unfold att
  refine congrArg (· * _) (Finset.sum_congr rfl fun p _ => ?_)
  rw [dif_pos p.isLt]

end

theorem piece_eq (x2 : Vec Ideal S256x2048 .bf16) (x3 : Vec Ideal S2304x2048 .bf16) (x4 : Vec Ideal S9x1024x256 .bf16) (x5 : Vec Ideal S4x256x256 .f32) (i : ℕ)
    (k hd : Fin 8) (q : Fin 256) (e : Fin 128) (x : S256x128.Idx) (K : ℕ) (hK : k.val = K) (h0 : (x 0).val = q.val) (x1 : (x 1).val < 128) (h1 : 128 * hd.val + e.val = 128 * K + (x 1).val) :
    (SN x2 x3 x4 x5 i (i + 2) k).out x = (SN x2 x3 x4 x5 i (i + 2) hd).out (ix2 q e) := by
  have hk : k = hd := Fin.ext (by omega)
  have hx : x = ix2 q e := by
    rw [eq_ix2 x]
    exact congrArg₂ ix2 (Fin.ext h0) (Fin.ext (by show (x 1).val = e.val; omega))
  rw [hk, hx]

/-- The output block at a head's column. -/
theorem out_blk_at (x2 : Vec Ideal S256x2048 .bf16) (x3 : Vec Ideal S2304x2048 .bf16) (x4 : Vec Ideal S9x1024x256 .bf16) (x5 : Vec Ideal S4x256x256 .f32) (i : ℕ)
    (y : S256x1024.Idx) (hd : Fin 8) (q : Fin 256) (e : Fin 128) (hq : (y 0).val = q.val) (he : (y 1).val = 128 * hd.val + e.val) :
    outBlk x2 x3 x4 x5 i y = (SN x2 x3 x4 x5 i (i + 2) hd).out (ix2 q e) := by
  unfold outBlk
  canon_tiles x h
  case piece0 => exact piece_eq _ _ _ _ _ _ _ _ _ _ 7 rfl (h0.symm.trans hq) x1_lt (he.symm.trans (h1.trans (by omega)))
  case piece1 => exact piece_eq _ _ _ _ _ _ _ _ _ _ 6 rfl (h0.symm.trans hq) x1_lt (he.symm.trans (h1.trans (by omega)))
  case piece2 => exact piece_eq _ _ _ _ _ _ _ _ _ _ 5 rfl (h0.symm.trans hq) x1_lt (he.symm.trans (h1.trans (by omega)))
  case piece3 => exact piece_eq _ _ _ _ _ _ _ _ _ _ 4 rfl (h0.symm.trans hq) x1_lt (he.symm.trans (h1.trans (by omega)))
  case piece4 => exact piece_eq _ _ _ _ _ _ _ _ _ _ 3 rfl (h0.symm.trans hq) x1_lt (he.symm.trans (h1.trans (by omega)))
  case piece5 => exact piece_eq _ _ _ _ _ _ _ _ _ _ 2 rfl (h0.symm.trans hq) x1_lt (he.symm.trans (h1.trans (by omega)))
  case piece6 => exact piece_eq _ _ _ _ _ _ _ _ _ _ 1 rfl (h0.symm.trans hq) x1_lt (he.symm.trans (h1.trans (by omega)))
  case piece7 => exact piece_eq _ _ _ _ _ _ _ _ _ _ 0 rfl (h0.symm.trans hq) x1_lt (he.symm.trans (h1.trans (by omega)))

variable (m : (ℓ : Loc nD τ sig) → Buf (Elt Ideal) ℓ)

/-- The arguments, -/
abbrev argQ (c : Dev nD) : FVec Ideal SQ .f32 := m ((c : Thread nD τ).loc main_arg0)
abbrev argK (c : Dev nD) : FVec Ideal SQ .f32 := m ((c : Thread nD τ).loc main_arg1)
abbrev argV (c : Dev nD) : FVec Ideal SV .f32 := m ((c : Thread nD τ).loc main_arg2)

/-- and what a grid point leaves in its output block. -/
theorem point (c : Dev nD) (hX : Reals (argQ m c)) (hY : Reals (argK m c)) (t : Fin cfg0.N) (y : S256x1024.Idx) (b : Fin 16) (i : ℕ) (hi : i < 8)
    (hb : b.val = (grid0.coords t 0).val) (hit : i = (grid0.coords t 1).val) (hd : Fin 8) (q : Fin 256) (e : Fin 128) (hq : (y 0).val = q.val) (he : (y 1).val = 128 * hd.val + e.val) :
    (show EReal from outBlk (iblk m c 0 t) (iblk m c 1 t) (iblk m c 2 t) (iblk m c 3 t) i y) = att (argQ m c) (argK m c) (argV m c) b hd (16 + (256 * i + q.val)) e := by
  refine (out_blk_at _ _ _ _ i y hd q e hq he).trans ?_
  refine row_out _ _ _ _ (argQ m c) (argK m c) (argV m c) hX hY b i hi hd q (fun x => ?_) (fun k x => ?_) (fun j x => ?_) (fun k e => ?_) (fun d k e => ?_) (fun d hd' k => ?_) e
  · exact (blk_q m c t q _ ⟨2304 * b.val + (256 * i + q.val), by omega⟩ (by show 2304 * b.val + (256 * i + q.val) = _; rw [hit, hb]; omega)).trans
      (entry_q m c b ⟨256 * i + q.val, by omega⟩ hd x _ _ rfl rfl)
  · exact (blk_k m c t _ _ ⟨2304 * b.val + (2048 + k.val), by omega⟩ (by show 2304 * b.val + (2048 + k.val) = _ * 2304 + (2048 + k.val); rw [hb]; omega)).trans
      (entry_k_meta m c b k hd x _ _ rfl rfl)
  · exact (blk_k m c t _ _ ⟨2304 * b.val + j.val, by omega⟩ (by show 2304 * b.val + j.val = _ * 2304 + j.val; rw [hb]; omega)).trans
      (entry_k m c b j hd x _ _ rfl rfl)
  · exact (blk_v m c t 8 _ _ ⟨9 * b.val + 8, by omega⟩ (by show 9 * b.val + 8 = _ * 9 + 8; rw [hb]; omega)).trans
      (entry_v_meta m c b k hd e _ _ _ (by show (9 * b.val + 8) * 256 + k.val = 2304 * b.val + (2048 + k.val); omega) rfl)
  · exact (blk_v m c t ⟨d.val, by omega⟩ _ _ ⟨9 * b.val + d.val, by omega⟩ (by show 9 * b.val + d.val = _ * 9 + d.val; rw [hb]; omega)).trans
      (entry_v m c b ⟨256 * d.val + k.val, by omega⟩ hd e _ _ _ (by show (9 * b.val + d.val) * 256 + k.val = 2304 * b.val + (256 * d.val + k.val); omega) rfl)
  · exact (blk_bias m c t d k q).trans (entry_bias m c d hd' k q)

/-- The result array after the run. -/
theorem final (c : Dev nD) (hX : Reals (argQ m c)) (hY : Reals (argK m c)) :
    (dats m 0 c).arrAt 4 (cfgs 0).N = MlaPlain.REF (argQ m c) (argK m c) (argV m c) := by
  refine (dats m 0 c).arrAt_eq_of_covers 4 _ (by decide +kernel) fun t _ y => ?_
  blk_simp
  rw [after0_4]
  have hb := (idx t).2.2.2.2.2.1
  have hi := (idx t).2.2.2.2.2.2
  have h0 : (y 0).val < 256 := (y 0).isLt
  have h1 : (y 1).val < 1024 := (y 1).isLt
  refine (point m c hX hY t y ⟨(grid0.coords t 0).val, hb⟩ _ hi rfl rfl ⟨(y 1).val / 128, by omega⟩ ⟨(y 0).val, h0⟩ ⟨(y 1).val % 128, by omega⟩ rfl (Nat.div_add_mod _ 128).symm).trans ?_
  refine Eq.trans (MlaPlain.ref_at (argQ m c) (argK m c) (argV m c) hX hY ⟨(grid0.coords t 0).val, hb⟩ ⟨256 * (grid0.coords t 1).val + (y 0).val, by omega⟩ ⟨(y 1).val / 128, by omega⟩ ⟨(y 1).val % 128, by omega⟩
    ⟨2048 * (grid0.coords t 0).val + (256 * (grid0.coords t 1).val + (y 0).val), by omega⟩ ⟨(y 1).val, h1⟩ rfl (Nat.div_add_mod _ 128).symm).symm ?_
  refine congrArg (MlaPlain.REF (argQ m c) (argK m c) (argV m c)) ?_
  blk_ext [idx t]

end Cert.Proof.Mla

end
-- ==== Proof.Mla.Finite.lean ====
/- The precondition: every element of the queries and of the keys is a real number. -/
module

public import proofs.«01_k».proof.Pre_finite_queries_keys
public import proofs.«01_k».proof.Proof.Mla.Target
public import Idealize.ShloMosaic.Lib.Affine
public import Idealize.ShloMosaic.Lib.ReduceAll
public import Idealize.ShloMosaic.Lib.Decide

@[expose] public section

set_option maxRecDepth 16384

noncomputable section

namespace Cert.Proof.Mla

open Idealize.ShloMosaic

/-- The shape facts of the precondition. -/
instance preFacts : Cert.Pre_finite_queries_keys.Facts where
  bcast_S_S16x2176x8x192 := by decide
  reducesTo_S16x2176x8x192_S_d0_1_2_3 := by decide
  h_S_ := by decide

theorem pos_inf : Ideal.ofBits .f32 0x7F800000#32 = (⊤ : EReal) := by
  simp [Ideal.ofBits, Ideal.ieee]

/-- What has absolute value below infinity is real. -/
theorem real_of_abs (x : EReal) (h : max x (-x) < ⊤) : x = ((EReal.toReal x : ℝ) : EReal) := by
  refine (EReal.coe_toReal (fun ht => ?_) (fun hb => ?_)).symm
  · rw [ht] at h; exact absurd h (by simp)
  · rw [hb] at h; exact absurd h (by simp)

open Cert.Pre_finite_queries_keys in
theorem reals_of (X : FVec Ideal SQ .f32)
    (h : Host.reduce IntOp.andi (cmpf .olt (Host.absf X) (broadcastInDim S16x2176x8x192 ![] Facts.bcast_S_S16x2176x8x192 (constant S_ .f32 0x7F800000#32))) (constantI S_ 1 1#1) Facts.reducesTo_S16x2176x8x192_S_d0_1_2_3 Facts.h_S_ (fun a => a.elim0) = 1#1) :
    Reals X := by
  intro i
  haveI : Subsingleton S_.Idx := ⟨fun a b => funext fun k => k.elim0⟩
  have hi := Host.reduce_andi_all _ _ _ _ _ h i
  refine real_of_abs _ ?_
  have hc : Ideal.cmp .olt (max (X i) (-(X i)) : EReal) (Ideal.ofBits .f32 0x7F800000#32) = 1#1 := hi
  rw [pos_inf] at hc
  unfold Ideal.cmp at hc
  by_contra hn
  simp [hn] at hc

open Cert.Pre_finite_queries_keys in
/-- The precondition gives both. -/
theorem reals_of_pre (X Y : FVec Ideal SQ .f32) (Z : FVec Ideal SV .f32) (h : fn (F := Ideal) X Y Z = fun _ => 1#1) : Reals X ∧ Reals Y := by
  have h' := (IntOp.andi_eq_one ..).1 (congrFun h (fun a => a.elim0))
  exact ⟨reals_of X h'.1, reals_of Y h'.2⟩

end Cert.Proof.Mla

end
-- ==== Proof.Mla.FrameOnlyBits.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384
set_option maxHeartbeats 4000000

noncomputable section

namespace Cert.Proof.MlaBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_kernel (c : Dev nD) (E : Set ℕ) (i : grid0.Coords) (arg2 : Memref sig .tc .vmem S256x2048 .bf16) (harg2 : arg2.IsWhole) (arg3 : Memref sig .tc .vmem S2304x2048 .bf16) (harg3 : arg3.IsWhole) (arg4 : Memref sig .tc .vmem S9x1024x256 .bf16) (harg4 : arg4.IsWhole) (arg5 : Memref sig .tc .vmem S4x256x256 .f32) (harg5 : arg5.IsWhole) (arg6 : Memref sig .tc .vmem S256x1024 .bf16) (harg6 : arg6.IsWhole) (arg7 : Memref sig .tc .vmem S8x128x256 .f32) (harg7 : arg7.IsWhole) (arg8 : Memref sig .tc .vmem S2x8x256x256 .f32) (harg8 : arg8.IsWhole)
    (X2 : BufTy.Contents (Elt F) arg2.view.ty) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty)
    (K : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
       ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
       ∗ (∃ g, arg6.view.loc (c : Thread nD τ) ↦[arg6.view.set]{fullShare} g) ∗ (∃ g, arg7.view.loc (c : Thread nD τ) ↦[arg7.view.set]{fullShare} g) ∗ (∃ g, arg8.view.loc (c : Thread nD τ) ↦[arg8.view.set]{fullShare} g)) -∗ K ⟨⟩))
      ⊢ wp frame (wpE (defs₀ (F := F)) Variants.none c none) E (cc0_attn_mla i arg2 harg2 arg3 harg3 arg4 harg4 arg5 harg5 arg6 harg6 arg7 harg7 arg8 harg8) K := by
  simp only [cc0_attn_mla_eq_skeleton]; unfold cc0_attn_mla_skel
  iintro ⟨H2, H3, H4, H5, H6, H7, H8, Hk⟩
  by_cases hodd : k0_cond1 i = 1#1
  · sl_exec
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · sl_exec
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

/-- Holding a whole scratch buffer is holding its whole view. -/
theorem scr_eq (c : Dev nD) (b : Ref sig .tc) (f : Buf (Elt F) ((c : Thread nD τ).loc b)) :
    (iprop((Memref.whole b).view.loc (c : Thread nD τ) ↦[(Memref.whole b).view.set]{fullShare} f) : sProp 𝕄)
      = iprop(((c : Thread nD τ).loc b) ↦{fullShare} f) := by
  have h : (Memref.whole b).view.set = Finset.univ := by rw [Memref.view_whole, View.set_whole]
  rw [h]

theorem scr_in (c : Dev nD) (b : Ref sig .tc) (f : Buf (Elt F) ((c : Thread nD τ).loc b)) :
    (iprop(((c : Thread nD τ).loc b) ↦{fullShare} f) : sProp 𝕄)
      ⊢ iprop((Memref.whole b).view.loc (c : Thread nD τ) ↦[(Memref.whole b).view.set]{fullShare} f) := by
  rw [scr_eq]

theorem scr_out (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  iintro ⟨%f, H⟩
  iexists f
  rw [← scr_eq]; iexact H

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl]
  unfold Pipeline.ΦA
  rw [scopedRest0_eq]
  unfold owns
  iintro ⟨⟨⟨⟨%g7, S7⟩, ⟨%g8, S8⟩⟩, Hρ⟩, Ho, ⟨%d0, %f0, %hf0, H0⟩, ⟨%d1, %f1, %hf1, H1⟩, ⟨%d2, %f2, %hf2, H2⟩, ⟨%d3, %f3, %hf3, H3⟩, ⟨%X4, %f4, %hf4, H4⟩⟩
  iapply (sound_kernel c Set.univ _ _ _ _ _ _ _ _ _ _ _ _ _ _ _ f0 f1 f2 f3 f4 g7 g8 _)
  isplitl [H0]; · iexact H0
  isplitl [H1]; · iexact H1
  isplitl [H2]; · iexact H2
  isplitl [H3]; · iexact H3
  isplitl [H4]; · iexact H4
  isplitl [S7]
  · iapply (scr_in c cc0_scratch0 g7); iexact S7
  isplitl [S8]
  · iapply (scr_in c cc0_scratch1 g8); iexact S8
  iintro ⟨H0, H1, H2, H3, ⟨%f6, H4⟩, S7, S8⟩
  isplitl [S7 S8 Hρ]
  · isplitl [S7 S8]
    · isplitl [S7]
      · iapply (scr_out c cc0_scratch0); iexact S7
      · iapply (scr_out c cc0_scratch1); iexact S8
    · iexact Hρ
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; iexists f6; isplitr; · ipureintro; rfl
  iexact H4

theorem defs₀_row (t : Fin cfg0.N) :
    defs₀ (F := F) .tc cfg0.body (cfg0.bodyArgs t (cfg0.slots t)) = bodyAt0 t := by
  unfold defs₀; rw [Defs.onTc_tc]

/-- The output window is not described. -/
def fgt : Fin cfg0.W → Bool := ![false, false, false, false, true]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every run ends, with every argument array as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Proof.MlaBits

end
-- ==== Proof.Mla.Reference.lean ====
module

public import proofs.«01_k».proof.Proof.Gen.ReferenceIdeal.Run
public import Idealize.ShloMosaic.Adequacy
public import Idealize.ShloMosaic.Lib.Quiescent
public import Idealize.ShloMosaic.Init

@[expose] public section

noncomputable section

namespace Cert.Proof.MlaRef

open Cert.ReferenceIdeal
open Idealize.ShloMosaic Idealize.ShloMosaic.TcCoe Idealize.SL.Sem

variable {F : FTy → Type} [FloatOps F]

/-- The reference's frame: its arguments end as they were and no semaphore counts. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  exact (θ_run defs _ _).mono (fun r h => ⟨fun c => (h c).2, sem_eq_zero_of_no_sems (by decide) _⟩) (Cert.ReferenceIdeal.Value.run m ρ)

end Cert.Proof.MlaRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Ffn.Plain
public import proofs.«01_k».proof.Proof.Inproj.Plain
public import proofs.«01_k».proof.Proof.Inproj16.Plain
public import proofs.«01_k».proof.Proof.Merge.Plain
public import proofs.«01_k».proof.Proof.Mla.Final
public import proofs.«01_k».proof.Proof.Mla.Finite
public import proofs.«01_k».proof.Proof.Mla.FrameOnlyBits
public import proofs.«01_k».proof.Proof.Mla.Reference
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The kernel's result is the plain attention's. -/
theorem algebraic : Cert.algebraic_KernelIdeal_ReferenceIdeal_pre_finite_queries_keys (hPre_finite_queries_keys := Mla.preFacts) := by
  pair_intro
  · run_from Mla.run_main m g & Mla.unchanged m g
  · run_from Cert.ReferenceIdeal.Value.run m' g'
    have hr := Mla.reals_of_pre _ _ _ (hpre c)
    refine Eq.trans ?_ (Mla.final m c hr.1 hr.2).symm
    rw [MlaPlain.res_eq, (hagree c).1, (hagree c).2.1, (hagree c).2.2]

/-- The feed-forward call's result is the plain feed-forward part's. -/
theorem algebraic2 : Cert.algebraic_Kernel2Ideal_Reference2Ideal := by
  pair_intro
  · run_from Cert.Kernel2Ideal.Value.run_blocks m g
  · run_from Cert.Reference2Ideal.Value.run m' g'
    refine Eq.trans ?_ (Ffn.final m c).symm
    exact FfnPlain.left _ _ _ _

/-- The first input projection call's result is the plain projection's columns, in the call's order. -/
theorem algebraic3 : Cert.algebraic_Kernel3Ideal_Reference3Ideal := by
  pair_intro
  · run_from Cert.Kernel3Ideal.Value.run_blocks m g
  · run_from Cert.Reference3Ideal.Value.run m' g'
    refine Eq.trans ?_ (Inproj.final m c).symm
    refine (InprojPlain.left m' c).trans ?_
    rw [(hagree c).1, (hagree c).2.1, (hagree c).2.2]

/-- The second input projection call's result is the plain projection's other columns. -/
theorem algebraic4 : Cert.algebraic_Kernel4Ideal_Reference4Ideal := by
  pair_intro
  · run_from Cert.Kernel4Ideal.Value.run_blocks m g
  · run_from Cert.Reference4Ideal.Value.run m' g'
    refine Eq.trans ?_ (Inproj16.final m c).symm
    refine (Inproj16Plain.left _ _ _).trans ?_
    rw [(hagree c).2.2]

/-- The merge call's result is the plain merge's. -/
theorem algebraic5 : Cert.algebraic_Kernel5Ideal_Reference5Ideal := by
  pair_intro
  · run_from Cert.Kernel5Ideal.Value.run_blocks m g
  · run_from Cert.Reference5Ideal.Value.run m' g'
    refine Eq.trans ?_ (Merge.final m c).symm
    exact MergePlain.left _ _ _ _ _ _ _ _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Mla.preFacts,
  fun m ρ _ => MlaBits.frame m ρ, fun m ρ _ => Mla.frame m ρ, fun m ρ _ => Mla.frame m ρ, fun m ρ _ => MlaRef.frame m ρ, fun m ρ _ => MlaRef.frame m ρ,
  fun m ρ _ => Cert.Kernel2.Gen.frame m ρ, fun m ρ _ => Cert.Kernel2Ideal.Gen.frame m ρ, fun m ρ _ => FfnPlain.frame m ρ,
  fun m ρ _ => Cert.Kernel3.Gen.frame m ρ, fun m ρ _ => Cert.Kernel3Ideal.Gen.frame m ρ, fun m ρ _ => InprojPlain.frame m ρ,
  fun m ρ _ => Cert.Kernel4.Gen.frame m ρ, fun m ρ _ => Cert.Kernel4Ideal.Gen.frame m ρ, fun m ρ _ => Inproj16Plain.frame m ρ,
  fun m ρ _ => Cert.Kernel5.Gen.frame m ρ, fun m ρ _ => Cert.Kernel5Ideal.Gen.frame m ρ, fun m ρ _ => MergePlain.frame m ρ,
  IdealRules.named_const.statement Cert.KernelIdeal.κ "mask" .f32 0xF149F2CA#32 ⊥ rfl, algebraic, trivial, algebraic2,
  trivial, algebraic3, trivial, algebraic4, trivial, algebraic5⟩

end Cert.Proof

end
